-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_PackEven (m : (ℓ : Loc Cert.PackEven.nD Cert.PackEven.τ Cert.PackEven.sig) → Buf (Elt Bits) ℓ) : Prop :=
  True

def Pre_PackEvenIdeal (m : (ℓ : Loc Cert.PackEvenIdeal.nD Cert.PackEvenIdeal.τ Cert.PackEvenIdeal.sig) → Buf (Elt Ideal) ℓ) : Prop :=
  True

def Pre_PackEvenReferenceIdeal (m : (ℓ : Loc Cert.PackEvenReferenceIdeal.nD Cert.PackEvenReferenceIdeal.τ Cert.PackEvenReferenceIdeal.sig) → Buf (Elt Ideal) ℓ) : Prop :=
  True

def Pre_PackOdd (m : (ℓ : Loc Cert.PackOdd.nD Cert.PackOdd.τ Cert.PackOdd.sig) → Buf (Elt Bits) ℓ) : Prop :=
  True

def Pre_PackOddIdeal (m : (ℓ : Loc Cert.PackOddIdeal.nD Cert.PackOddIdeal.τ Cert.PackOddIdeal.sig) → Buf (Elt Ideal) ℓ) : Prop :=
  True

def Pre_PackOddReferenceIdeal (m : (ℓ : Loc Cert.PackOddReferenceIdeal.nD Cert.PackOddReferenceIdeal.τ Cert.PackOddReferenceIdeal.sig) → Buf (Elt Ideal) ℓ) : Prop :=
  True

def Pre_InEven (m : (ℓ : Loc Cert.InEven.nD Cert.InEven.τ Cert.InEven.sig) → Buf (Elt Bits) ℓ) : Prop :=
  True

def Pre_InEvenIdeal (m : (ℓ : Loc Cert.InEvenIdeal.nD Cert.InEvenIdeal.τ Cert.InEvenIdeal.sig) → Buf (Elt Ideal) ℓ) : Prop :=
  True

def Pre_InEvenReferenceIdeal (m : (ℓ : Loc Cert.InEvenReferenceIdeal.nD Cert.InEvenReferenceIdeal.τ Cert.InEvenReferenceIdeal.sig) → Buf (Elt Ideal) ℓ) : Prop :=
  True

def Pre_InOdd (m : (ℓ : Loc Cert.InOdd.nD Cert.InOdd.τ Cert.InOdd.sig) → Buf (Elt Bits) ℓ) : Prop :=
  True

def Pre_InOddIdeal (m : (ℓ : Loc Cert.InOddIdeal.nD Cert.InOddIdeal.τ Cert.InOddIdeal.sig) → Buf (Elt Ideal) ℓ) : Prop :=
  True

def Pre_InOddReferenceIdeal (m : (ℓ : Loc Cert.InOddReferenceIdeal.nD Cert.InOddReferenceIdeal.τ Cert.InOddReferenceIdeal.sig) → Buf (Elt Ideal) ℓ) : Prop :=
  True

def Pre_SmallEven (m : (ℓ : Loc Cert.SmallEven.nD Cert.SmallEven.τ Cert.SmallEven.sig) → Buf (Elt Bits) ℓ) : Prop :=
  True

def Pre_SmallEvenIdeal (m : (ℓ : Loc Cert.SmallEvenIdeal.nD Cert.SmallEvenIdeal.τ Cert.SmallEvenIdeal.sig) → Buf (Elt Ideal) ℓ) : Prop :=
  True

def Pre_SmallEvenReferenceIdeal (m : (ℓ : Loc Cert.SmallEvenReferenceIdeal.nD Cert.SmallEvenReferenceIdeal.τ Cert.SmallEvenReferenceIdeal.sig) → Buf (Elt Ideal) ℓ) : Prop :=
  True

def Pre_SmallOdd (m : (ℓ : Loc Cert.SmallOdd.nD Cert.SmallOdd.τ Cert.SmallOdd.sig) → Buf (Elt Bits) ℓ) : Prop :=
  True

def Pre_SmallOddIdeal (m : (ℓ : Loc Cert.SmallOddIdeal.nD Cert.SmallOddIdeal.τ Cert.SmallOddIdeal.sig) → Buf (Elt Ideal) ℓ) : Prop :=
  True

def Pre_SmallOddReferenceIdeal (m : (ℓ : Loc Cert.SmallOddReferenceIdeal.nD Cert.SmallOddReferenceIdeal.τ Cert.SmallOddReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Experts [hPre_experts_in_range : Cert.Pre_experts_in_range.Facts] (m : (ℓ : Loc Cert.Experts.nD Cert.Experts.τ Cert.Experts.sig) → Buf (Elt Bits) ℓ) : Prop :=
  ∀ c : Dev Cert.Experts.nD,
    (Cert.Pre_experts_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3))) = (fun _ => 1#1)

def Pre_ExpertsIdeal [hPre_experts_in_range : Cert.Pre_experts_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_experts_in_range [hPre_experts_in_range : Cert.Pre_experts_in_range.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_experts_in_range.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_PackEven [hPackEven : Cert.PackEven.Facts] : Prop :=
  ∀ (m : (ℓ : Loc Cert.PackEven.nD Cert.PackEven.τ Cert.PackEven.sig) → Buf (Elt Bits) ℓ) (g : Dev Cert.PackEven.nD → PrngReg), Pre_PackEven m →
    θ_run (Cert.PackEven.defs (F := Bits)) (onTc (τ := Cert.PackEven.τ) (Cert.PackEven.main (F := Bits))) ⟨m, fun _ => 0, g⟩ (fun r => (∀ c : Dev Cert.PackEven.nD,
      r.2.mem ((c.tc : Thread Cert.PackEven.nD Cert.PackEven.τ).loc Cert.PackEven.main_arg0) = m ((c.tc : Thread Cert.PackEven.nD Cert.PackEven.τ).loc Cert.PackEven.main_arg0))
      ∧ r.2.sem = fun _ => 0)

def quiescent_PackEvenIdeal [hPackEvenIdeal : Cert.PackEvenIdeal.Facts] : Prop :=
  ∀ (m : (ℓ : Loc Cert.PackEvenIdeal.nD Cert.PackEvenIdeal.τ Cert.PackEvenIdeal.sig) → Buf (Elt Ideal) ℓ) (g : Dev Cert.PackEvenIdeal.nD → PrngReg), Pre_PackEvenIdeal m →
    θ_run (Cert.PackEvenIdeal.defs (F := Ideal)) (onTc (τ := Cert.PackEvenIdeal.τ) (Cert.PackEvenIdeal.main (F := Ideal))) ⟨m, fun _ => 0, g⟩ (fun r => (∀ c : Dev Cert.PackEvenIdeal.nD,
      r.2.mem ((c.tc : Thread Cert.PackEvenIdeal.nD Cert.PackEvenIdeal.τ).loc Cert.PackEvenIdeal.main_arg0) = m ((c.tc : Thread Cert.PackEvenIdeal.nD Cert.PackEvenIdeal.τ).loc Cert.PackEvenIdeal.main_arg0))
      ∧ r.2.sem = fun _ => 0)

def quiescent_PackEvenReferenceIdeal [hPackEvenReferenceIdeal : Cert.PackEvenReferenceIdeal.Facts] : Prop :=
  ∀ (m : (ℓ : Loc Cert.PackEvenReferenceIdeal.nD Cert.PackEvenReferenceIdeal.τ Cert.PackEvenReferenceIdeal.sig) → Buf (Elt Ideal) ℓ) (g : Dev Cert.PackEvenReferenceIdeal.nD → PrngReg), Pre_PackEvenReferenceIdeal m →
    θ_run (Cert.PackEvenReferenceIdeal.defs (F := Ideal)) (onTc (τ := Cert.PackEvenReferenceIdeal.τ) (Cert.PackEvenReferenceIdeal.main (F := Ideal))) ⟨m, fun _ => 0, g⟩ (fun r => (∀ c : Dev Cert.PackEvenReferenceIdeal.nD,
      r.2.mem ((c.tc : Thread Cert.PackEvenReferenceIdeal.nD Cert.PackEvenReferenceIdeal.τ).loc Cert.PackEvenReferenceIdeal.main_arg0) = m ((c.tc : Thread Cert.PackEvenReferenceIdeal.nD Cert.PackEvenReferenceIdeal.τ).loc Cert.PackEvenReferenceIdeal.main_arg0))
      ∧ r.2.sem = fun _ => 0)

def quiescent_PackOdd [hPackOdd : Cert.PackOdd.Facts] : Prop :=
  ∀ (m : (ℓ : Loc Cert.PackOdd.nD Cert.PackOdd.τ Cert.PackOdd.sig) → Buf (Elt Bits) ℓ) (g : Dev Cert.PackOdd.nD → PrngReg), Pre_PackOdd m →
    θ_run (Cert.PackOdd.defs (F := Bits)) (onTc (τ := Cert.PackOdd.τ) (Cert.PackOdd.main (F := Bits))) ⟨m, fun _ => 0, g⟩ (fun r => (∀ c : Dev Cert.PackOdd.nD,
      r.2.mem ((c.tc : Thread Cert.PackOdd.nD Cert.PackOdd.τ).loc Cert.PackOdd.main_arg0) = m ((c.tc : Thread Cert.PackOdd.nD Cert.PackOdd.τ).loc Cert.PackOdd.main_arg0))
      ∧ r.2.sem = fun _ => 0)

def quiescent_PackOddIdeal [hPackOddIdeal : Cert.PackOddIdeal.Facts] : Prop :=
  ∀ (m : (ℓ : Loc Cert.PackOddIdeal.nD Cert.PackOddIdeal.τ Cert.PackOddIdeal.sig) → Buf (Elt Ideal) ℓ) (g : Dev Cert.PackOddIdeal.nD → PrngReg), Pre_PackOddIdeal m →
    θ_run (Cert.PackOddIdeal.defs (F := Ideal)) (onTc (τ := Cert.PackOddIdeal.τ) (Cert.PackOddIdeal.main (F := Ideal))) ⟨m, fun _ => 0, g⟩ (fun r => (∀ c : Dev Cert.PackOddIdeal.nD,
      r.2.mem ((c.tc : Thread Cert.PackOddIdeal.nD Cert.PackOddIdeal.τ).loc Cert.PackOddIdeal.main_arg0) = m ((c.tc : Thread Cert.PackOddIdeal.nD Cert.PackOddIdeal.τ).loc Cert.PackOddIdeal.main_arg0))
      ∧ r.2.sem = fun _ => 0)

def quiescent_PackOddReferenceIdeal [hPackOddReferenceIdeal : Cert.PackOddReferenceIdeal.Facts] : Prop :=
  ∀ (m : (ℓ : Loc Cert.PackOddReferenceIdeal.nD Cert.PackOddReferenceIdeal.τ Cert.PackOddReferenceIdeal.sig) → Buf (Elt Ideal) ℓ) (g : Dev Cert.PackOddReferenceIdeal.nD → PrngReg), Pre_PackOddReferenceIdeal m →
    θ_run (Cert.PackOddReferenceIdeal.defs (F := Ideal)) (onTc (τ := Cert.PackOddReferenceIdeal.τ) (Cert.PackOddReferenceIdeal.main (F := Ideal))) ⟨m, fun _ => 0, g⟩ (fun r => (∀ c : Dev Cert.PackOddReferenceIdeal.nD,
      r.2.mem ((c.tc : Thread Cert.PackOddReferenceIdeal.nD Cert.PackOddReferenceIdeal.τ).loc Cert.PackOddReferenceIdeal.main_arg0) = m ((c.tc : Thread Cert.PackOddReferenceIdeal.nD Cert.PackOddReferenceIdeal.τ).loc Cert.PackOddReferenceIdeal.main_arg0))
      ∧ r.2.sem = fun _ => 0)

def quiescent_InEven [hInEven : Cert.InEven.Facts] : Prop :=
  ∀ (m : (ℓ : Loc Cert.InEven.nD Cert.InEven.τ Cert.InEven.sig) → Buf (Elt Bits) ℓ) (g : Dev Cert.InEven.nD → PrngReg), Pre_InEven m →
    θ_run (Cert.InEven.defs (F := Bits)) (onTc (τ := Cert.InEven.τ) (Cert.InEven.main (F := Bits))) ⟨m, fun _ => 0, g⟩ (fun r => (∀ c : Dev Cert.InEven.nD,
      r.2.mem ((c.tc : Thread Cert.InEven.nD Cert.InEven.τ).loc Cert.InEven.main_arg0) = m ((c.tc : Thread Cert.InEven.nD Cert.InEven.τ).loc Cert.InEven.main_arg0)
      ∧ r.2.mem ((c.tc : Thread Cert.InEven.nD Cert.InEven.τ).loc Cert.InEven.main_arg1) = m ((c.tc : Thread Cert.InEven.nD Cert.InEven.τ).loc Cert.InEven.main_arg1))
      ∧ r.2.sem = fun _ => 0)

def quiescent_InEvenIdeal [hInEvenIdeal : Cert.InEvenIdeal.Facts] : Prop :=
  ∀ (m : (ℓ : Loc Cert.InEvenIdeal.nD Cert.InEvenIdeal.τ Cert.InEvenIdeal.sig) → Buf (Elt Ideal) ℓ) (g : Dev Cert.InEvenIdeal.nD → PrngReg), Pre_InEvenIdeal m →
    θ_run (Cert.InEvenIdeal.defs (F := Ideal)) (onTc (τ := Cert.InEvenIdeal.τ) (Cert.InEvenIdeal.main (F := Ideal))) ⟨m, fun _ => 0, g⟩ (fun r => (∀ c : Dev Cert.InEvenIdeal.nD,
      r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
      ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1))
      ∧ r.2.sem = fun _ => 0)

def quiescent_InEvenReferenceIdeal [hInEvenReferenceIdeal : Cert.InEvenReferenceIdeal.Facts] : Prop :=
  ∀ (m : (ℓ : Loc Cert.InEvenReferenceIdeal.nD Cert.InEvenReferenceIdeal.τ Cert.InEvenReferenceIdeal.sig) → Buf (Elt Ideal) ℓ) (g : Dev Cert.InEvenReferenceIdeal.nD → PrngReg), Pre_InEvenReferenceIdeal m →
    θ_run (Cert.InEvenReferenceIdeal.defs (F := Ideal)) (onTc (τ := Cert.InEvenReferenceIdeal.τ) (Cert.InEvenReferenceIdeal.main (F := Ideal))) ⟨m, fun _ => 0, g⟩ (fun r => (∀ c : Dev Cert.InEvenReferenceIdeal.nD,
      r.2.mem ((c.tc : Thread Cert.InEvenReferenceIdeal.nD Cert.InEvenReferenceIdeal.τ).loc Cert.InEvenReferenceIdeal.main_arg0) = m ((c.tc : Thread Cert.InEvenReferenceIdeal.nD Cert.InEvenReferenceIdeal.τ).loc Cert.InEvenReferenceIdeal.main_arg0)
      ∧ r.2.mem ((c.tc : Thread Cert.InEvenReferenceIdeal.nD Cert.InEvenReferenceIdeal.τ).loc Cert.InEvenReferenceIdeal.main_arg1) = m ((c.tc : Thread Cert.InEvenReferenceIdeal.nD Cert.InEvenReferenceIdeal.τ).loc Cert.InEvenReferenceIdeal.main_arg1))
      ∧ r.2.sem = fun _ => 0)

def quiescent_InOdd [hInOdd : Cert.InOdd.Facts] : Prop :=
  ∀ (m : (ℓ : Loc Cert.InOdd.nD Cert.InOdd.τ Cert.InOdd.sig) → Buf (Elt Bits) ℓ) (g : Dev Cert.InOdd.nD → PrngReg), Pre_InOdd m →
    θ_run (Cert.InOdd.defs (F := Bits)) (onTc (τ := Cert.InOdd.τ) (Cert.InOdd.main (F := Bits))) ⟨m, fun _ => 0, g⟩ (fun r => (∀ c : Dev Cert.InOdd.nD,
      r.2.mem ((c.tc : Thread Cert.InOdd.nD Cert.InOdd.τ).loc Cert.InOdd.main_arg0) = m ((c.tc : Thread Cert.InOdd.nD Cert.InOdd.τ).loc Cert.InOdd.main_arg0)
      ∧ r.2.mem ((c.tc : Thread Cert.InOdd.nD Cert.InOdd.τ).loc Cert.InOdd.main_arg1) = m ((c.tc : Thread Cert.InOdd.nD Cert.InOdd.τ).loc Cert.InOdd.main_arg1))
      ∧ r.2.sem = fun _ => 0)

def quiescent_InOddIdeal [hInOddIdeal : Cert.InOddIdeal.Facts] : Prop :=
  ∀ (m : (ℓ : Loc Cert.InOddIdeal.nD Cert.InOddIdeal.τ Cert.InOddIdeal.sig) → Buf (Elt Ideal) ℓ) (g : Dev Cert.InOddIdeal.nD → PrngReg), Pre_InOddIdeal m →
    θ_run (Cert.InOddIdeal.defs (F := Ideal)) (onTc (τ := Cert.InOddIdeal.τ) (Cert.InOddIdeal.main (F := Ideal))) ⟨m, fun _ => 0, g⟩ (fun r => (∀ c : Dev Cert.InOddIdeal.nD,
      r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
      ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1))
      ∧ r.2.sem = fun _ => 0)

def quiescent_InOddReferenceIdeal [hInOddReferenceIdeal : Cert.InOddReferenceIdeal.Facts] : Prop :=
  ∀ (m : (ℓ : Loc Cert.InOddReferenceIdeal.nD Cert.InOddReferenceIdeal.τ Cert.InOddReferenceIdeal.sig) → Buf (Elt Ideal) ℓ) (g : Dev Cert.InOddReferenceIdeal.nD → PrngReg), Pre_InOddReferenceIdeal m →
    θ_run (Cert.InOddReferenceIdeal.defs (F := Ideal)) (onTc (τ := Cert.InOddReferenceIdeal.τ) (Cert.InOddReferenceIdeal.main (F := Ideal))) ⟨m, fun _ => 0, g⟩ (fun r => (∀ c : Dev Cert.InOddReferenceIdeal.nD,
      r.2.mem ((c.tc : Thread Cert.InOddReferenceIdeal.nD Cert.InOddReferenceIdeal.τ).loc Cert.InOddReferenceIdeal.main_arg0) = m ((c.tc : Thread Cert.InOddReferenceIdeal.nD Cert.InOddReferenceIdeal.τ).loc Cert.InOddReferenceIdeal.main_arg0)
      ∧ r.2.mem ((c.tc : Thread Cert.InOddReferenceIdeal.nD Cert.InOddReferenceIdeal.τ).loc Cert.InOddReferenceIdeal.main_arg1) = m ((c.tc : Thread Cert.InOddReferenceIdeal.nD Cert.InOddReferenceIdeal.τ).loc Cert.InOddReferenceIdeal.main_arg1))
      ∧ r.2.sem = fun _ => 0)

def quiescent_SmallEven [hSmallEven : Cert.SmallEven.Facts] : Prop :=
  ∀ (m : (ℓ : Loc Cert.SmallEven.nD Cert.SmallEven.τ Cert.SmallEven.sig) → Buf (Elt Bits) ℓ) (g : Dev Cert.SmallEven.nD → PrngReg), Pre_SmallEven m →
    θ_run (Cert.SmallEven.defs (F := Bits)) (onTc (τ := Cert.SmallEven.τ) (Cert.SmallEven.main (F := Bits))) ⟨m, fun _ => 0, g⟩ (fun r => (∀ c : Dev Cert.SmallEven.nD,
      r.2.mem ((c.tc : Thread Cert.SmallEven.nD Cert.SmallEven.τ).loc Cert.SmallEven.main_arg0) = m ((c.tc : Thread Cert.SmallEven.nD Cert.SmallEven.τ).loc Cert.SmallEven.main_arg0)
      ∧ r.2.mem ((c.tc : Thread Cert.SmallEven.nD Cert.SmallEven.τ).loc Cert.SmallEven.main_arg1) = m ((c.tc : Thread Cert.SmallEven.nD Cert.SmallEven.τ).loc Cert.SmallEven.main_arg1))
      ∧ r.2.sem = fun _ => 0)

def quiescent_SmallEvenIdeal [hSmallEvenIdeal : Cert.SmallEvenIdeal.Facts] : Prop :=
  ∀ (m : (ℓ : Loc Cert.SmallEvenIdeal.nD Cert.SmallEvenIdeal.τ Cert.SmallEvenIdeal.sig) → Buf (Elt Ideal) ℓ) (g : Dev Cert.SmallEvenIdeal.nD → PrngReg), Pre_SmallEvenIdeal m →
    θ_run (Cert.SmallEvenIdeal.defs (F := Ideal)) (onTc (τ := Cert.SmallEvenIdeal.τ) (Cert.SmallEvenIdeal.main (F := Ideal))) ⟨m, fun _ => 0, g⟩ (fun r => (∀ c : Dev Cert.SmallEvenIdeal.nD,
      r.2.mem ((c.tc : Thread Cert.SmallEvenIdeal.nD Cert.SmallEvenIdeal.τ).loc Cert.SmallEvenIdeal.main_arg0) = m ((c.tc : Thread Cert.SmallEvenIdeal.nD Cert.SmallEvenIdeal.τ).loc Cert.SmallEvenIdeal.main_arg0)
      ∧ r.2.mem ((c.tc : Thread Cert.SmallEvenIdeal.nD Cert.SmallEvenIdeal.τ).loc Cert.SmallEvenIdeal.main_arg1) = m ((c.tc : Thread Cert.SmallEvenIdeal.nD Cert.SmallEvenIdeal.τ).loc Cert.SmallEvenIdeal.main_arg1))
      ∧ r.2.sem = fun _ => 0)

def quiescent_SmallEvenReferenceIdeal [hSmallEvenReferenceIdeal : Cert.SmallEvenReferenceIdeal.Facts] : Prop :=
  ∀ (m : (ℓ : Loc Cert.SmallEvenReferenceIdeal.nD Cert.SmallEvenReferenceIdeal.τ Cert.SmallEvenReferenceIdeal.sig) → Buf (Elt Ideal) ℓ) (g : Dev Cert.SmallEvenReferenceIdeal.nD → PrngReg), Pre_SmallEvenReferenceIdeal m →
    θ_run (Cert.SmallEvenReferenceIdeal.defs (F := Ideal)) (onTc (τ := Cert.SmallEvenReferenceIdeal.τ) (Cert.SmallEvenReferenceIdeal.main (F := Ideal))) ⟨m, fun _ => 0, g⟩ (fun r => (∀ c : Dev Cert.SmallEvenReferenceIdeal.nD,
      r.2.mem ((c.tc : Thread Cert.SmallEvenReferenceIdeal.nD Cert.SmallEvenReferenceIdeal.τ).loc Cert.SmallEvenReferenceIdeal.main_arg0) = m ((c.tc : Thread Cert.SmallEvenReferenceIdeal.nD Cert.SmallEvenReferenceIdeal.τ).loc Cert.SmallEvenReferenceIdeal.main_arg0)
      ∧ r.2.mem ((c.tc : Thread Cert.SmallEvenReferenceIdeal.nD Cert.SmallEvenReferenceIdeal.τ).loc Cert.SmallEvenReferenceIdeal.main_arg1) = m ((c.tc : Thread Cert.SmallEvenReferenceIdeal.nD Cert.SmallEvenReferenceIdeal.τ).loc Cert.SmallEvenReferenceIdeal.main_arg1))
      ∧ r.2.sem = fun _ => 0)

def quiescent_SmallOdd [hSmallOdd : Cert.SmallOdd.Facts] : Prop :=
  ∀ (m : (ℓ : Loc Cert.SmallOdd.nD Cert.SmallOdd.τ Cert.SmallOdd.sig) → Buf (Elt Bits) ℓ) (g : Dev Cert.SmallOdd.nD → PrngReg), Pre_SmallOdd m →
    θ_run (Cert.SmallOdd.defs (F := Bits)) (onTc (τ := Cert.SmallOdd.τ) (Cert.SmallOdd.main (F := Bits))) ⟨m, fun _ => 0, g⟩ (fun r => (∀ c : Dev Cert.SmallOdd.nD,
      r.2.mem ((c.tc : Thread Cert.SmallOdd.nD Cert.SmallOdd.τ).loc Cert.SmallOdd.main_arg0) = m ((c.tc : Thread Cert.SmallOdd.nD Cert.SmallOdd.τ).loc Cert.SmallOdd.main_arg0)
      ∧ r.2.mem ((c.tc : Thread Cert.SmallOdd.nD Cert.SmallOdd.τ).loc Cert.SmallOdd.main_arg1) = m ((c.tc : Thread Cert.SmallOdd.nD Cert.SmallOdd.τ).loc Cert.SmallOdd.main_arg1))
      ∧ r.2.sem = fun _ => 0)

def quiescent_SmallOddIdeal [hSmallOddIdeal : Cert.SmallOddIdeal.Facts] : Prop :=
  ∀ (m : (ℓ : Loc Cert.SmallOddIdeal.nD Cert.SmallOddIdeal.τ Cert.SmallOddIdeal.sig) → Buf (Elt Ideal) ℓ) (g : Dev Cert.SmallOddIdeal.nD → PrngReg), Pre_SmallOddIdeal m →
    θ_run (Cert.SmallOddIdeal.defs (F := Ideal)) (onTc (τ := Cert.SmallOddIdeal.τ) (Cert.SmallOddIdeal.main (F := Ideal))) ⟨m, fun _ => 0, g⟩ (fun r => (∀ c : Dev Cert.SmallOddIdeal.nD,
      r.2.mem ((c.tc : Thread Cert.SmallOddIdeal.nD Cert.SmallOddIdeal.τ).loc Cert.SmallOddIdeal.main_arg0) = m ((c.tc : Thread Cert.SmallOddIdeal.nD Cert.SmallOddIdeal.τ).loc Cert.SmallOddIdeal.main_arg0)
      ∧ r.2.mem ((c.tc : Thread Cert.SmallOddIdeal.nD Cert.SmallOddIdeal.τ).loc Cert.SmallOddIdeal.main_arg1) = m ((c.tc : Thread Cert.SmallOddIdeal.nD Cert.SmallOddIdeal.τ).loc Cert.SmallOddIdeal.main_arg1))
      ∧ r.2.sem = fun _ => 0)

def quiescent_SmallOddReferenceIdeal [hSmallOddReferenceIdeal : Cert.SmallOddReferenceIdeal.Facts] : Prop :=
  ∀ (m : (ℓ : Loc Cert.SmallOddReferenceIdeal.nD Cert.SmallOddReferenceIdeal.τ Cert.SmallOddReferenceIdeal.sig) → Buf (Elt Ideal) ℓ) (g : Dev Cert.SmallOddReferenceIdeal.nD → PrngReg), Pre_SmallOddReferenceIdeal m →
    θ_run (Cert.SmallOddReferenceIdeal.defs (F := Ideal)) (onTc (τ := Cert.SmallOddReferenceIdeal.τ) (Cert.SmallOddReferenceIdeal.main (F := Ideal))) ⟨m, fun _ => 0, g⟩ (fun r => (∀ c : Dev Cert.SmallOddReferenceIdeal.nD,
      r.2.mem ((c.tc : Thread Cert.SmallOddReferenceIdeal.nD Cert.SmallOddReferenceIdeal.τ).loc Cert.SmallOddReferenceIdeal.main_arg0) = m ((c.tc : Thread Cert.SmallOddReferenceIdeal.nD Cert.SmallOddReferenceIdeal.τ).loc Cert.SmallOddReferenceIdeal.main_arg0)
      ∧ r.2.mem ((c.tc : Thread Cert.SmallOddReferenceIdeal.nD Cert.SmallOddReferenceIdeal.τ).loc Cert.SmallOddReferenceIdeal.main_arg1) = m ((c.tc : Thread Cert.SmallOddReferenceIdeal.nD Cert.SmallOddReferenceIdeal.τ).loc Cert.SmallOddReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1))
      ∧ r.2.sem = fun _ => 0)

def quiescent_Experts [hExperts : Cert.Experts.Facts] [hPre_experts_in_range : Cert.Pre_experts_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3))
      ∧ r.2.sem = fun _ => 0)

def quiescent_ExpertsIdeal [hExpertsIdeal : Cert.ExpertsIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3))
      ∧ r.2.sem = fun _ => 0)

def quiescent_ExpertsReferenceIdeal_pre_experts_in_range [hExpertsReferenceIdeal : Cert.ExpertsReferenceIdeal.Facts] [hPre_experts_in_range : Cert.Pre_experts_in_range.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_experts_in_range m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v12) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_PackEven_PackEvenIdeal : Prop :=
  True

def algebraic_PackEvenIdeal_PackEvenReferenceIdeal [hPackEvenIdeal : Cert.PackEvenIdeal.Facts] [hPackEvenReferenceIdeal : Cert.PackEvenReferenceIdeal.Facts] : Prop :=
  ∀ (m : (ℓ : Loc Cert.PackEvenIdeal.nD Cert.PackEvenIdeal.τ Cert.PackEvenIdeal.sig) → Buf (Elt Ideal) ℓ) (g : Dev Cert.PackEvenIdeal.nD → PrngReg)
    (m' : (ℓ : Loc Cert.PackEvenReferenceIdeal.nD Cert.PackEvenReferenceIdeal.τ Cert.PackEvenReferenceIdeal.sig) → Buf (Elt Ideal) ℓ) (g' : Dev Cert.PackEvenReferenceIdeal.nD → PrngReg), Pre_PackEvenIdeal m →
    (∀ c : Dev Cert.PackEvenIdeal.nD,
      m' ((c.tc : Thread Cert.PackEvenReferenceIdeal.nD Cert.PackEvenReferenceIdeal.τ).loc Cert.PackEvenReferenceIdeal.main_arg0) = m ((c.tc : Thread Cert.PackEvenIdeal.nD Cert.PackEvenIdeal.τ).loc Cert.PackEvenIdeal.main_arg0)) →
    ∃ (v0 : (c : Dev Cert.PackEvenIdeal.nD) → Buf (Elt Ideal) ((c.tc : Thread Cert.PackEvenIdeal.nD Cert.PackEvenIdeal.τ).loc Cert.PackEvenIdeal.main_v0)),
      θ_run (Cert.PackEvenIdeal.defs (F := Ideal)) (onTc (τ := Cert.PackEvenIdeal.τ) (Cert.PackEvenIdeal.main (F := Ideal))) ⟨m, fun _ => 0, g⟩ (fun r => ∀ c : Dev Cert.PackEvenIdeal.nD,
          r.2.mem ((c.tc : Thread Cert.PackEvenIdeal.nD Cert.PackEvenIdeal.τ).loc Cert.PackEvenIdeal.main_v0) = v0 c
          ∧ r.2.mem ((c.tc : Thread Cert.PackEvenIdeal.nD Cert.PackEvenIdeal.τ).loc Cert.PackEvenIdeal.main_arg0) = m ((c.tc : Thread Cert.PackEvenIdeal.nD Cert.PackEvenIdeal.τ).loc Cert.PackEvenIdeal.main_arg0))
      ∧ θ_run (Cert.PackEvenReferenceIdeal.defs (F := Ideal)) (onTc (τ := Cert.PackEvenReferenceIdeal.τ) (Cert.PackEvenReferenceIdeal.main (F := Ideal))) ⟨m', fun _ => 0, g'⟩ (fun r => ∀ c : Dev Cert.PackEvenReferenceIdeal.nD,
          r.2.mem ((c.tc : Thread Cert.PackEvenReferenceIdeal.nD Cert.PackEvenReferenceIdeal.τ).loc Cert.PackEvenReferenceIdeal.main_v7) = v0 c
          ∧ r.2.mem ((c.tc : Thread Cert.PackEvenReferenceIdeal.nD Cert.PackEvenReferenceIdeal.τ).loc Cert.PackEvenReferenceIdeal.main_arg0) = m' ((c.tc : Thread Cert.PackEvenReferenceIdeal.nD Cert.PackEvenReferenceIdeal.τ).loc Cert.PackEvenReferenceIdeal.main_arg0))

def preserves_PackOdd_PackOddIdeal : Prop :=
  True

def algebraic_PackOddIdeal_PackOddReferenceIdeal [hPackOddIdeal : Cert.PackOddIdeal.Facts] [hPackOddReferenceIdeal : Cert.PackOddReferenceIdeal.Facts] : Prop :=
  ∀ (m : (ℓ : Loc Cert.PackOddIdeal.nD Cert.PackOddIdeal.τ Cert.PackOddIdeal.sig) → Buf (Elt Ideal) ℓ) (g : Dev Cert.PackOddIdeal.nD → PrngReg)
    (m' : (ℓ : Loc Cert.PackOddReferenceIdeal.nD Cert.PackOddReferenceIdeal.τ Cert.PackOddReferenceIdeal.sig) → Buf (Elt Ideal) ℓ) (g' : Dev Cert.PackOddReferenceIdeal.nD → PrngReg), Pre_PackOddIdeal m →
    (∀ c : Dev Cert.PackOddIdeal.nD,
      m' ((c.tc : Thread Cert.PackOddReferenceIdeal.nD Cert.PackOddReferenceIdeal.τ).loc Cert.PackOddReferenceIdeal.main_arg0) = m ((c.tc : Thread Cert.PackOddIdeal.nD Cert.PackOddIdeal.τ).loc Cert.PackOddIdeal.main_arg0)) →
    ∃ (v0 : (c : Dev Cert.PackOddIdeal.nD) → Buf (Elt Ideal) ((c.tc : Thread Cert.PackOddIdeal.nD Cert.PackOddIdeal.τ).loc Cert.PackOddIdeal.main_v0)),
      θ_run (Cert.PackOddIdeal.defs (F := Ideal)) (onTc (τ := Cert.PackOddIdeal.τ) (Cert.PackOddIdeal.main (F := Ideal))) ⟨m, fun _ => 0, g⟩ (fun r => ∀ c : Dev Cert.PackOddIdeal.nD,
          r.2.mem ((c.tc : Thread Cert.PackOddIdeal.nD Cert.PackOddIdeal.τ).loc Cert.PackOddIdeal.main_v0) = v0 c
          ∧ r.2.mem ((c.tc : Thread Cert.PackOddIdeal.nD Cert.PackOddIdeal.τ).loc Cert.PackOddIdeal.main_arg0) = m ((c.tc : Thread Cert.PackOddIdeal.nD Cert.PackOddIdeal.τ).loc Cert.PackOddIdeal.main_arg0))
      ∧ θ_run (Cert.PackOddReferenceIdeal.defs (F := Ideal)) (onTc (τ := Cert.PackOddReferenceIdeal.τ) (Cert.PackOddReferenceIdeal.main (F := Ideal))) ⟨m', fun _ => 0, g'⟩ (fun r => ∀ c : Dev Cert.PackOddReferenceIdeal.nD,
          r.2.mem ((c.tc : Thread Cert.PackOddReferenceIdeal.nD Cert.PackOddReferenceIdeal.τ).loc Cert.PackOddReferenceIdeal.main_v6) = v0 c
          ∧ r.2.mem ((c.tc : Thread Cert.PackOddReferenceIdeal.nD Cert.PackOddReferenceIdeal.τ).loc Cert.PackOddReferenceIdeal.main_arg0) = m' ((c.tc : Thread Cert.PackOddReferenceIdeal.nD Cert.PackOddReferenceIdeal.τ).loc Cert.PackOddReferenceIdeal.main_arg0))

def preserves_InEven_InEvenIdeal : Prop :=
  True

def algebraic_InEvenIdeal_InEvenReferenceIdeal [hInEvenIdeal : Cert.InEvenIdeal.Facts] [hInEvenReferenceIdeal : Cert.InEvenReferenceIdeal.Facts] : Prop :=
  ∀ (m : (ℓ : Loc Cert.InEvenIdeal.nD Cert.InEvenIdeal.τ Cert.InEvenIdeal.sig) → Buf (Elt Ideal) ℓ) (g : Dev Cert.InEvenIdeal.nD → PrngReg)
    (m' : (ℓ : Loc Cert.InEvenReferenceIdeal.nD Cert.InEvenReferenceIdeal.τ Cert.InEvenReferenceIdeal.sig) → Buf (Elt Ideal) ℓ) (g' : Dev Cert.InEvenReferenceIdeal.nD → PrngReg), Pre_InEvenIdeal m →
    (∀ c : Dev Cert.InEvenIdeal.nD,
      m' ((c.tc : Thread Cert.InEvenReferenceIdeal.nD Cert.InEvenReferenceIdeal.τ).loc Cert.InEvenReferenceIdeal.main_arg0) = m ((c.tc : Thread Cert.InEvenIdeal.nD Cert.InEvenIdeal.τ).loc Cert.InEvenIdeal.main_arg0)
      ∧ m' ((c.tc : Thread Cert.InEvenReferenceIdeal.nD Cert.InEvenReferenceIdeal.τ).loc Cert.InEvenReferenceIdeal.main_arg1) = m ((c.tc : Thread Cert.InEvenIdeal.nD Cert.InEvenIdeal.τ).loc Cert.InEvenIdeal.main_arg1)) →
    ∃ (v0 : (c : Dev Cert.InEvenIdeal.nD) → Buf (Elt Ideal) ((c.tc : Thread Cert.InEvenIdeal.nD Cert.InEvenIdeal.τ).loc Cert.InEvenIdeal.main_v0)),
      θ_run (Cert.InEvenIdeal.defs (F := Ideal)) (onTc (τ := Cert.InEvenIdeal.τ) (Cert.InEvenIdeal.main (F := Ideal))) ⟨m, fun _ => 0, g⟩ (fun r => ∀ c : Dev Cert.InEvenIdeal.nD,
          r.2.mem ((c.tc : Thread Cert.InEvenIdeal.nD Cert.InEvenIdeal.τ).loc Cert.InEvenIdeal.main_v0) = v0 c
          ∧ r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
          ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1))
      ∧ θ_run (Cert.InEvenReferenceIdeal.defs (F := Ideal)) (onTc (τ := Cert.InEvenReferenceIdeal.τ) (Cert.InEvenReferenceIdeal.main (F := Ideal))) ⟨m', fun _ => 0, g'⟩ (fun r => ∀ c : Dev Cert.InEvenReferenceIdeal.nD,
          r.2.mem ((c.tc : Thread Cert.InEvenReferenceIdeal.nD Cert.InEvenReferenceIdeal.τ).loc Cert.InEvenReferenceIdeal.main_v6) = v0 c
          ∧ r.2.mem ((c.tc : Thread Cert.InEvenReferenceIdeal.nD Cert.InEvenReferenceIdeal.τ).loc Cert.InEvenReferenceIdeal.main_arg0) = m' ((c.tc : Thread Cert.InEvenReferenceIdeal.nD Cert.InEvenReferenceIdeal.τ).loc Cert.InEvenReferenceIdeal.main_arg0)
          ∧ r.2.mem ((c.tc : Thread Cert.InEvenReferenceIdeal.nD Cert.InEvenReferenceIdeal.τ).loc Cert.InEvenReferenceIdeal.main_arg1) = m' ((c.tc : Thread Cert.InEvenReferenceIdeal.nD Cert.InEvenReferenceIdeal.τ).loc Cert.InEvenReferenceIdeal.main_arg1))

def preserves_InOdd_InOddIdeal : Prop :=
  True

def algebraic_InOddIdeal_InOddReferenceIdeal [hInOddIdeal : Cert.InOddIdeal.Facts] [hInOddReferenceIdeal : Cert.InOddReferenceIdeal.Facts] : Prop :=
  ∀ (m : (ℓ : Loc Cert.InOddIdeal.nD Cert.InOddIdeal.τ Cert.InOddIdeal.sig) → Buf (Elt Ideal) ℓ) (g : Dev Cert.InOddIdeal.nD → PrngReg)
    (m' : (ℓ : Loc Cert.InOddReferenceIdeal.nD Cert.InOddReferenceIdeal.τ Cert.InOddReferenceIdeal.sig) → Buf (Elt Ideal) ℓ) (g' : Dev Cert.InOddReferenceIdeal.nD → PrngReg), Pre_InOddIdeal m →
    (∀ c : Dev Cert.InOddIdeal.nD,
      m' ((c.tc : Thread Cert.InOddReferenceIdeal.nD Cert.InOddReferenceIdeal.τ).loc Cert.InOddReferenceIdeal.main_arg0) = m ((c.tc : Thread Cert.InOddIdeal.nD Cert.InOddIdeal.τ).loc Cert.InOddIdeal.main_arg0)
      ∧ m' ((c.tc : Thread Cert.InOddReferenceIdeal.nD Cert.InOddReferenceIdeal.τ).loc Cert.InOddReferenceIdeal.main_arg1) = m ((c.tc : Thread Cert.InOddIdeal.nD Cert.InOddIdeal.τ).loc Cert.InOddIdeal.main_arg1)) →
    ∃ (v0 : (c : Dev Cert.InOddIdeal.nD) → Buf (Elt Ideal) ((c.tc : Thread Cert.InOddIdeal.nD Cert.InOddIdeal.τ).loc Cert.InOddIdeal.main_v0)),
      θ_run (Cert.InOddIdeal.defs (F := Ideal)) (onTc (τ := Cert.InOddIdeal.τ) (Cert.InOddIdeal.main (F := Ideal))) ⟨m, fun _ => 0, g⟩ (fun r => ∀ c : Dev Cert.InOddIdeal.nD,
          r.2.mem ((c.tc : Thread Cert.InOddIdeal.nD Cert.InOddIdeal.τ).loc Cert.InOddIdeal.main_v0) = v0 c
          ∧ r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
          ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1))
      ∧ θ_run (Cert.InOddReferenceIdeal.defs (F := Ideal)) (onTc (τ := Cert.InOddReferenceIdeal.τ) (Cert.InOddReferenceIdeal.main (F := Ideal))) ⟨m', fun _ => 0, g'⟩ (fun r => ∀ c : Dev Cert.InOddReferenceIdeal.nD,
          r.2.mem ((c.tc : Thread Cert.InOddReferenceIdeal.nD Cert.InOddReferenceIdeal.τ).loc Cert.InOddReferenceIdeal.main_v6) = v0 c
          ∧ r.2.mem ((c.tc : Thread Cert.InOddReferenceIdeal.nD Cert.InOddReferenceIdeal.τ).loc Cert.InOddReferenceIdeal.main_arg0) = m' ((c.tc : Thread Cert.InOddReferenceIdeal.nD Cert.InOddReferenceIdeal.τ).loc Cert.InOddReferenceIdeal.main_arg0)
          ∧ r.2.mem ((c.tc : Thread Cert.InOddReferenceIdeal.nD Cert.InOddReferenceIdeal.τ).loc Cert.InOddReferenceIdeal.main_arg1) = m' ((c.tc : Thread Cert.InOddReferenceIdeal.nD Cert.InOddReferenceIdeal.τ).loc Cert.InOddReferenceIdeal.main_arg1))

def preserves_SmallEven_SmallEvenIdeal : Prop :=
  True

def algebraic_SmallEvenIdeal_SmallEvenReferenceIdeal [hSmallEvenIdeal : Cert.SmallEvenIdeal.Facts] [hSmallEvenReferenceIdeal : Cert.SmallEvenReferenceIdeal.Facts] : Prop :=
  ∀ (m : (ℓ : Loc Cert.SmallEvenIdeal.nD Cert.SmallEvenIdeal.τ Cert.SmallEvenIdeal.sig) → Buf (Elt Ideal) ℓ) (g : Dev Cert.SmallEvenIdeal.nD → PrngReg)
    (m' : (ℓ : Loc Cert.SmallEvenReferenceIdeal.nD Cert.SmallEvenReferenceIdeal.τ Cert.SmallEvenReferenceIdeal.sig) → Buf (Elt Ideal) ℓ) (g' : Dev Cert.SmallEvenReferenceIdeal.nD → PrngReg), Pre_SmallEvenIdeal m →
    (∀ c : Dev Cert.SmallEvenIdeal.nD,
      m' ((c.tc : Thread Cert.SmallEvenReferenceIdeal.nD Cert.SmallEvenReferenceIdeal.τ).loc Cert.SmallEvenReferenceIdeal.main_arg0) = m ((c.tc : Thread Cert.SmallEvenIdeal.nD Cert.SmallEvenIdeal.τ).loc Cert.SmallEvenIdeal.main_arg0)
      ∧ m' ((c.tc : Thread Cert.SmallEvenReferenceIdeal.nD Cert.SmallEvenReferenceIdeal.τ).loc Cert.SmallEvenReferenceIdeal.main_arg1) = m ((c.tc : Thread Cert.SmallEvenIdeal.nD Cert.SmallEvenIdeal.τ).loc Cert.SmallEvenIdeal.main_arg1)) →
    ∃ (v0 : (c : Dev Cert.SmallEvenIdeal.nD) → Buf (Elt Ideal) ((c.tc : Thread Cert.SmallEvenIdeal.nD Cert.SmallEvenIdeal.τ).loc Cert.SmallEvenIdeal.main_v0)),
      θ_run (Cert.SmallEvenIdeal.defs (F := Ideal)) (onTc (τ := Cert.SmallEvenIdeal.τ) (Cert.SmallEvenIdeal.main (F := Ideal))) ⟨m, fun _ => 0, g⟩ (fun r => ∀ c : Dev Cert.SmallEvenIdeal.nD,
          r.2.mem ((c.tc : Thread Cert.SmallEvenIdeal.nD Cert.SmallEvenIdeal.τ).loc Cert.SmallEvenIdeal.main_v0) = v0 c
          ∧ r.2.mem ((c.tc : Thread Cert.SmallEvenIdeal.nD Cert.SmallEvenIdeal.τ).loc Cert.SmallEvenIdeal.main_arg0) = m ((c.tc : Thread Cert.SmallEvenIdeal.nD Cert.SmallEvenIdeal.τ).loc Cert.SmallEvenIdeal.main_arg0)
          ∧ r.2.mem ((c.tc : Thread Cert.SmallEvenIdeal.nD Cert.SmallEvenIdeal.τ).loc Cert.SmallEvenIdeal.main_arg1) = m ((c.tc : Thread Cert.SmallEvenIdeal.nD Cert.SmallEvenIdeal.τ).loc Cert.SmallEvenIdeal.main_arg1))
      ∧ θ_run (Cert.SmallEvenReferenceIdeal.defs (F := Ideal)) (onTc (τ := Cert.SmallEvenReferenceIdeal.τ) (Cert.SmallEvenReferenceIdeal.main (F := Ideal))) ⟨m', fun _ => 0, g'⟩ (fun r => ∀ c : Dev Cert.SmallEvenReferenceIdeal.nD,
          r.2.mem ((c.tc : Thread Cert.SmallEvenReferenceIdeal.nD Cert.SmallEvenReferenceIdeal.τ).loc Cert.SmallEvenReferenceIdeal.main_v5) = v0 c
          ∧ r.2.mem ((c.tc : Thread Cert.SmallEvenReferenceIdeal.nD Cert.SmallEvenReferenceIdeal.τ).loc Cert.SmallEvenReferenceIdeal.main_arg0) = m' ((c.tc : Thread Cert.SmallEvenReferenceIdeal.nD Cert.SmallEvenReferenceIdeal.τ).loc Cert.SmallEvenReferenceIdeal.main_arg0)
          ∧ r.2.mem ((c.tc : Thread Cert.SmallEvenReferenceIdeal.nD Cert.SmallEvenReferenceIdeal.τ).loc Cert.SmallEvenReferenceIdeal.main_arg1) = m' ((c.tc : Thread Cert.SmallEvenReferenceIdeal.nD Cert.SmallEvenReferenceIdeal.τ).loc Cert.SmallEvenReferenceIdeal.main_arg1))

def preserves_SmallOdd_SmallOddIdeal : Prop :=
  True

def algebraic_SmallOddIdeal_SmallOddReferenceIdeal [hSmallOddIdeal : Cert.SmallOddIdeal.Facts] [hSmallOddReferenceIdeal : Cert.SmallOddReferenceIdeal.Facts] : Prop :=
  ∀ (m : (ℓ : Loc Cert.SmallOddIdeal.nD Cert.SmallOddIdeal.τ Cert.SmallOddIdeal.sig) → Buf (Elt Ideal) ℓ) (g : Dev Cert.SmallOddIdeal.nD → PrngReg)
    (m' : (ℓ : Loc Cert.SmallOddReferenceIdeal.nD Cert.SmallOddReferenceIdeal.τ Cert.SmallOddReferenceIdeal.sig) → Buf (Elt Ideal) ℓ) (g' : Dev Cert.SmallOddReferenceIdeal.nD → PrngReg), Pre_SmallOddIdeal m →
    (∀ c : Dev Cert.SmallOddIdeal.nD,
      m' ((c.tc : Thread Cert.SmallOddReferenceIdeal.nD Cert.SmallOddReferenceIdeal.τ).loc Cert.SmallOddReferenceIdeal.main_arg0) = m ((c.tc : Thread Cert.SmallOddIdeal.nD Cert.SmallOddIdeal.τ).loc Cert.SmallOddIdeal.main_arg0)
      ∧ m' ((c.tc : Thread Cert.SmallOddReferenceIdeal.nD Cert.SmallOddReferenceIdeal.τ).loc Cert.SmallOddReferenceIdeal.main_arg1) = m ((c.tc : Thread Cert.SmallOddIdeal.nD Cert.SmallOddIdeal.τ).loc Cert.SmallOddIdeal.main_arg1)) →
    ∃ (v0 : (c : Dev Cert.SmallOddIdeal.nD) → Buf (Elt Ideal) ((c.tc : Thread Cert.SmallOddIdeal.nD Cert.SmallOddIdeal.τ).loc Cert.SmallOddIdeal.main_v0)),
      θ_run (Cert.SmallOddIdeal.defs (F := Ideal)) (onTc (τ := Cert.SmallOddIdeal.τ) (Cert.SmallOddIdeal.main (F := Ideal))) ⟨m, fun _ => 0, g⟩ (fun r => ∀ c : Dev Cert.SmallOddIdeal.nD,
          r.2.mem ((c.tc : Thread Cert.SmallOddIdeal.nD Cert.SmallOddIdeal.τ).loc Cert.SmallOddIdeal.main_v0) = v0 c
          ∧ r.2.mem ((c.tc : Thread Cert.SmallOddIdeal.nD Cert.SmallOddIdeal.τ).loc Cert.SmallOddIdeal.main_arg0) = m ((c.tc : Thread Cert.SmallOddIdeal.nD Cert.SmallOddIdeal.τ).loc Cert.SmallOddIdeal.main_arg0)
          ∧ r.2.mem ((c.tc : Thread Cert.SmallOddIdeal.nD Cert.SmallOddIdeal.τ).loc Cert.SmallOddIdeal.main_arg1) = m ((c.tc : Thread Cert.SmallOddIdeal.nD Cert.SmallOddIdeal.τ).loc Cert.SmallOddIdeal.main_arg1))
      ∧ θ_run (Cert.SmallOddReferenceIdeal.defs (F := Ideal)) (onTc (τ := Cert.SmallOddReferenceIdeal.τ) (Cert.SmallOddReferenceIdeal.main (F := Ideal))) ⟨m', fun _ => 0, g'⟩ (fun r => ∀ c : Dev Cert.SmallOddReferenceIdeal.nD,
          r.2.mem ((c.tc : Thread Cert.SmallOddReferenceIdeal.nD Cert.SmallOddReferenceIdeal.τ).loc Cert.SmallOddReferenceIdeal.main_v5) = v0 c
          ∧ r.2.mem ((c.tc : Thread Cert.SmallOddReferenceIdeal.nD Cert.SmallOddReferenceIdeal.τ).loc Cert.SmallOddReferenceIdeal.main_arg0) = m' ((c.tc : Thread Cert.SmallOddReferenceIdeal.nD Cert.SmallOddReferenceIdeal.τ).loc Cert.SmallOddReferenceIdeal.main_arg0)
          ∧ r.2.mem ((c.tc : Thread Cert.SmallOddReferenceIdeal.nD Cert.SmallOddReferenceIdeal.τ).loc Cert.SmallOddReferenceIdeal.main_arg1) = m' ((c.tc : Thread Cert.SmallOddReferenceIdeal.nD Cert.SmallOddReferenceIdeal.τ).loc Cert.SmallOddReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v4) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v27) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hPackEven : Cert.PackEven.Facts) (hPackEvenIdeal : Cert.PackEvenIdeal.Facts) (hPackEvenReferenceIdeal : Cert.PackEvenReferenceIdeal.Facts) (hPackOdd : Cert.PackOdd.Facts) (hPackOddIdeal : Cert.PackOddIdeal.Facts) (hPackOddReferenceIdeal : Cert.PackOddReferenceIdeal.Facts) (hInEven : Cert.InEven.Facts) (hInEvenIdeal : Cert.InEvenIdeal.Facts) (hInEvenReferenceIdeal : Cert.InEvenReferenceIdeal.Facts) (hInOdd : Cert.InOdd.Facts) (hInOddIdeal : Cert.InOddIdeal.Facts) (hInOddReferenceIdeal : Cert.InOddReferenceIdeal.Facts) (hSmallEven : Cert.SmallEven.Facts) (hSmallEvenIdeal : Cert.SmallEvenIdeal.Facts) (hSmallEvenReferenceIdeal : Cert.SmallEvenReferenceIdeal.Facts) (hSmallOdd : Cert.SmallOdd.Facts) (hSmallOddIdeal : Cert.SmallOddIdeal.Facts) (hSmallOddReferenceIdeal : Cert.SmallOddReferenceIdeal.Facts) (hOut : Cert.Out.Facts) (hOutIdeal : Cert.OutIdeal.Facts) (hOutReferenceIdeal : Cert.OutReferenceIdeal.Facts) (hExperts : Cert.Experts.Facts) (hExpertsIdeal : Cert.ExpertsIdeal.Facts) (hExpertsReferenceIdeal : Cert.ExpertsReferenceIdeal.Facts) (hPre_finite_inputs : Cert.Pre_finite_inputs.Facts) (hPre_experts_in_range : Cert.Pre_experts_in_range.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Ffn (hFfn := hFfn)
    ∧ quiescent_FfnIdeal (hFfnIdeal := hFfnIdeal)
    ∧ quiescent_FfnReferenceIdeal (hFfnReferenceIdeal := hFfnReferenceIdeal)
    ∧ quiescent_PackEven (hPackEven := hPackEven)
    ∧ quiescent_PackEvenIdeal (hPackEvenIdeal := hPackEvenIdeal)
    ∧ quiescent_PackEvenReferenceIdeal (hPackEvenReferenceIdeal := hPackEvenReferenceIdeal)
    ∧ quiescent_PackOdd (hPackOdd := hPackOdd)
    ∧ quiescent_PackOddIdeal (hPackOddIdeal := hPackOddIdeal)
    ∧ quiescent_PackOddReferenceIdeal (hPackOddReferenceIdeal := hPackOddReferenceIdeal)
    ∧ quiescent_InEven (hInEven := hInEven)
    ∧ quiescent_InEvenIdeal (hInEvenIdeal := hInEvenIdeal)
    ∧ quiescent_InEvenReferenceIdeal (hInEvenReferenceIdeal := hInEvenReferenceIdeal)
    ∧ quiescent_InOdd (hInOdd := hInOdd)
    ∧ quiescent_InOddIdeal (hInOddIdeal := hInOddIdeal)
    ∧ quiescent_InOddReferenceIdeal (hInOddReferenceIdeal := hInOddReferenceIdeal)
    ∧ quiescent_SmallEven (hSmallEven := hSmallEven)
    ∧ quiescent_SmallEvenIdeal (hSmallEvenIdeal := hSmallEvenIdeal)
    ∧ quiescent_SmallEvenReferenceIdeal (hSmallEvenReferenceIdeal := hSmallEvenReferenceIdeal)
    ∧ quiescent_SmallOdd (hSmallOdd := hSmallOdd)
    ∧ quiescent_SmallOddIdeal (hSmallOddIdeal := hSmallOddIdeal)
    ∧ quiescent_SmallOddReferenceIdeal (hSmallOddReferenceIdeal := hSmallOddReferenceIdeal)
    ∧ quiescent_Out (hOut := hOut)
    ∧ quiescent_OutIdeal (hOutIdeal := hOutIdeal)
    ∧ quiescent_OutReferenceIdeal (hOutReferenceIdeal := hOutReferenceIdeal)
    ∧ quiescent_Experts (hExperts := hExperts) (hPre_experts_in_range := hPre_experts_in_range)
    ∧ quiescent_ExpertsIdeal (hExpertsIdeal := hExpertsIdeal) (hPre_experts_in_range := hPre_experts_in_range)
    ∧ quiescent_ExpertsReferenceIdeal (hExpertsReferenceIdeal := hExpertsReferenceIdeal)
    ∧ quiescent_ExpertsReferenceIdeal_pre_experts_in_range (hExpertsReferenceIdeal := hExpertsReferenceIdeal) (hPre_experts_in_range := hPre_experts_in_range)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Ffn_FfnIdeal
    ∧ algebraic_FfnIdeal_FfnReferenceIdeal (hFfnIdeal := hFfnIdeal) (hFfnReferenceIdeal := hFfnReferenceIdeal)
    ∧ preserves_PackEven_PackEvenIdeal
    ∧ algebraic_PackEvenIdeal_PackEvenReferenceIdeal (hPackEvenIdeal := hPackEvenIdeal) (hPackEvenReferenceIdeal := hPackEvenReferenceIdeal)
    ∧ preserves_PackOdd_PackOddIdeal
    ∧ algebraic_PackOddIdeal_PackOddReferenceIdeal (hPackOddIdeal := hPackOddIdeal) (hPackOddReferenceIdeal := hPackOddReferenceIdeal)
    ∧ preserves_InEven_InEvenIdeal
    ∧ algebraic_InEvenIdeal_InEvenReferenceIdeal (hInEvenIdeal := hInEvenIdeal) (hInEvenReferenceIdeal := hInEvenReferenceIdeal)
    ∧ preserves_InOdd_InOddIdeal
    ∧ algebraic_InOddIdeal_InOddReferenceIdeal (hInOddIdeal := hInOddIdeal) (hInOddReferenceIdeal := hInOddReferenceIdeal)
    ∧ preserves_SmallEven_SmallEvenIdeal
    ∧ algebraic_SmallEvenIdeal_SmallEvenReferenceIdeal (hSmallEvenIdeal := hSmallEvenIdeal) (hSmallEvenReferenceIdeal := hSmallEvenReferenceIdeal)
    ∧ preserves_SmallOdd_SmallOddIdeal
    ∧ algebraic_SmallOddIdeal_SmallOddReferenceIdeal (hSmallOddIdeal := hSmallOddIdeal) (hSmallOddReferenceIdeal := hSmallOddReferenceIdeal)
    ∧ preserves_Out_OutIdeal
    ∧ algebraic_OutIdeal_OutReferenceIdeal (hOutIdeal := hOutIdeal) (hOutReferenceIdeal := hOutReferenceIdeal)
    ∧ preserves_Experts_ExpertsIdeal
    ∧ algebraic_ExpertsIdeal_ExpertsReferenceIdeal (hExpertsIdeal := hExpertsIdeal) (hExpertsReferenceIdeal := hExpertsReferenceIdeal) (hPre_experts_in_range := hPre_experts_in_range)
-- ==== Pre_experts_in_range.lean ====
abbrev S34816x1408 : Shape := ⟨2, ![34816, 1408]⟩
abbrev S22528x4096 : Shape := ⟨2, ![22528, 4096]⟩
abbrev S136 : Shape := ⟨1, ![136]⟩
abbrev S1 : Shape := ⟨1, ![1]⟩
abbrev S_ : Shape := ⟨0, ![]⟩

class Facts : Prop where
  bcast_S_S136 : S_.BroadcastsInDim S136 (![] : Fin 0 → Fin S136.rank)
  reducesTo_S136_S_d0 : S136.ReducesTo [0] S_
  h_S_ : 0 < S_.numel

variable [Facts]

def fn {F : FTy → Type} [FloatOps F] (main_arg0 : FVec F S34816x1408 .bf16) (main_arg1 : FVec F S22528x4096 .bf16) (main_arg2 : IVec S136 32) (main_arg3 : IVec S1 32) : IVec S_ 1 :=
  let main_c : IVec S_ 32 := constantI S_ 32 0#32
  let main_v0 : IVec S136 32 := broadcastInDim S136 ![] bcast_S_S136 main_c
  let main_v1 : IVec S136 1 := cmpi .sge main_arg2 main_v0
  let main_c_0 : IVec S_ 32 := constantI S_ 32 8#32
  let main_v2 : IVec S136 32 := broadcastInDim S136 ![] bcast_S_S136 main_c_0
  let main_v3 : IVec S136 1 := cmpi .slt main_arg2 main_v2
  let main_v4 : IVec S136 1 := andi main_v1 main_v3
  let main_c_1 : IVec S_ 1 := constantI S_ 1 1#1
  let main_v5 : IVec S_ 1 := (fun x v => Host.reduce IntOp.andi x v reducesTo_S136_S_d0 h_S_) main_v4 main_c_1
  main_v5
-- ==== Pre_finite_inputs.lean ====
abbrev S16384x10240 : Shape := ⟨2, ![16384, 10240]⟩
abbrev S4x16x1x4096 : Shape := ⟨4, ![4, 16, 1, 4096]⟩
abbrev S_ : Shape := ⟨0, ![]⟩

class Facts : Prop where
  bitsLt_bf16_f32 : FTy.bits .bf16 < FTy.bits .f32
  bcast_S_S16384x10240 : S_.BroadcastsInDim S16384x10240 (![] : Fin 0 → Fin S16384x10240.rank)
  reducesTo_S16384x10240_S_d0_1 : S16384x10240.ReducesTo [0, 1] S_
  h_S_ : 0 < S_.numel
  bcast_S_S4x16x1x4096 : S_.BroadcastsInDim S4x16x1x4096 (![] : Fin 0 → Fin S4x16x1x4096.rank)
  reducesTo_S4x16x1x4096_S_d0_1_2_3 : S4x16x1x4096.ReducesTo [0, 1, 2, 3] S_

variable [Facts]

def fn_part1 {F : FTy → Type} [FloatOps F] (main_v16 : IVec S_ 1) (main_v17 : FVec F S4x16x1x4096 .f32) : IVec S_ 1 :=
  let main_cst_4 : FVec F S_ .f32 := constant S_ .f32 0x7F800000#32
  let main_v18 : FVec F S4x16x1x4096 .f32 := broadcastInDim S4x16x1x4096 ![] bcast_S_S4x16x1x4096 main_cst_4
  let main_v19 : IVec S4x16x1x4096 1 := cmpf .olt main_v17 main_v18
  let main_c_5 : IVec S_ 1 := constantI S_ 1 1#1
  let main_v20 : IVec S_ 1 := (fun x v => Host.reduce IntOp.andi x v reducesTo_S4x16x1x4096_S_d0_1_2_3 h_S_) main_v19 main_c_5
  let main_v21 : IVec S_ 1 := andi main_v16 main_v20
  main_v21

def fn {F : FTy → Type} [FloatOps F] (main_arg0 : FVec F S16384x10240 .bf16) (main_arg1 : FVec F S16384x10240 .bf16) (main_arg2 : FVec F S16384x10240 .bf16) (main_arg3 : FVec F S4x16x1x4096 .f32) : IVec S_ 1 :=
  let main_v0 : FVec F S16384x10240 .f32 := (extf .f32 · bitsLt_bf16_f32) main_arg0
  let main_v1 : FVec F S16384x10240 .f32 := Host.absf main_v0
  let main_cst : FVec F S_ .f32 := constant S_ .f32 0x7F800000#32
  let main_v2 : FVec F S16384x10240 .f32 := broadcastInDim S16384x10240 ![] bcast_S_S16384x10240 main_cst
  let main_v3 : IVec S16384x10240 1 := cmpf .olt main_v1 main_v2
  let main_c : IVec S_ 1 := constantI S_ 1 1#1
  let main_v4 : IVec S_ 1 := (fun x v => Host.reduce IntOp.andi x v reducesTo_S16384x10240_S_d0_1 h_S_) main_v3 main_c
  let main_v5 : FVec F S16384x10240 .f32 := (extf .f32 · bitsLt_bf16_f32) main_arg1
  let main_v6 : FVec F S16384x10240 .f32 := Host.absf main_v5
  let main_cst_0 : FVec F S_ .f32 := constant S_ .f32 0x7F800000#32
  let main_v7 : FVec F S16384x10240 .f32 := broadcastInDim S16384x10240 ![] bcast_S_S16384x10240 main_cst_0
  let main_v8 : IVec S16384x10240 1 := cmpf .olt main_v6 main_v7
  let main_c_1 : IVec S_ 1 := constantI S_ 1 1#1
  let main_v9 : IVec S_ 1 := (fun x v => Host.reduce IntOp.andi x v reducesTo_S16384x10240_S_d0_1 h_S_) main_v8 main_c_1
  let main_v10 : IVec S_ 1 := andi main_v4 main_v9
  let main_v11 : FVec F S16384x10240 .f32 := (extf .f32 · bitsLt_bf16_f32) main_arg2
  let main_v12 : FVec F S16384x10240 .f32 := Host.absf main_v11
  let main_cst_2 : FVec F S_ .f32 := constant S_ .f32 0x7F800000#32
  let main_v13 : FVec F S16384x10240 .f32 := broadcastInDim S16384x10240 ![] bcast_S_S16384x10240 main_cst_2
  let main_v14 : IVec S16384x10240 1 := cmpf .olt main_v12 main_v13
  let main_c_3 : IVec S_ 1 := constantI S_ 1 1#1
  let main_v15 : IVec S_ 1 := (fun x v => Host.reduce IntOp.andi x v reducesTo_S16384x10240_S_d0_1 h_S_) main_v14 main_c_3
  let main_v16 : IVec S_ 1 := andi main_v10 main_v15
  let main_v17 : FVec F S4x16x1x4096 .f32 := Host.absf main_arg3
  fn_part1 (F := F) main_v16 main_v17
-- ==== Kernel.lean ====
abbrev S16384x10240 : Shape := ⟨2, ![16384, 10240]⟩
abbrev S4x16x1x4096 : Shape := ⟨4, ![4, 16, 1, 4096]⟩
abbrev S10 : Shape := ⟨1, ![10]⟩
abbrev S16384x2048 : Shape := ⟨2, ![16384, 2048]⟩
abbrev S1024x512 : Shape := ⟨2, ![1024, 512]⟩
abbrev S1 : Shape := ⟨1, ![1]⟩
abbrev S1x4x1x1024 : Shape := ⟨4, ![1, 4, 1, 1024]⟩
abbrev S4x1024x128 : Shape := ⟨3, ![4, 1024, 128]⟩
abbrev S1024x128 : Shape := ⟨2, ![1024, 128]⟩
abbrev S1024x1024 : Shape := ⟨2, ![1024, 1024]⟩
abbrev S1x1x1x1024 : Shape := ⟨4, ![1, 1, 1, 1024]⟩
abbrev S1x1024 : Shape := ⟨2, ![1, 1024]⟩
abbrev S1x1024x128 : Shape := ⟨3, ![1, 1024, 128]⟩
abbrev S1024 : Shape := ⟨1, ![1024]⟩
abbrev S1024x1 : Shape := ⟨2, ![1024, 1]⟩

abbrev nBuf : Space → Nat
  | .hbm => 5
  | .vmem => 13
  | .smem => 4
  | _ => 0

abbrev bufTy : (tb : Table) → Fin (tcTables nBuf tb) → BufTy
  | .hbm, ⟨0, _⟩ => ⟨S16384x10240, .bf16⟩
  | .hbm, ⟨1, _⟩ => ⟨S16384x10240, .bf16⟩
  | .hbm, ⟨2, _⟩ => ⟨S16384x10240, .bf16⟩
  | .hbm, ⟨3, _⟩ => ⟨S4x16x1x4096, .f32⟩
  | .hbm, ⟨4, _⟩ => ⟨S16384x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x4x1x1024, .f32⟩
  | .local _ .vmem, ⟨7, _⟩ => ⟨S1x4x1x1024, .f32⟩
  | .local _ .vmem, ⟨8, _⟩ => ⟨S1024x512, .bf16⟩
  | .local _ .vmem, ⟨9, _⟩ => ⟨S1024x512, .bf16⟩
  | .local _ .vmem, ⟨10, _⟩ => ⟨S4x1024x128, .f32⟩
  | .local _ .vmem, ⟨11, _⟩ => ⟨S4x1024x128, .f32⟩
  | .local _ .vmem, ⟨12, _⟩ => ⟨S4x1024x128, .f32⟩
  | .local _ .smem, ⟨0, _⟩ => ⟨S10, .i32⟩
  | .local _ .smem, ⟨1, _⟩ => ⟨S10, .i32⟩
  | .local _ .smem, ⟨2, _⟩ => ⟨S10, .i32⟩
  | .local _ .smem, ⟨3, _⟩ => ⟨S10, .i32⟩
  | _, _ => ⟨S16384x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.smem, 0, rfl⟩
abbrev main_c_0 : Ref sig .tc := ⟨.smem, 1, rfl⟩
abbrev main_c_1 : Ref sig .tc := ⟨.smem, 2, rfl⟩
abbrev main_c_2 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 10], ![false, false, false]⟩

abbrev pre0 : Pipeline.Prefetch sig := ⟨4, ![main_c.idx, main_c_0.idx, main_c_1.idx, main_c_2.idx], fun | 0 => main_c.names | 1 => main_c_0.names | 2 => main_c_1.names | 3 => main_c_2.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg2 : BitVec 32 := BitVec.ofNat 32 (i 2).val
  let v1 : Index := Scalar.indexCast arg2
  ![v1.toNat]
def k0_off2 (i : grid0.Coords) : Fin 1 → Nat :=
  let arg2 : BitVec 32 := BitVec.ofNat 32 (i 2).val
  let v15 : Index := Scalar.indexCast arg2
  ![v15.toNat]
def k0_cond4 (v16 : BitVec 32) : BitVec 1 :=
  let c1_i32_2 : BitVec 32 := 1#32
  let v17 : BitVec 1 := Scalar.cmpi .eq v16 c1_i32_2
  let v18 : BitVec 32 := Scalar.extui v17
  let c0_i32_3 : BitVec 32 := 0#32
  let v19 : BitVec 1 := Scalar.cmpi .ne v18 c0_i32_3
  v19

def cc0_transform_0 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 0 (Rect.unit (s := S10) ![v1.toNat] S1.size (k0_off1_inb i)) numel1_S1
  let v3 : BitVec 32 := Scalar.addi v0 v2
  let c0_i32 : BitVec 32 := 0#32
  let v4 : BitVec 32 := Scalar.addi c0_i32 arg1
  let c0_i32_0 : BitVec 32 := 0#32
  ![v3.toNat, v4.toNat]

def cc0_transform_1 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 1 (Rect.unit (s := S10) ![v1.toNat] S1.size (k0_off1_inb i)) numel1_S1
  let v3 : BitVec 32 := Scalar.addi v0 v2
  let c4_i32_0 : BitVec 32 := 4#32
  let v4 : BitVec 32 := Scalar.addi c4_i32_0 arg1
  let c0_i32 : BitVec 32 := 0#32
  ![v3.toNat, v4.toNat]

def cc0_transform_2 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 1 (Rect.unit (s := S10) ![v1.toNat] S1.size (k0_off1_inb i)) numel1_S1
  let v3 : BitVec 32 := Scalar.addi v0 v2
  let c8_i32 : BitVec 32 := 8#32
  let v4 : BitVec 32 := Scalar.addi c8_i32 arg1
  let c0_i32 : BitVec 32 := 0#32
  ![v3.toNat, v4.toNat]

def cc0_transform_3 (k0_off1_inb : ∀ i : grid0.Coords, ∀ a, (k0_off1 i) a + S1.size a ≤ S10.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 1 (Rect.unit (s := S10) ![v0.toNat] S1.size (k0_off1_inb i)) numel1_S1
  let c0_i32 : BitVec 32 := 0#32
  let c0_i32_0 : BitVec 32 := 0#32
  ![arg0.toNat, arg1.toNat, c0_i32.toNat, v1.toNat]

def cc0_transform_4 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 0 (Rect.unit (s := S10) ![v1.toNat] S1.size (k0_off1_inb i)) numel1_S1
  let v3 : BitVec 32 := Scalar.addi v0 v2
  let c0_i32 : BitVec 32 := 0#32
  ![v3.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S16384x10240 : Shape := ⟨2, ![16384, 10240]⟩
abbrev S4x16x1x4096 : Shape := ⟨4, ![4, 16, 1, 4096]⟩
abbrev S16384x2048 : Shape := ⟨2, ![16384, 2048]⟩
abbrev S4x4096x16x128 : Shape := ⟨4, ![4, 4096, 16, 128]⟩
abbrev S4x16x4096 : Shape := ⟨3, ![4, 16, 4096]⟩
abbrev S4x16x4096x4096 : Shape := ⟨4, ![4, 16, 4096, 4096]⟩
abbrev S_ : Shape := ⟨0, ![]⟩
abbrev S4x16x4096x1 : Shape := ⟨4, ![4, 16, 4096, 1]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x16x128x4096 : Shape := ⟨4, ![4, 16, 128, 4096]⟩

abbrev nBuf : Space → Nat
  | .hbm => 65
  | .vmem => 0
  | .smem => 0
  | _ => 0

abbrev bufTy : (tb : Table) → Fin (tcTables nBuf tb) → BufTy
  | .hbm, ⟨0, _⟩ => ⟨S16384x10240, .bf16⟩
  | .hbm, ⟨1, _⟩ => ⟨S16384x10240, .bf16⟩
  | .hbm, ⟨2, _⟩ => ⟨S16384x10240, .bf16⟩
  | .hbm, ⟨3, _⟩ => ⟨S4x16x1x4096, .f32⟩
  | .hbm, ⟨4, _⟩ => ⟨S16384x2048, .bf16⟩
  | .hbm, ⟨5, _⟩ => ⟨S16384x2048, .f32⟩
  | .hbm, ⟨6, _⟩ => ⟨S4x4096x16x128, .f32⟩
  | .hbm, ⟨7, _⟩ => ⟨S16384x2048, .bf16⟩
  | .hbm, ⟨8, _⟩ => ⟨S16384x2048, .f32⟩
  | .hbm, ⟨9, _⟩ => ⟨S4x4096x16x128, .f32⟩
  | .hbm, ⟨10, _⟩ => ⟨S16384x2048, .bf16⟩
  | .hbm, ⟨11, _⟩ => ⟨S16384x2048, .f32⟩
  | .hbm, ⟨12, _⟩ => ⟨S4x4096x16x128, .f32⟩
  | .hbm, ⟨13, _⟩ => ⟨S4x16x4096, .f32⟩
  | .hbm, ⟨14, _⟩ => ⟨S4x16x4096x4096, .f32⟩
  | .hbm, ⟨15, _⟩ => ⟨S_, .f32⟩
  | .hbm, ⟨16, _⟩ => ⟨S4x16x4096x4096, .f32⟩
  | .hbm, ⟨17, _⟩ => ⟨S4x16x4096x4096, .f32⟩
  | .hbm, ⟨18, _⟩ => ⟨S4x16x4096x1, .f32⟩
  | .hbm, ⟨19, _⟩ => ⟨S4x16x4096x4096, .f32⟩
  | .hbm, ⟨20, _⟩ => ⟨S4x16x4096x4096, .f32⟩
  | .hbm, ⟨21, _⟩ => ⟨S4x16x1x4096, .f32⟩
  | .hbm, ⟨22, _⟩ => ⟨S4x16x4096x4096, .f32⟩
  | .hbm, ⟨23, _⟩ => ⟨S4x16x4096x4096, .f32⟩
  | .hbm, ⟨24, _⟩ => ⟨S4096, .i32⟩
  | .hbm, ⟨25, _⟩ => ⟨S1x4096, .i32⟩
  | .hbm, ⟨26, _⟩ => ⟨S4096x1, .i32⟩
  | .hbm, ⟨27, _⟩ => ⟨S4096x4096, .i32⟩
  | .hbm, ⟨28, _⟩ => ⟨S4096x4096, .i32⟩
  | .hbm, ⟨29, _⟩ => ⟨S4096x4096, .i1⟩
  | .hbm, ⟨30, _⟩ => ⟨S_, .f32⟩
  | .hbm, ⟨31, _⟩ => ⟨S_, .f32⟩
  | .hbm, ⟨32, _⟩ => ⟨S4x16x4096x4096, .i1⟩
  | .hbm, ⟨33, _⟩ => ⟨S4x16x4096x4096, .f32⟩
  | .hbm, ⟨34, _⟩ => ⟨S4x16x4096x4096, .f32⟩
  | .hbm, ⟨35, _⟩ => ⟨S_, .f32⟩
  | .hbm, ⟨36, _⟩ => ⟨S4x16x4096, .f32⟩
  | .hbm, ⟨37, _⟩ => ⟨S4x16x4096x1, .f32⟩
  | .hbm, ⟨38, _⟩ => ⟨S4x16x4096x1, .f32⟩
  | .hbm, ⟨39, _⟩ => ⟨S_, .f32⟩
  | .hbm, ⟨40, _⟩ => ⟨S4x16x4096x1, .f32⟩
  | .hbm, ⟨41, _⟩ => ⟨S4x16x4096x1, .i1⟩
  | .hbm, ⟨42, _⟩ => ⟨S_, .f32⟩
  | .hbm, ⟨43, _⟩ => ⟨S_, .f32⟩
  | .hbm, ⟨44, _⟩ => ⟨S4x16x4096x1, .f32⟩
  | .hbm, ⟨45, _⟩ => ⟨S4x16x4096x1, .f32⟩
  | .hbm, ⟨46, _⟩ => ⟨S4x16x4096x4096, .f32⟩
  | .hbm, ⟨47, _⟩ => ⟨S4x16x4096x4096, .f32⟩
  | .hbm, ⟨48, _⟩ => ⟨S4x16x4096x4096, .f32⟩
  | .hbm, ⟨49, _⟩ => ⟨S_, .f32⟩
  | .hbm, ⟨50, _⟩ => ⟨S4x16x4096, .f32⟩
  | .hbm, ⟨51, _⟩ => ⟨S4x16x4096x1, .f32⟩
  | .hbm, ⟨52, _⟩ => ⟨S_, .f32⟩
  | .hbm, ⟨53, _⟩ => ⟨S4x16x4096x1, .f32⟩
  | .hbm, ⟨54, _⟩ => ⟨S4x16x4096x1, .i1⟩
  | .hbm, ⟨55, _⟩ => ⟨S_, .f32⟩
  | .hbm, ⟨56, _⟩ => ⟨S_, .f32⟩
  | .hbm, ⟨57, _⟩ => ⟨S4x16x4096x1, .f32⟩
  | .hbm, ⟨58, _⟩ => ⟨S4x16x4096x1, .f32⟩
  | .hbm, ⟨59, _⟩ => ⟨S4x16x4096x4096, .f32⟩
  | .hbm, ⟨60, _⟩ => ⟨S4x16x4096x4096, .f32⟩
  | .hbm, ⟨61, _⟩ => ⟨S4x16x128x4096, .f32⟩
  | .hbm, ⟨62, _⟩ => ⟨S4x4096x16x128, .f32⟩
  | .hbm, ⟨63, _⟩ => ⟨S16384x2048, .f32⟩
  | .hbm, ⟨64, _⟩ => ⟨S16384x2048, .bf16⟩
  | _, _ => ⟨S16384x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_call1_v0 : Ref sig .tc := ⟨.hbm, 43, rfl⟩
abbrev main_call1_v1 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_call2_v0 : Ref sig .tc := ⟨.hbm, 56, rfl⟩
abbrev main_call2_v1 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]
-- ==== Ffn.lean ====
abbrev S16384x4096 : Shape := ⟨2, ![16384, 4096]⟩
abbrev S2x4096x11008 : Shape := ⟨3, ![2, 4096, 11008]⟩
abbrev S2x11008x4096 : Shape := ⟨3, ![2, 11008, 4096]⟩
abbrev S8192x11008 : Shape := ⟨2, ![8192, 11008]⟩
abbrev S1x256x11008 : Shape := ⟨3, ![1, 256, 11008]⟩
abbrev S256x11008 : Shape := ⟨2, ![256, 11008]⟩
abbrev S22016x4096 : Shape := ⟨2, ![22016, 4096]⟩
abbrev S1x256x4096 : Shape := ⟨3, ![1, 256, 4096]⟩
abbrev S256x4096 : Shape := ⟨2, ![256, 4096]⟩
abbrev S16384x11008 : Shape := ⟨2, ![16384, 11008]⟩
abbrev S1024x4096 : Shape := ⟨2, ![1024, 4096]⟩
abbrev S4096x256 : Shape := ⟨2, ![4096, 256]⟩
abbrev S1024x256 : Shape := ⟨2, ![1024, 256]⟩
abbrev S512x11008 : Shape := ⟨2, ![512, 11008]⟩
abbrev S11008x512 : Shape := ⟨2, ![11008, 512]⟩
abbrev S512x512 : Shape := ⟨2, ![512, 512]⟩

abbrev nBuf : Space → Nat
  | .hbm => 9
  | .vmem => 26
  | .smem => 0
  | _ => 0

abbrev bufTy : (tb : Table) → Fin (tcTables nBuf tb) → BufTy
  | .hbm, ⟨0, _⟩ => ⟨S16384x4096, .bf16⟩
  | .hbm, ⟨1, _⟩ => ⟨S2x4096x11008, .f32⟩
  | .hbm, ⟨2, _⟩ => ⟨S2x4096x11008, .f32⟩
  | .hbm, ⟨3, _⟩ => ⟨S2x11008x4096, .f32⟩
  | .hbm, ⟨4, _⟩ => ⟨S8192x11008, .bf16⟩
  | .hbm, ⟨5, _⟩ => ⟨S8192x11008, .bf16⟩
  | .hbm, ⟨6, _⟩ => ⟨S22016x4096, .bf16⟩
  | .hbm, ⟨7, _⟩ => ⟨S16384x11008, .bf16⟩
  | .hbm, ⟨8, _⟩ => ⟨S16384x4096, .bf16⟩
  | .local _ .vmem, ⟨0, _⟩ => ⟨S1x256x11008, .f32⟩
  | .local _ .vmem, ⟨1, _⟩ => ⟨S1x256x11008, .f32⟩
  | .local _ .vmem, ⟨2, _⟩ => ⟨S256x11008, .bf16⟩
  | .local _ .vmem, ⟨3, _⟩ => ⟨S256x11008, .bf16⟩
  | .local _ .vmem, ⟨4, _⟩ => ⟨S1x256x11008, .f32⟩
  | .local _ .vmem, ⟨5, _⟩ => ⟨S1x256x11008, .f32⟩
  | .local _ .vmem, ⟨6, _⟩ => ⟨S256x11008, .bf16⟩
  | .local _ .vmem, ⟨7, _⟩ => ⟨S256x11008, .bf16⟩
  | .local _ .vmem, ⟨8, _⟩ => ⟨S1x256x4096, .f32⟩
  | .local _ .vmem, ⟨9, _⟩ => ⟨S1x256x4096, .f32⟩
  | .local _ .vmem, ⟨10, _⟩ => ⟨S256x4096, .bf16⟩
  | .local _ .vmem, ⟨11, _⟩ => ⟨S256x4096, .bf16⟩
  | .local _ .vmem, ⟨12, _⟩ => ⟨S1024x4096, .bf16⟩
  | .local _ .vmem, ⟨13, _⟩ => ⟨S1024x4096, .bf16⟩
  | .local _ .vmem, ⟨14, _⟩ => ⟨S4096x256, .bf16⟩
  | .local _ .vmem, ⟨15, _⟩ => ⟨S4096x256, .bf16⟩
  | .local _ .vmem, ⟨16, _⟩ => ⟨S4096x256, .bf16⟩
  | .local _ .vmem, ⟨17, _⟩ => ⟨S4096x256, .bf16⟩
  | .local _ .vmem, ⟨18, _⟩ => ⟨S1024x256, .bf16⟩
  | .local _ .vmem, ⟨19, _⟩ => ⟨S1024x256, .bf16⟩
  | .local _ .vmem, ⟨20, _⟩ => ⟨S512x11008, .bf16⟩
  | .local _ .vmem, ⟨21, _⟩ => ⟨S512x11008, .bf16⟩
  | .local _ .vmem, ⟨22, _⟩ => ⟨S11008x512, .bf16⟩
  | .local _ .vmem, ⟨23, _⟩ => ⟨S11008x512, .bf16⟩
  | .local _ .vmem, ⟨24, _⟩ => ⟨S512x512, .bf16⟩
  | .local _ .vmem, ⟨25, _⟩ => ⟨S512x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc3_stg2_0 : Ref sig .tc := ⟨.vmem, 16, rfl⟩
abbrev cc3_stg2_1 : Ref sig .tc := ⟨.vmem, 17, rfl⟩
abbrev cc3_stg3_0 : Ref sig .tc := ⟨.vmem, 18, rfl⟩
abbrev cc3_stg3_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg2_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem0_1 : DmaSem sig := 13
abbrev cc3_sem1_0 : DmaSem sig := 14
abbrev cc3_sem1_1 : DmaSem sig := 15
abbrev cc3_sem2_0 : DmaSem sig := 16
abbrev cc3_sem2_1 : DmaSem sig := 17
abbrev cc3_sem3_0 : DmaSem sig := 18
abbrev cc3_sem3_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem2_1 : DmaSem sig := 25

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x256x11008 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x11008 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![2, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S1x256x11008 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x11008 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev grid2 : Pipeline.Grid := ⟨2, ![2, 43], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c0_i32 : BitVec 32 := 0#32
  let c0_i32_0 : BitVec 32 := 0#32
  ![v1.toNat, c0_i32.toNat]

abbrev stage2_0 : Fin 2 → Memref sig .tc .vmem S1x256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S256x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev grid3 : Pipeline.Grid := ⟨2, ![16, 43], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc3_transform_2 (i : grid3.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4096x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S4096x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1024x256 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![32, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  ![c1_i32.toNat, v0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S512x11008 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S11008x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S512x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]
-- ==== FfnReferenceIdeal.lean ====
abbrev S16384x4096 : Shape := ⟨2, ![16384, 4096]⟩
abbrev S2x4096x11008 : Shape := ⟨3, ![2, 4096, 11008]⟩
abbrev S2x11008x4096 : Shape := ⟨3, ![2, 11008, 4096]⟩
abbrev S1x4096x11008 : Shape := ⟨3, ![1, 4096, 11008]⟩
abbrev S4096x11008 : Shape := ⟨2, ![4096, 11008]⟩
abbrev S16384x11008 : Shape := ⟨2, ![16384, 11008]⟩
abbrev S_ : Shape := ⟨0, ![]⟩
abbrev S1x11008x4096 : Shape := ⟨3, ![1, 11008, 4096]⟩
abbrev S11008x4096 : Shape := ⟨2, ![11008, 4096]⟩

abbrev nBuf : Space → Nat
  | .hbm => 25
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x11008, .f32⟩
  | .hbm, ⟨2, _⟩ => ⟨S2x4096x11008, .f32⟩
  | .hbm, ⟨3, _⟩ => ⟨S2x11008x4096, .f32⟩
  | .hbm, ⟨4, _⟩ => ⟨S16384x4096, .f32⟩
  | .hbm, ⟨5, _⟩ => ⟨S1x4096x11008, .f32⟩
  | .hbm, ⟨6, _⟩ => ⟨S4096x11008, .f32⟩
  | .hbm, ⟨7, _⟩ => ⟨S16384x11008, .f32⟩
  | .hbm, ⟨8, _⟩ => ⟨S16384x11008, .f32⟩
  | .hbm, ⟨9, _⟩ => ⟨S16384x11008, .f32⟩
  | .hbm, ⟨10, _⟩ => ⟨S_, .f32⟩
  | .hbm, ⟨11, _⟩ => ⟨S16384x11008, .f32⟩
  | .hbm, ⟨12, _⟩ => ⟨S16384x11008, .f32⟩
  | .hbm, ⟨13, _⟩ => ⟨S_, .f32⟩
  | .hbm, ⟨14, _⟩ => ⟨S16384x11008, .f32⟩
  | .hbm, ⟨15, _⟩ => ⟨S16384x11008, .f32⟩
  | .hbm, ⟨16, _⟩ => ⟨S16384x11008, .f32⟩
  | .hbm, ⟨17, _⟩ => ⟨S1x4096x11008, .f32⟩
  | .hbm, ⟨18, _⟩ => ⟨S4096x11008, .f32⟩
  | .hbm, ⟨19, _⟩ => ⟨S16384x11008, .f32⟩
  | .hbm, ⟨20, _⟩ => ⟨S16384x11008, .f32⟩
  | .hbm, ⟨21, _⟩ => ⟨S1x11008x4096, .f32⟩
  | .hbm, ⟨22, _⟩ => ⟨S11008x4096, .f32⟩
  | .hbm, ⟨23, _⟩ => ⟨S16384x4096, .f32⟩
  | .hbm, ⟨24, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]
-- ==== PackEven.lean ====
abbrev S2x4096x11344 : Shape := ⟨3, ![2, 4096, 11344]⟩
abbrev S8192x11392 : Shape := ⟨2, ![8192, 11392]⟩
abbrev S1x256x11344 : Shape := ⟨3, ![1, 256, 11344]⟩
abbrev S256x11392 : Shape := ⟨2, ![256, 11392]⟩
abbrev S1x256x5120 : Shape := ⟨3, ![1, 256, 5120]⟩
abbrev S256x5120 : Shape := ⟨2, ![256, 5120]⟩
abbrev S1x256x6144 : Shape := ⟨3, ![1, 256, 6144]⟩
abbrev S256x6144 : Shape := ⟨2, ![256, 6144]⟩
abbrev S1x256x48 : Shape := ⟨3, ![1, 256, 48]⟩
abbrev S256x48 : Shape := ⟨2, ![256, 48]⟩
abbrev S1x256x32 : Shape := ⟨3, ![1, 256, 32]⟩
abbrev S256x32 : Shape := ⟨2, ![256, 32]⟩

abbrev nBuf : Space → Nat
  | .hbm => 2
  | .vmem => 4
  | .smem => 0
  | _ => 0

abbrev bufTy : (tb : Table) → Fin (tcTables nBuf tb) → BufTy
  | .hbm, ⟨0, _⟩ => ⟨S2x4096x11344, .f32⟩
  | .hbm, ⟨1, _⟩ => ⟨S8192x11392, .bf16⟩
  | .local _ .vmem, ⟨0, _⟩ => ⟨S1x256x11344, .f32⟩
  | .local _ .vmem, ⟨1, _⟩ => ⟨S1x256x11344, .f32⟩
  | .local _ .vmem, ⟨2, _⟩ => ⟨S256x11392, .bf16⟩
  | .local _ .vmem, ⟨3, _⟩ => ⟨S256x11392, .bf16⟩
  | _, _ => ⟨S2x4096x11344, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x256x11344 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x11392 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== PackEvenReferenceIdeal.lean ====
abbrev S2x4096x11344 : Shape := ⟨3, ![2, 4096, 11344]⟩
abbrev S_ : Shape := ⟨0, ![]⟩
abbrev S2x4096x48 : Shape := ⟨3, ![2, 4096, 48]⟩
abbrev S2x4096x5120 : Shape := ⟨3, ![2, 4096, 5120]⟩
abbrev S2x4096x6144 : Shape := ⟨3, ![2, 4096, 6144]⟩
abbrev S2x4096x32 : Shape := ⟨3, ![2, 4096, 32]⟩
abbrev S2x4096x11392 : Shape := ⟨3, ![2, 4096, 11392]⟩
abbrev S8192x11392 : Shape := ⟨2, ![8192, 11392]⟩

abbrev nBuf : Space → Nat
  | .hbm => 10
  | .vmem => 0
  | .smem => 0
  | _ => 0

abbrev bufTy : (tb : Table) → Fin (tcTables nBuf tb) → BufTy
  | .hbm, ⟨0, _⟩ => ⟨S2x4096x11344, .f32⟩
  | .hbm, ⟨1, _⟩ => ⟨S_, .f32⟩
  | .hbm, ⟨2, _⟩ => ⟨S2x4096x48, .f32⟩
  | .hbm, ⟨3, _⟩ => ⟨S2x4096x5120, .f32⟩
  | .hbm, ⟨4, _⟩ => ⟨S2x4096x6144, .f32⟩
  | .hbm, ⟨5, _⟩ => ⟨S2x4096x48, .f32⟩
  | .hbm, ⟨6, _⟩ => ⟨S2x4096x32, .f32⟩
  | .hbm, ⟨7, _⟩ => ⟨S2x4096x11392, .f32⟩
  | .hbm, ⟨8, _⟩ => ⟨S8192x11392, .f32⟩
  | .hbm, ⟨9, _⟩ => ⟨S8192x11392, .bf16⟩
  | _, _ => ⟨S2x4096x11344, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== PackOdd.lean ====
abbrev S2x4096x10256 : Shape := ⟨3, ![2, 4096, 10256]⟩
abbrev S8192x10368 : Shape := ⟨2, ![8192, 10368]⟩
abbrev S1x256x10256 : Shape := ⟨3, ![1, 256, 10256]⟩
abbrev S256x10368 : Shape := ⟨2, ![256, 10368]⟩
abbrev S1x256x6144 : Shape := ⟨3, ![1, 256, 6144]⟩
abbrev S256x6144 : Shape := ⟨2, ![256, 6144]⟩
abbrev S1x256x4096 : Shape := ⟨3, ![1, 256, 4096]⟩
abbrev S256x4096 : Shape := ⟨2, ![256, 4096]⟩
abbrev S1x256x16 : Shape := ⟨3, ![1, 256, 16]⟩
abbrev S256x16 : Shape := ⟨2, ![256, 16]⟩

abbrev nBuf : Space → Nat
  | .hbm => 2
  | .vmem => 4
  | .smem => 0
  | _ => 0

abbrev bufTy : (tb : Table) → Fin (tcTables nBuf tb) → BufTy
  | .hbm, ⟨0, _⟩ => ⟨S2x4096x10256, .f32⟩
  | .hbm, ⟨1, _⟩ => ⟨S8192x10368, .bf16⟩
  | .local _ .vmem, ⟨0, _⟩ => ⟨S1x256x10256, .f32⟩
  | .local _ .vmem, ⟨1, _⟩ => ⟨S1x256x10256, .f32⟩
  | .local _ .vmem, ⟨2, _⟩ => ⟨S256x10368, .bf16⟩
  | .local _ .vmem, ⟨3, _⟩ => ⟨S256x10368, .bf16⟩
  | _, _ => ⟨S2x4096x10256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x256x10256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x10368 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== PackOddReferenceIdeal.lean ====
abbrev S2x4096x10256 : Shape := ⟨3, ![2, 4096, 10256]⟩
abbrev S_ : Shape := ⟨0, ![]⟩
abbrev S2x4096x112 : Shape := ⟨3, ![2, 4096, 112]⟩
abbrev S2x4096x6144 : Shape := ⟨3, ![2, 4096, 6144]⟩
abbrev S2x4096x4096 : Shape := ⟨3, ![2, 4096, 4096]⟩
abbrev S2x4096x16 : Shape := ⟨3, ![2, 4096, 16]⟩
abbrev S2x4096x10368 : Shape := ⟨3, ![2, 4096, 10368]⟩
abbrev S8192x10368 : Shape := ⟨2, ![8192, 10368]⟩

abbrev nBuf : Space → Nat
  | .hbm => 9
  | .vmem => 0
  | .smem => 0
  | _ => 0

abbrev bufTy : (tb : Table) → Fin (tcTables nBuf tb) → BufTy
  | .hbm, ⟨0, _⟩ => ⟨S2x4096x10256, .f32⟩
  | .hbm, ⟨1, _⟩ => ⟨S_, .f32⟩
  | .hbm, ⟨2, _⟩ => ⟨S2x4096x112, .f32⟩
  | .hbm, ⟨3, _⟩ => ⟨S2x4096x6144, .f32⟩
  | .hbm, ⟨4, _⟩ => ⟨S2x4096x4096, .f32⟩
  | .hbm, ⟨5, _⟩ => ⟨S2x4096x16, .f32⟩
  | .hbm, ⟨6, _⟩ => ⟨S2x4096x10368, .f32⟩
  | .hbm, ⟨7, _⟩ => ⟨S8192x10368, .f32⟩
  | .hbm, ⟨8, _⟩ => ⟨S8192x10368, .bf16⟩
  | _, _ => ⟨S2x4096x10256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== InEven.lean ====
abbrev S16384x4096 : Shape := ⟨2, ![16384, 4096]⟩
abbrev S8192x11392 : Shape := ⟨2, ![8192, 11392]⟩
abbrev S16384x11264 : Shape := ⟨2, ![16384, 11264]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S8192x11392, .bf16⟩
  | .hbm, ⟨2, _⟩ => ⟨S16384x11264, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let c0_i32_0 : BitVec 32 := 0#32
  ![c1_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InEvenReferenceIdeal.lean ====
abbrev S16384x4096 : Shape := ⟨2, ![16384, 4096]⟩
abbrev S8192x11392 : Shape := ⟨2, ![8192, 11392]⟩
abbrev S2x4096x11392 : Shape := ⟨3, ![2, 4096, 11392]⟩
abbrev S1x4096x11264 : Shape := ⟨3, ![1, 4096, 11264]⟩
abbrev S4096x11264 : Shape := ⟨2, ![4096, 11264]⟩
abbrev S16384x11264 : Shape := ⟨2, ![16384, 11264]⟩

abbrev nBuf : Space → Nat
  | .hbm => 9
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S8192x11392, .bf16⟩
  | .hbm, ⟨2, _⟩ => ⟨S2x4096x11392, .bf16⟩
  | .hbm, ⟨3, _⟩ => ⟨S1x4096x11264, .bf16⟩
  | .hbm, ⟨4, _⟩ => ⟨S4096x11264, .bf16⟩
  | .hbm, ⟨5, _⟩ => ⟨S4096x11264, .f32⟩
  | .hbm, ⟨6, _⟩ => ⟨S16384x4096, .f32⟩
  | .hbm, ⟨7, _⟩ => ⟨S16384x11264, .f32⟩
  | .hbm, ⟨8, _⟩ => ⟨S16384x11264, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== InOdd.lean ====
abbrev S16384x4096 : Shape := ⟨2, ![16384, 4096]⟩
abbrev S8192x10368 : Shape := ⟨2, ![8192, 10368]⟩
abbrev S16384x10240 : Shape := ⟨2, ![16384, 10240]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S8192x10368, .bf16⟩
  | .hbm, ⟨2, _⟩ => ⟨S16384x10240, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![10, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let c0_i32_0 : BitVec 32 := 0#32
  ![c1_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InOddReferenceIdeal.lean ====
abbrev S16384x4096 : Shape := ⟨2, ![16384, 4096]⟩
abbrev S8192x10368 : Shape := ⟨2, ![8192, 10368]⟩
abbrev S2x4096x10368 : Shape := ⟨3, ![2, 4096, 10368]⟩
abbrev S1x4096x10240 : Shape := ⟨3, ![1, 4096, 10240]⟩
abbrev S4096x10240 : Shape := ⟨2, ![4096, 10240]⟩
abbrev S16384x10240 : Shape := ⟨2, ![16384, 10240]⟩

abbrev nBuf : Space → Nat
  | .hbm => 9
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S8192x10368, .bf16⟩
  | .hbm, ⟨2, _⟩ => ⟨S2x4096x10368, .bf16⟩
  | .hbm, ⟨3, _⟩ => ⟨S1x4096x10240, .bf16⟩
  | .hbm, ⟨4, _⟩ => ⟨S4096x10240, .bf16⟩
  | .hbm, ⟨5, _⟩ => ⟨S4096x10240, .f32⟩
  | .hbm, ⟨6, _⟩ => ⟨S16384x4096, .f32⟩
  | .hbm, ⟨7, _⟩ => ⟨S16384x10240, .f32⟩
  | .hbm, ⟨8, _⟩ => ⟨S16384x10240, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== SmallEven.lean ====
abbrev S16384x4096 : Shape := ⟨2, ![16384, 4096]⟩
abbrev S8192x11392 : Shape := ⟨2, ![8192, 11392]⟩
abbrev S16384x128 : Shape := ⟨2, ![16384, 128]⟩
abbrev S512x4096 : Shape := ⟨2, ![512, 4096]⟩
abbrev S4096x128 : Shape := ⟨2, ![4096, 128]⟩
abbrev S512x128 : Shape := ⟨2, ![512, 128]⟩

abbrev nBuf : Space → Nat
  | .hbm => 3
  | .vmem => 5
  | .smem => 0
  | _ => 0

abbrev bufTy : (tb : Table) → Fin (tcTables nBuf tb) → BufTy
  | .hbm, ⟨0, _⟩ => ⟨S16384x4096, .bf16⟩
  | .hbm, ⟨1, _⟩ => ⟨S8192x11392, .bf16⟩
  | .hbm, ⟨2, _⟩ => ⟨S16384x128, .f32⟩
  | .local _ .vmem, ⟨0, _⟩ => ⟨S512x4096, .bf16⟩
  | .local _ .vmem, ⟨1, _⟩ => ⟨S512x4096, .bf16⟩
  | .local _ .vmem, ⟨2, _⟩ => ⟨S4096x128, .bf16⟩
  | .local _ .vmem, ⟨3, _⟩ => ⟨S512x128, .f32⟩
  | .local _ .vmem, ⟨4, _⟩ => ⟨S512x128, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c88_i32 : BitVec 32 := 88#32
  let v0 : BitVec 32 := Scalar.addi c88_i32 arg0
  let c1_i32 : BitVec 32 := 1#32
  let c0_i32 : BitVec 32 := 0#32
  ![c1_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SmallEvenReferenceIdeal.lean ====
abbrev S16384x4096 : Shape := ⟨2, ![16384, 4096]⟩
abbrev S8192x11392 : Shape := ⟨2, ![8192, 11392]⟩
abbrev S2x4096x11392 : Shape := ⟨3, ![2, 4096, 11392]⟩
abbrev S1x4096x128 : Shape := ⟨3, ![1, 4096, 128]⟩
abbrev S4096x128 : Shape := ⟨2, ![4096, 128]⟩
abbrev S16384x128 : Shape := ⟨2, ![16384, 128]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S8192x11392, .bf16⟩
  | .hbm, ⟨2, _⟩ => ⟨S2x4096x11392, .bf16⟩
  | .hbm, ⟨3, _⟩ => ⟨S1x4096x128, .bf16⟩
  | .hbm, ⟨4, _⟩ => ⟨S4096x128, .bf16⟩
  | .hbm, ⟨5, _⟩ => ⟨S4096x128, .f32⟩
  | .hbm, ⟨6, _⟩ => ⟨S16384x4096, .f32⟩
  | .hbm, ⟨7, _⟩ => ⟨S16384x128, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== SmallOdd.lean ====
abbrev S16384x4096 : Shape := ⟨2, ![16384, 4096]⟩
abbrev S8192x10368 : Shape := ⟨2, ![8192, 10368]⟩
abbrev S16384x128 : Shape := ⟨2, ![16384, 128]⟩
abbrev S512x4096 : Shape := ⟨2, ![512, 4096]⟩
abbrev S4096x128 : Shape := ⟨2, ![4096, 128]⟩
abbrev S512x128 : Shape := ⟨2, ![512, 128]⟩

abbrev nBuf : Space → Nat
  | .hbm => 3
  | .vmem => 5
  | .smem => 0
  | _ => 0

abbrev bufTy : (tb : Table) → Fin (tcTables nBuf tb) → BufTy
  | .hbm, ⟨0, _⟩ => ⟨S16384x4096, .bf16⟩
  | .hbm, ⟨1, _⟩ => ⟨S8192x10368, .bf16⟩
  | .hbm, ⟨2, _⟩ => ⟨S16384x128, .f32⟩
  | .local _ .vmem, ⟨0, _⟩ => ⟨S512x4096, .bf16⟩
  | .local _ .vmem, ⟨1, _⟩ => ⟨S512x4096, .bf16⟩
  | .local _ .vmem, ⟨2, _⟩ => ⟨S4096x128, .bf16⟩
  | .local _ .vmem, ⟨3, _⟩ => ⟨S512x128, .f32⟩
  | .local _ .vmem, ⟨4, _⟩ => ⟨S512x128, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.addi c80_i32 arg0
  let c1_i32 : BitVec 32 := 1#32
  let c0_i32 : BitVec 32 := 0#32
  ![c1_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SmallOddReferenceIdeal.lean ====
abbrev S16384x4096 : Shape := ⟨2, ![16384, 4096]⟩
abbrev S8192x10368 : Shape := ⟨2, ![8192, 10368]⟩
abbrev S2x4096x10368 : Shape := ⟨3, ![2, 4096, 10368]⟩
abbrev S1x4096x128 : Shape := ⟨3, ![1, 4096, 128]⟩
abbrev S4096x128 : Shape := ⟨2, ![4096, 128]⟩
abbrev S16384x128 : Shape := ⟨2, ![16384, 128]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S8192x10368, .bf16⟩
  | .hbm, ⟨2, _⟩ => ⟨S2x4096x10368, .bf16⟩
  | .hbm, ⟨3, _⟩ => ⟨S1x4096x128, .bf16⟩
  | .hbm, ⟨4, _⟩ => ⟨S4096x128, .bf16⟩
  | .hbm, ⟨5, _⟩ => ⟨S4096x128, .f32⟩
  | .hbm, ⟨6, _⟩ => ⟨S16384x4096, .f32⟩
  | .hbm, ⟨7, _⟩ => ⟨S16384x128, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Out.lean ====
abbrev S16384x4096 : Shape := ⟨2, ![16384, 4096]⟩
abbrev S2x4096x4096 : Shape := ⟨3, ![2, 4096, 4096]⟩
abbrev S8192x4096 : Shape := ⟨2, ![8192, 4096]⟩
abbrev S1x256x4096 : Shape := ⟨3, ![1, 256, 4096]⟩
abbrev S256x4096 : Shape := ⟨2, ![256, 4096]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 4
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S2x4096x4096, .f32⟩
  | .hbm, ⟨2, _⟩ => ⟨S8192x4096, .bf16⟩
  | .hbm, ⟨3, _⟩ => ⟨S16384x4096, .bf16⟩
  | .local _ .vmem, ⟨0, _⟩ => ⟨S1x256x4096, .f32⟩
  | .local _ .vmem, ⟨1, _⟩ => ⟨S1x256x4096, .f32⟩
  | .local _ .vmem, ⟨2, _⟩ => ⟨S256x4096, .bf16⟩
  | .local _ .vmem, ⟨3, _⟩ => ⟨S256x4096, .bf16⟩
  | .local _ .vmem, ⟨4, _⟩ => ⟨S512x4096, .bf16⟩
  | .local _ .vmem, ⟨5, _⟩ => ⟨S512x4096, .bf16⟩
  | .local _ .vmem, ⟨6, _⟩ => ⟨S4096x1024, .bf16⟩
  | .local _ .vmem, ⟨7, _⟩ => ⟨S4096x1024, .bf16⟩
  | .local _ .vmem, ⟨8, _⟩ => ⟨S512x1024, .bf16⟩
  | .local _ .vmem, ⟨9, _⟩ => ⟨S512x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![4, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let c0_i32_0 : BitVec 32 := 0#32
  ![c1_i32.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== OutReferenceIdeal.lean ====
abbrev S16384x4096 : Shape := ⟨2, ![16384, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x4096, .f32⟩
  | .hbm, ⟨2, _⟩ => ⟨S16384x4096, .f32⟩
  | .hbm, ⟨3, _⟩ => ⟨S1x4096x4096, .f32⟩
  | .hbm, ⟨4, _⟩ => ⟨S4096x4096, .f32⟩
  | .hbm, ⟨5, _⟩ => ⟨S16384x4096, .f32⟩
  | .hbm, ⟨6, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Experts.lean ====
abbrev S34816x1408 : Shape := ⟨2, ![34816, 1408]⟩
abbrev S22528x4096 : Shape := ⟨2, ![22528, 4096]⟩
abbrev S136 : Shape := ⟨1, ![136]⟩
abbrev S1 : Shape := ⟨1, ![1]⟩
abbrev S34816x4096 : Shape := ⟨2, ![34816, 4096]⟩
abbrev S256x1408 : Shape := ⟨2, ![256, 1408]⟩
abbrev S1408x4096 : Shape := ⟨2, ![1408, 4096]⟩
abbrev S256x4096 : Shape := ⟨2, ![256, 4096]⟩

abbrev nBuf : Space → Nat
  | .hbm => 3
  | .vmem => 6
  | .smem => 2
  | _ => 0

abbrev bufTy : (tb : Table) → Fin (tcTables nBuf tb) → BufTy
  | .hbm, ⟨0, _⟩ => ⟨S34816x1408, .bf16⟩
  | .hbm, ⟨1, _⟩ => ⟨S22528x4096, .bf16⟩
  | .hbm, ⟨2, _⟩ => ⟨S34816x4096, .f32⟩
  | .local _ .vmem, ⟨0, _⟩ => ⟨S256x1408, .bf16⟩
  | .local _ .vmem, ⟨1, _⟩ => ⟨S256x1408, .bf16⟩
  | .local _ .vmem, ⟨2, _⟩ => ⟨S1408x4096, .bf16⟩
  | .local _ .vmem, ⟨3, _⟩ => ⟨S1408x4096, .bf16⟩
  | .local _ .vmem, ⟨4, _⟩ => ⟨S256x4096, .f32⟩
  | .local _ .vmem, ⟨5, _⟩ => ⟨S256x4096, .f32⟩
  | .local _ .smem, ⟨0, _⟩ => ⟨S136, .i32⟩
  | .local _ .smem, ⟨1, _⟩ => ⟨S1, .i32⟩
  | _, _ => ⟨S34816x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![136], ![false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c8_i32 : BitVec 32 := 8#32
  let v2 : BitVec 32 := Scalar.addi c8_i32 v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1408x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ExpertsReferenceIdeal.lean ====
abbrev S34816x1408 : Shape := ⟨2, ![34816, 1408]⟩
abbrev S22528x4096 : Shape := ⟨2, ![22528, 4096]⟩
abbrev S136 : Shape := ⟨1, ![136]⟩
abbrev S1 : Shape := ⟨1, ![1]⟩
abbrev S2x8x1408x4096 : Shape := ⟨4, ![2, 8, 1408, 4096]⟩
abbrev S1x8x1408x4096 : Shape := ⟨4, ![1, 8, 1408, 4096]⟩
abbrev S8x1408x4096 : Shape := ⟨3, ![8, 1408, 4096]⟩
abbrev S136x1 : Shape := ⟨2, ![136, 1]⟩
abbrev S136x256 : Shape := ⟨2, ![136, 256]⟩
abbrev S34816 : Shape := ⟨1, ![34816]⟩
abbrev S_ : Shape := ⟨0, ![]⟩
abbrev S34816x1 : Shape := ⟨2, ![34816, 1]⟩
abbrev S8 : Shape := ⟨1, ![8]⟩
abbrev S1x8 : Shape := ⟨2, ![1, 8]⟩
abbrev S34816x8 : Shape := ⟨2, ![34816, 8]⟩
abbrev S34816x8x4096 : Shape := ⟨3, ![34816, 8, 4096]⟩
abbrev S34816x8x1 : Shape := ⟨3, ![34816, 8, 1]⟩
abbrev S34816x4096 : Shape := ⟨2, ![34816, 4096]⟩

abbrev nBuf : Space → Nat
  | .hbm => 37
  | .vmem => 0
  | .smem => 0
  | _ => 0

abbrev bufTy : (tb : Table) → Fin (tcTables nBuf tb) → BufTy
  | .hbm, ⟨0, _⟩ => ⟨S34816x1408, .bf16⟩
  | .hbm, ⟨1, _⟩ => ⟨S22528x4096, .bf16⟩
  | .hbm, ⟨2, _⟩ => ⟨S136, .i32⟩
  | .hbm, ⟨3, _⟩ => ⟨S1, .i32⟩
  | .hbm, ⟨4, _⟩ => ⟨S2x8x1408x4096, .bf16⟩
  | .hbm, ⟨5, _⟩ => ⟨S1x8x1408x4096, .bf16⟩
  | .hbm, ⟨6, _⟩ => ⟨S8x1408x4096, .bf16⟩
  | .hbm, ⟨7, _⟩ => ⟨S8x1408x4096, .f32⟩
  | .hbm, ⟨8, _⟩ => ⟨S136x1, .i32⟩
  | .hbm, ⟨9, _⟩ => ⟨S136x256, .i32⟩
  | .hbm, ⟨10, _⟩ => ⟨S34816, .i32⟩
  | .hbm, ⟨11, _⟩ => ⟨S136, .i32⟩
  | .hbm, ⟨12, _⟩ => ⟨S136x1, .i32⟩
  | .hbm, ⟨13, _⟩ => ⟨S136x256, .i32⟩
  | .hbm, ⟨14, _⟩ => ⟨S34816, .i32⟩
  | .hbm, ⟨15, _⟩ => ⟨S_, .i32⟩
  | .hbm, ⟨16, _⟩ => ⟨S34816, .i32⟩
  | .hbm, ⟨17, _⟩ => ⟨S34816, .i1⟩
  | .hbm, ⟨18, _⟩ => ⟨S34816x1, .i32⟩
  | .hbm, ⟨19, _⟩ => ⟨S8, .i32⟩
  | .hbm, ⟨20, _⟩ => ⟨S1x8, .i32⟩
  | .hbm, ⟨21, _⟩ => ⟨S34816x8, .i32⟩
  | .hbm, ⟨22, _⟩ => ⟨S34816x8, .i32⟩
  | .hbm, ⟨23, _⟩ => ⟨S34816x8, .i1⟩
  | .hbm, ⟨24, _⟩ => ⟨S34816x1, .i1⟩
  | .hbm, ⟨25, _⟩ => ⟨S34816x8, .i1⟩
  | .hbm, ⟨26, _⟩ => ⟨S34816x8, .i1⟩
  | .hbm, ⟨27, _⟩ => ⟨S34816x1408, .f32⟩
  | .hbm, ⟨28, _⟩ => ⟨S34816x8x4096, .f32⟩
  | .hbm, ⟨29, _⟩ => ⟨S34816x8x1, .i1⟩
  | .hbm, ⟨30, _⟩ => ⟨S_, .f32⟩
  | .hbm, ⟨31, _⟩ => ⟨S_, .f32⟩
  | .hbm, ⟨32, _⟩ => ⟨S34816x8x4096, .i1⟩
  | .hbm, ⟨33, _⟩ => ⟨S34816x8x4096, .f32⟩
  | .hbm, ⟨34, _⟩ => ⟨S34816x8x4096, .f32⟩
  | .hbm, ⟨35, _⟩ => ⟨S_, .f32⟩
  | .hbm, ⟨36, _⟩ => ⟨S34816x4096, .f32⟩
  | _, _ => ⟨S34816x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v26 : Ref sig .tc := ⟨.hbm, 34, rfl⟩
abbrev main_cst_0 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Proof.Step.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init
public import Idealize.ShloMosaic.Lib.VecWindow
public import Idealize.ShloMosaic.Lib.Pipeline.ReadBack
public import Idealize.ShloMosaic.Lib.Pointwise.Index

/-!
# One grid point of the forgetting attention

The streaming softmax update of one head, the update of all four heads of a block, and the words the grid point reads from
the schedule tables.
-/

@[expose] public section

set_option maxRecDepth 16384
set_option Elab.async false

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

abbrev tb0 : Memref sig .tc .smem S10 .i32 := Memref.whole main_c
abbrev tb1 : Memref sig .tc .smem S10 .i32 := Memref.whole main_c_0
abbrev tb2 : Memref sig .tc .smem S10 .i32 := Memref.whole main_c_1
abbrev tb3 : Memref sig .tc .smem S10 .i32 := Memref.whole main_c_2
abbrev scM : Memref sig .tc .vmem S4x1024x128 .f32 := Memref.whole cc0_scratch0
abbrev scL : Memref sig .tc .vmem S4x1024x128 .f32 := Memref.whole cc0_scratch1
abbrev scA : Memref sig .tc .vmem S4x1024x128 .f32 := Memref.whole cc0_scratch2

abbrev word0 (i : grid0.Coords) (T : S10.Idx → Elt F .i32) : BitVec 32 :=
  View.readAt (Elt F) (tb0).view (Rect.unit (s := S10) (k0_off1 i) S1.size (k0_off1_inb i)).toLoadRect T (Shape.Idx.first (numel1_S1.symm ▸ Nat.one_pos))
abbrev word1 (i : grid0.Coords) (T : S10.Idx → Elt F .i32) : BitVec 32 :=
  View.readAt (Elt F) (tb1).view (Rect.unit (s := S10) (k0_off1 i) S1.size (k0_off1_inb i)).toLoadRect T (Shape.Idx.first (numel1_S1.symm ▸ Nat.one_pos))
abbrev word2 (i : grid0.Coords) (T : S10.Idx → Elt F .i32) : BitVec 32 :=
  View.readAt (Elt F) (tb2).view (Rect.unit (s := S10) (k0_off1 i) S1.size (k0_off1_inb i)).toLoadRect T (Shape.Idx.first (numel1_S1.symm ▸ Nat.one_pos))
abbrev word3 (i : grid0.Coords) (T : S10.Idx → Elt F .i32) : BitVec 32 :=
  View.readAt (Elt F) (tb3).view (Rect.unit (s := S10) (k0_off2 i) S1.size (k0_off2_inb i)).toLoadRect T (Shape.Idx.first (numel1_S1.symm ▸ Nat.one_pos))

/-- The scores a head's key tile adds, then its row maximum joined to the running one. -/
def mxOf (s : FVec F S1024x1024 .f32) (m : Vec F S1x1024x128 .f32) : FVec F S1024x128 .f32 :=
  maximumf (shapeCast S1024x128 m shapeCasts_S1x1024x128_S1024x128)
    (broadcastTo S1024x128 (shapeCast S1024x1 (multiReduction .maximumf [1] S1024 s 0xFF800000#32 reduces_S1024x1024_S1024 (.inl rfl) rfl)
      shapeCasts_S1024_S1024x1) broadcasts_S1024x1_S1024x128)

/-- The factor by which the sums so far are rescaled to the new maximum. -/
def alphaOf (s : FVec F S1024x1024 .f32) (m : Vec F S1x1024x128 .f32) : FVec F S1024x128 .f32 :=
  exp (subf (shapeCast S1024x128 m shapeCasts_S1x1024x128_S1024x128) (mxOf s m))

/-- The tile's weights relative to the new maximum. -/
def pOf (s : FVec F S1024x1024 .f32) (m : Vec F S1x1024x128 .f32) : FVec F S1024x1024 .f32 :=
  exp (subf s (broadcastTo S1024x1024 (extractStridedSlice S1024x1 ![0, 0] (mxOf s m) slices_S1024x128_o0_0_S1024x1) broadcasts_S1024x1_S1024x1024))

/-- A head's new running maximum. -/
def mOf (s : FVec F S1024x1024 .f32) (m : Vec F S1x1024x128 .f32) : FVec F S1x1024x128 .f32 :=
  shapeCast S1x1024x128 (mxOf s m) shapeCasts_S1024x128_S1x1024x128

/-- A head's new sum of weights, `p` the tile's weights. -/
def lOf (s p : FVec F S1024x1024 .f32) (m l : Vec F S1x1024x128 .f32) : FVec F S1x1024x128 .f32 :=
  shapeCast S1x1024x128
    (addf (mulf (alphaOf s m) (shapeCast S1024x128 l shapeCasts_S1x1024x128_S1024x128))
      (broadcastTo S1024x128 (shapeCast S1024x1 (multiReduction .add [1] S1024 p 0x00000000#32 reduces_S1024x1024_S1024 (.inl rfl) rfl)
        shapeCasts_S1024_S1024x1) broadcasts_S1024x1_S1024x128))
    shapeCasts_S1024x128_S1x1024x128

/-- A head's new weighted sum of the values, `p` the tile's weights. -/
def aOf (s p : FVec F S1024x1024 .f32) (v : Vec F S1024x128 .bf16) (m a : Vec F S1x1024x128 .f32) : FVec F S1x1024x128 .f32 :=
  shapeCast S1x1024x128
    (addf (mulf (alphaOf s m) (shapeCast S1024x128 a shapeCasts_S1x1024x128_S1024x128))
      (matmul dot_S1024x1024_S1024x128_S1024x128_1_0_0_1_n_n none (truncf .bf16 p bitsLt_bf16_f32) v (constant S1024x128 .f32 0x00000000#32)))
    shapeCasts_S1024x128_S1x1024x128

/-! ## The four heads of a block -/

/-- Head `r`'s 128 columns of a block of the packed projection. -/
def headCols (x : S1024x512.Idx → Elt F .bf16) (r : Fin 4) : Vec F S1024x128 .bf16 :=
  fun y => x (ix2 (n0 := 1024) (n1 := 512) (y 0) ⟨128 * r.val + (y 1).val, by have := (y 1).isLt; have h : (y 1).val < 128 := this; omega⟩)

/-- Head `r`'s row of the block of cumulative decays. -/
def headRow (x : S1x4x1x1024.Idx → Elt F .f32) (r : Fin 4) : Vec F S1x1x1x1024 .f32 :=
  fun y => x (ix4 (n0 := 1) (n1 := 4) (n2 := 1) (n3 := 1024) (y 0) r (y 2) (y 3))

/-- Head `r`'s plane of a running statistic. -/
def headStat (x : S4x1024x128.Idx → Elt F .f32) (r : Fin 4) : Vec F S1x1024x128 .f32 :=
  fun y => x (ix3 (n0 := 4) (n1 := 1024) (n2 := 128) r (y 1) (y 2))

/-- Four planes, one per head, as one array. -/
def planes (g : Fin 4 → Vec F S1x1024x128 .f32) : S4x1024x128.Idx → Elt F .f32 :=
  fun y => g (y 0) (ix3 (n0 := 1) (n1 := 1024) (n2 := 128) 0 (y 1) (y 2))

/-- Four blocks of 128 columns, one per head, side by side. -/
def columns (g : Fin 4 → FVec F S1024x128 .bf16) : S1024x512.Idx → Elt F .bf16 :=
  fun y => g ⟨(y 1).val / 128, by have h : (y 1).val < 512 := (y 1).isLt; omega⟩
    (ix2 (n0 := 1024) (n1 := 128) (y 0) ⟨(y 1).val % 128, Nat.mod_lt _ (by decide)⟩)

/-- The scores of head `r` on a tile strictly before the diagonal. -/
def scPlain (q k : S1024x512.Idx → Elt F .bf16) (f : S1x4x1x1024.Idx → Elt F .f32) (r : Fin 4) : FVec F S1024x1024 .f32 :=
  k0_pay9 (headCols q r) (headCols k r) (headRow f r)

/-- The scores of head `r` on the tile with tile numbers `wq`, `wk`, later keys masked. -/
def scMask (wq wk : BitVec 32) (q k : S1024x512.Idx → Elt F .bf16) (f : S1x4x1x1024.Idx → Elt F .f32) (r : Fin 4) : FVec F S1024x1024 .f32 :=
  k0_pay42 wq wk (headCols q r) (headCols k r) (headRow f r)

/-- The weights of head `r` on a tile strictly before the diagonal. -/
def pPlain (q k : S1024x512.Idx → Elt F .bf16) (f : S1x4x1x1024.Idx → Elt F .f32) (m : S4x1024x128.Idx → Elt F .f32) (r : Fin 4) :
    FVec F S1024x1024 .f32 :=
  pOf (scPlain q k f r) (headStat m r)

/-- Weights `p` with those of the later keys set to zero. -/
def maskP (wq wk : BitVec 32) (p : FVec F S1024x1024 .f32) : FVec F S1024x1024 .f32 :=
  select (k0_pay41 (F := F) wq wk) p (broadcast S1024x1024 (Scalar.ofBits .f32 0x00000000#32))

/-- The weights of head `r` on the tile with tile numbers `wq`, `wk`. -/
def pMask (wq wk : BitVec 32) (q k : S1024x512.Idx → Elt F .bf16) (f : S1x4x1x1024.Idx → Elt F .f32) (m : S4x1024x128.Idx → Elt F .f32) (r : Fin 4) :
    FVec F S1024x1024 .f32 :=
  maskP wq wk (pOf (scMask wq wk q k f r) (headStat m r))

/-- The running maxima after one tile. -/
def stepM (s : Fin 4 → FVec F S1024x1024 .f32) (m : S4x1024x128.Idx → Elt F .f32) : S4x1024x128.Idx → Elt F .f32 :=
  planes fun r => mOf (s r) (headStat m r)

/-- The running sums of weights after one tile. -/
def stepL (s p : Fin 4 → FVec F S1024x1024 .f32) (m l : S4x1024x128.Idx → Elt F .f32) : S4x1024x128.Idx → Elt F .f32 :=
  planes fun r => lOf (s r) (p r) (headStat m r) (headStat l r)

/-- The running weighted sums after one tile. -/
def stepA (s p : Fin 4 → FVec F S1024x1024 .f32) (v : S1024x512.Idx → Elt F .bf16) (m a : S4x1024x128.Idx → Elt F .f32) :
    S4x1024x128.Idx → Elt F .f32 :=
  planes fun r => aOf (s r) (p r) (headCols v r) (headStat m r) (headStat a r)

/-- The block of results: each head's weighted sum over its sum of weights. -/
def outOf (l a : S4x1024x128.Idx → Elt F .f32) : S1024x512.Idx → Elt F .bf16 :=
  columns fun r => k0_pay76 (headStat l r) (headStat a r)

/-! ## Loads and stores of one head -/

variable {sp : Space}

theorem cols_0 (a : Memref sig .tc sp S1024x512 .bf16) (x : S1024x512.Idx → Elt F .bf16) :
    View.readAt (Elt F) a.view (Rect.unit (s := S1024x512) ![0, 0] S1024x128.size inb_S1024x512_S1024x128_0_0).toLoadRect (a.view.rep x) = headCols x 0 := by
  rw [View.readAt_rep]; funext y
  refine congrArg x (funext fun k => Fin.ext ?_)
  fin_cases k
  · show 0 + 1 * (y 0).val = (y 0).val; omega
  · show 0 + 1 * (y 1).val = 128 * 0 + (y 1).val; omega

theorem row_0 (a : Memref sig .tc sp S1x4x1x1024 .f32) (x : S1x4x1x1024.Idx → Elt F .f32) :
    View.readAt (Elt F) a.view (Rect.unit (s := S1x4x1x1024) ![0, 0, 0, 0] S1x1x1x1024.size inb_S1x4x1x1024_S1x1x1x1024_0_0_0_0).toLoadRect (a.view.rep x)
      = headRow x 0 := by
  rw [View.readAt_rep]; funext y
  refine congrArg x (funext fun k => Fin.ext ?_)
  fin_cases k
  · show 0 + 1 * (y 0).val = (y 0).val; omega
  · show 0 + 1 * (y 1).val = 0; have h : (y 1).val < 1 := (y 1).isLt; omega
  · show 0 + 1 * (y 2).val = (y 2).val; omega
  · show 0 + 1 * (y 3).val = (y 3).val; omega

/-- Head 0's plane of contents. -/
theorem plane_0 (x : S4x1024x128.Idx → Elt F .f32) :
    (fun y => x ((Rect.unit (s := S4x1024x128) ![0, 0, 0] S1x1024x128.size inb_S4x1024x128_S1x1024x128_0_0_0).emb y)) = headStat x 0 := by
  funext y
  refine congrArg x (funext fun k => Fin.ext ?_)
  fin_cases k
  · show 0 + 1 * (y 0).val = 0; have h : (y 0).val < 1 := (y 0).isLt; omega
  · show 0 + 1 * (y 1).val = (y 1).val; omega
  · show 0 + 1 * (y 2).val = (y 2).val; omega

theorem stat_0 (v : View sig .tc sp S4x1024x128 .f32) (f : v.ty.Contents (Elt F)) :
    View.readAt (Elt F) v (Rect.unit (s := S4x1024x128) ![0, 0, 0] S1x1024x128.size inb_S4x1024x128_S1x1024x128_0_0_0).toLoadRect f
      = headStat (v.read (Elt F) f) 0 :=
  plane_0 (v.read (Elt F) f)

theorem planes_at_0 (g : Fin 4 → Vec F S1x1024x128 .f32)
    (x : (Rect.unit (s := S4x1024x128) ![0, 0, 0] S1x1024x128.size inb_S4x1024x128_S1x1024x128_0_0_0).shape.Idx) :
    g 0 x = planes g ((Rect.unit (s := S4x1024x128) ![0, 0, 0] S1x1024x128.size inb_S4x1024x128_S1x1024x128_0_0_0).emb x) :=
  congrFun (plane_0 (planes g)).symm x ▸ congrArg (g 0) (funext fun k => Fin.ext (by
    fin_cases k
    · have h : (x 0).val < 1 := (x 0).isLt
      show (x 0).val = 0; omega
    · rfl
    · rfl))

theorem columns_at_0 (g : Fin 4 → FVec F S1024x128 .bf16)
    (x : (Rect.unit (s := S1024x512) ![0, 0] S1024x128.size inb_S1024x512_S1024x128_0_0).shape.Idx) :
    g 0 x = columns g ((Rect.unit (s := S1024x512) ![0, 0] S1024x128.size inb_S1024x512_S1024x128_0_0).emb x) := by
  have h : (x 1).val < 128 := (x 1).isLt
  have e : ((Rect.unit (s := S1024x512) ![0, 0] S1024x128.size inb_S1024x512_S1024x128_0_0).emb x 1).val = 0 + 1 * (x 1).val := rfl
  have e0 : ((Rect.unit (s := S1024x512) ![0, 0] S1024x128.size inb_S1024x512_S1024x128_0_0).emb x 0).val = 0 + 1 * (x 0).val := rfl
  have hr : (⟨((Rect.unit (s := S1024x512) ![0, 0] S1024x128.size inb_S1024x512_S1024x128_0_0).emb x 1).val / 128,
      by rw [e]; omega⟩ : Fin 4) = 0 := Fin.ext (by show _ / 128 = 0; rw [e]; omega)
  unfold columns
  rw [hr]
  refine congrArg (g 0) (funext fun k => Fin.ext ?_)
  fin_cases k
  · show (x 0).val = ((Rect.unit (s := S1024x512) ![0, 0] S1024x128.size inb_S1024x512_S1024x128_0_0).emb x 0).val; rw [e0]; omega
  · show (x 1).val = ((Rect.unit (s := S1024x512) ![0, 0] S1024x128.size inb_S1024x512_S1024x128_0_0).emb x 1).val % 128; rw [e]; omega

theorem cols_1 (a : Memref sig .tc sp S1024x512 .bf16) (x : S1024x512.Idx → Elt F .bf16) :
    View.readAt (Elt F) a.view (Rect.unit (s := S1024x512) ![0, 128] S1024x128.size inb_S1024x512_S1024x128_0_128).toLoadRect (a.view.rep x) = headCols x 1 := by
  rw [View.readAt_rep]; funext y
  refine congrArg x (funext fun k => Fin.ext ?_)
  fin_cases k
  · show 0 + 1 * (y 0).val = (y 0).val; omega
  · show 128 + 1 * (y 1).val = 128 * 1 + (y 1).val; omega

theorem row_1 (a : Memref sig .tc sp S1x4x1x1024 .f32) (x : S1x4x1x1024.Idx → Elt F .f32) :
    View.readAt (Elt F) a.view (Rect.unit (s := S1x4x1x1024) ![0, 1, 0, 0] S1x1x1x1024.size inb_S1x4x1x1024_S1x1x1x1024_0_1_0_0).toLoadRect (a.view.rep x)
      = headRow x 1 := by
  rw [View.readAt_rep]; funext y
  refine congrArg x (funext fun k => Fin.ext ?_)
  fin_cases k
  · show 0 + 1 * (y 0).val = (y 0).val; omega
  · show 1 + 1 * (y 1).val = 1; have h : (y 1).val < 1 := (y 1).isLt; omega
  · show 0 + 1 * (y 2).val = (y 2).val; omega
  · show 0 + 1 * (y 3).val = (y 3).val; omega

/-- Head 1's plane of contents. -/
theorem plane_1 (x : S4x1024x128.Idx → Elt F .f32) :
    (fun y => x ((Rect.unit (s := S4x1024x128) ![1, 0, 0] S1x1024x128.size inb_S4x1024x128_S1x1024x128_1_0_0).emb y)) = headStat x 1 := by
  funext y
  refine congrArg x (funext fun k => Fin.ext ?_)
  fin_cases k
  · show 1 + 1 * (y 0).val = 1; have h : (y 0).val < 1 := (y 0).isLt; omega
  · show 0 + 1 * (y 1).val = (y 1).val; omega
  · show 0 + 1 * (y 2).val = (y 2).val; omega

theorem stat_1 (v : View sig .tc sp S4x1024x128 .f32) (f : v.ty.Contents (Elt F)) :
    View.readAt (Elt F) v (Rect.unit (s := S4x1024x128) ![1, 0, 0] S1x1024x128.size inb_S4x1024x128_S1x1024x128_1_0_0).toLoadRect f
      = headStat (v.read (Elt F) f) 1 :=
  plane_1 (v.read (Elt F) f)

theorem planes_at_1 (g : Fin 4 → Vec F S1x1024x128 .f32)
    (x : (Rect.unit (s := S4x1024x128) ![1, 0, 0] S1x1024x128.size inb_S4x1024x128_S1x1024x128_1_0_0).shape.Idx) :
    g 1 x = planes g ((Rect.unit (s := S4x1024x128) ![1, 0, 0] S1x1024x128.size inb_S4x1024x128_S1x1024x128_1_0_0).emb x) :=
  congrFun (plane_1 (planes g)).symm x ▸ congrArg (g 1) (funext fun k => Fin.ext (by
    fin_cases k
    · have h : (x 0).val < 1 := (x 0).isLt
      show (x 0).val = 0; omega
    · rfl
    · rfl))

theorem columns_at_1 (g : Fin 4 → FVec F S1024x128 .bf16)
    (x : (Rect.unit (s := S1024x512) ![0, 128] S1024x128.size inb_S1024x512_S1024x128_0_128).shape.Idx) :
    g 1 x = columns g ((Rect.unit (s := S1024x512) ![0, 128] S1024x128.size inb_S1024x512_S1024x128_0_128).emb x) := by
  have h : (x 1).val < 128 := (x 1).isLt
  have e : ((Rect.unit (s := S1024x512) ![0, 128] S1024x128.size inb_S1024x512_S1024x128_0_128).emb x 1).val = 128 + 1 * (x 1).val := rfl
  have e0 : ((Rect.unit (s := S1024x512) ![0, 128] S1024x128.size inb_S1024x512_S1024x128_0_128).emb x 0).val = 0 + 1 * (x 0).val := rfl
  have hr : (⟨((Rect.unit (s := S1024x512) ![0, 128] S1024x128.size inb_S1024x512_S1024x128_0_128).emb x 1).val / 128,
      by rw [e]; omega⟩ : Fin 4) = 1 := Fin.ext (by show _ / 128 = 1; rw [e]; omega)
  unfold columns
  rw [hr]
  refine congrArg (g 1) (funext fun k => Fin.ext ?_)
  fin_cases k
  · show (x 0).val = ((Rect.unit (s := S1024x512) ![0, 128] S1024x128.size inb_S1024x512_S1024x128_0_128).emb x 0).val; rw [e0]; omega
  · show (x 1).val = ((Rect.unit (s := S1024x512) ![0, 128] S1024x128.size inb_S1024x512_S1024x128_0_128).emb x 1).val % 128; rw [e]; omega

theorem cols_2 (a : Memref sig .tc sp S1024x512 .bf16) (x : S1024x512.Idx → Elt F .bf16) :
    View.readAt (Elt F) a.view (Rect.unit (s := S1024x512) ![0, 256] S1024x128.size inb_S1024x512_S1024x128_0_256).toLoadRect (a.view.rep x) = headCols x 2 := by
  rw [View.readAt_rep]; funext y
  refine congrArg x (funext fun k => Fin.ext ?_)
  fin_cases k
  · show 0 + 1 * (y 0).val = (y 0).val; omega
  · show 256 + 1 * (y 1).val = 128 * 2 + (y 1).val; omega

theorem row_2 (a : Memref sig .tc sp S1x4x1x1024 .f32) (x : S1x4x1x1024.Idx → Elt F .f32) :
    View.readAt (Elt F) a.view (Rect.unit (s := S1x4x1x1024) ![0, 2, 0, 0] S1x1x1x1024.size inb_S1x4x1x1024_S1x1x1x1024_0_2_0_0).toLoadRect (a.view.rep x)
      = headRow x 2 := by
  rw [View.readAt_rep]; funext y
  refine congrArg x (funext fun k => Fin.ext ?_)
  fin_cases k
  · show 0 + 1 * (y 0).val = (y 0).val; omega
  · show 2 + 1 * (y 1).val = 2; have h : (y 1).val < 1 := (y 1).isLt; omega
  · show 0 + 1 * (y 2).val = (y 2).val; omega
  · show 0 + 1 * (y 3).val = (y 3).val; omega

/-- Head 2's plane of contents. -/
theorem plane_2 (x : S4x1024x128.Idx → Elt F .f32) :
    (fun y => x ((Rect.unit (s := S4x1024x128) ![2, 0, 0] S1x1024x128.size inb_S4x1024x128_S1x1024x128_2_0_0).emb y)) = headStat x 2 := by
  funext y
  refine congrArg x (funext fun k => Fin.ext ?_)
  fin_cases k
  · show 2 + 1 * (y 0).val = 2; have h : (y 0).val < 1 := (y 0).isLt; omega
  · show 0 + 1 * (y 1).val = (y 1).val; omega
  · show 0 + 1 * (y 2).val = (y 2).val; omega

theorem stat_2 (v : View sig .tc sp S4x1024x128 .f32) (f : v.ty.Contents (Elt F)) :
    View.readAt (Elt F) v (Rect.unit (s := S4x1024x128) ![2, 0, 0] S1x1024x128.size inb_S4x1024x128_S1x1024x128_2_0_0).toLoadRect f
      = headStat (v.read (Elt F) f) 2 :=
  plane_2 (v.read (Elt F) f)

theorem planes_at_2 (g : Fin 4 → Vec F S1x1024x128 .f32)
    (x : (Rect.unit (s := S4x1024x128) ![2, 0, 0] S1x1024x128.size inb_S4x1024x128_S1x1024x128_2_0_0).shape.Idx) :
    g 2 x = planes g ((Rect.unit (s := S4x1024x128) ![2, 0, 0] S1x1024x128.size inb_S4x1024x128_S1x1024x128_2_0_0).emb x) :=
  congrFun (plane_2 (planes g)).symm x ▸ congrArg (g 2) (funext fun k => Fin.ext (by
    fin_cases k
    · have h : (x 0).val < 1 := (x 0).isLt
      show (x 0).val = 0; omega
    · rfl
    · rfl))

theorem columns_at_2 (g : Fin 4 → FVec F S1024x128 .bf16)
    (x : (Rect.unit (s := S1024x512) ![0, 256] S1024x128.size inb_S1024x512_S1024x128_0_256).shape.Idx) :
    g 2 x = columns g ((Rect.unit (s := S1024x512) ![0, 256] S1024x128.size inb_S1024x512_S1024x128_0_256).emb x) := by
  have h : (x 1).val < 128 := (x 1).isLt
  have e : ((Rect.unit (s := S1024x512) ![0, 256] S1024x128.size inb_S1024x512_S1024x128_0_256).emb x 1).val = 256 + 1 * (x 1).val := rfl
  have e0 : ((Rect.unit (s := S1024x512) ![0, 256] S1024x128.size inb_S1024x512_S1024x128_0_256).emb x 0).val = 0 + 1 * (x 0).val := rfl
  have hr : (⟨((Rect.unit (s := S1024x512) ![0, 256] S1024x128.size inb_S1024x512_S1024x128_0_256).emb x 1).val / 128,
      by rw [e]; omega⟩ : Fin 4) = 2 := Fin.ext (by show _ / 128 = 2; rw [e]; omega)
  unfold columns
  rw [hr]
  refine congrArg (g 2) (funext fun k => Fin.ext ?_)
  fin_cases k
  · show (x 0).val = ((Rect.unit (s := S1024x512) ![0, 256] S1024x128.size inb_S1024x512_S1024x128_0_256).emb x 0).val; rw [e0]; omega
  · show (x 1).val = ((Rect.unit (s := S1024x512) ![0, 256] S1024x128.size inb_S1024x512_S1024x128_0_256).emb x 1).val % 128; rw [e]; omega

theorem cols_3 (a : Memref sig .tc sp S1024x512 .bf16) (x : S1024x512.Idx → Elt F .bf16) :
    View.readAt (Elt F) a.view (Rect.unit (s := S1024x512) ![0, 384] S1024x128.size inb_S1024x512_S1024x128_0_384).toLoadRect (a.view.rep x) = headCols x 3 := by
  rw [View.readAt_rep]; funext y
  refine congrArg x (funext fun k => Fin.ext ?_)
  fin_cases k
  · show 0 + 1 * (y 0).val = (y 0).val; omega
  · show 384 + 1 * (y 1).val = 128 * 3 + (y 1).val; omega

theorem row_3 (a : Memref sig .tc sp S1x4x1x1024 .f32) (x : S1x4x1x1024.Idx → Elt F .f32) :
    View.readAt (Elt F) a.view (Rect.unit (s := S1x4x1x1024) ![0, 3, 0, 0] S1x1x1x1024.size inb_S1x4x1x1024_S1x1x1x1024_0_3_0_0).toLoadRect (a.view.rep x)
      = headRow x 3 := by
  rw [View.readAt_rep]; funext y
  refine congrArg x (funext fun k => Fin.ext ?_)
  fin_cases k
  · show 0 + 1 * (y 0).val = (y 0).val; omega
  · show 3 + 1 * (y 1).val = 3; have h : (y 1).val < 1 := (y 1).isLt; omega
  · show 0 + 1 * (y 2).val = (y 2).val; omega
  · show 0 + 1 * (y 3).val = (y 3).val; omega

/-- Head 3's plane of contents. -/
theorem plane_3 (x : S4x1024x128.Idx → Elt F .f32) :
    (fun y => x ((Rect.unit (s := S4x1024x128) ![3, 0, 0] S1x1024x128.size inb_S4x1024x128_S1x1024x128_3_0_0).emb y)) = headStat x 3 := by
  funext y
  refine congrArg x (funext fun k => Fin.ext ?_)
  fin_cases k
  · show 3 + 1 * (y 0).val = 3; have h : (y 0).val < 1 := (y 0).isLt; omega
  · show 0 + 1 * (y 1).val = (y 1).val; omega
  · show 0 + 1 * (y 2).val = (y 2).val; omega

theorem stat_3 (v : View sig .tc sp S4x1024x128 .f32) (f : v.ty.Contents (Elt F)) :
    View.readAt (Elt F) v (Rect.unit (s := S4x1024x128) ![3, 0, 0] S1x1024x128.size inb_S4x1024x128_S1x1024x128_3_0_0).toLoadRect f
      = headStat (v.read (Elt F) f) 3 :=
  plane_3 (v.read (Elt F) f)

theorem planes_at_3 (g : Fin 4 → Vec F S1x1024x128 .f32)
    (x : (Rect.unit (s := S4x1024x128) ![3, 0, 0] S1x1024x128.size inb_S4x1024x128_S1x1024x128_3_0_0).shape.Idx) :
    g 3 x = planes g ((Rect.unit (s := S4x1024x128) ![3, 0, 0] S1x1024x128.size inb_S4x1024x128_S1x1024x128_3_0_0).emb x) :=
  congrFun (plane_3 (planes g)).symm x ▸ congrArg (g 3) (funext fun k => Fin.ext (by
    fin_cases k
    · have h : (x 0).val < 1 := (x 0).isLt
      show (x 0).val = 0; omega
    · rfl
    · rfl))

theorem columns_at_3 (g : Fin 4 → FVec F S1024x128 .bf16)
    (x : (Rect.unit (s := S1024x512) ![0, 384] S1024x128.size inb_S1024x512_S1024x128_0_384).shape.Idx) :
    g 3 x = columns g ((Rect.unit (s := S1024x512) ![0, 384] S1024x128.size inb_S1024x512_S1024x128_0_384).emb x) := by
  have h : (x 1).val < 128 := (x 1).isLt
  have e : ((Rect.unit (s := S1024x512) ![0, 384] S1024x128.size inb_S1024x512_S1024x128_0_384).emb x 1).val = 384 + 1 * (x 1).val := rfl
  have e0 : ((Rect.unit (s := S1024x512) ![0, 384] S1024x128.size inb_S1024x512_S1024x128_0_384).emb x 0).val = 0 + 1 * (x 0).val := rfl
  have hr : (⟨((Rect.unit (s := S1024x512) ![0, 384] S1024x128.size inb_S1024x512_S1024x128_0_384).emb x 1).val / 128,
      by rw [e]; omega⟩ : Fin 4) = 3 := Fin.ext (by show _ / 128 = 3; rw [e]; omega)
  unfold columns
  rw [hr]
  refine congrArg (g 3) (funext fun k => Fin.ext ?_)
  fin_cases k
  · show (x 0).val = ((Rect.unit (s := S1024x512) ![0, 384] S1024x128.size inb_S1024x512_S1024x128_0_384).emb x 0).val; rw [e0]; omega
  · show (x 1).val = ((Rect.unit (s := S1024x512) ![0, 384] S1024x128.size inb_S1024x512_S1024x128_0_384).emb x 1).val % 128; rw [e]; omega

/-- A head's plane of four planes is that plane. -/
theorem headStat_planes (g : Fin 4 → Vec F S1x1024x128 .f32) (r : Fin 4) : headStat (planes g) r = g r := by
  funext y
  refine congrArg (g r) (funext fun k => Fin.ext ?_)
  fin_cases k
  · have h : (y 0).val < 1 := (y 0).isLt
    show 0 = (y 0).val; omega
  · rfl
  · rfl

/-- Four stores, one per head's plane, over anything. -/
abbrev planeList (g : Fin 4 → Vec F S1x1024x128 .f32) : List (View.Piece (Elt F) S4x1024x128 .f32) :=
  [⟨Rect.unit (s := S4x1024x128) ![3, 0, 0] S1x1024x128.size inb_S4x1024x128_S1x1024x128_3_0_0, g 3⟩, ⟨Rect.unit (s := S4x1024x128) ![2, 0, 0] S1x1024x128.size inb_S4x1024x128_S1x1024x128_2_0_0, g 2⟩, ⟨Rect.unit (s := S4x1024x128) ![1, 0, 0] S1x1024x128.size inb_S4x1024x128_S1x1024x128_1_0_0, g 1⟩, ⟨Rect.unit (s := S4x1024x128) ![0, 0, 0] S1x1024x128.size inb_S4x1024x128_S1x1024x128_0_0_0, g 0⟩]

/-- Four stores, one per head's columns. -/
abbrev colList (g : Fin 4 → FVec F S1024x128 .bf16) : List (View.Piece (Elt F) S1024x512 .bf16) :=
  [⟨Rect.unit (s := S1024x512) ![0, 384] S1024x128.size inb_S1024x512_S1024x128_0_384, g 3⟩, ⟨Rect.unit (s := S1024x512) ![0, 256] S1024x128.size inb_S1024x512_S1024x128_0_256, g 2⟩, ⟨Rect.unit (s := S1024x512) ![0, 128] S1024x128.size inb_S1024x512_S1024x128_0_128, g 1⟩, ⟨Rect.unit (s := S1024x512) ![0, 0] S1024x128.size inb_S1024x512_S1024x128_0_0, g 0⟩]

theorem read_planes (v : View sig .tc sp S4x1024x128 .f32) (f : v.ty.Contents (Elt F)) (g : Fin 4 → Vec F S1x1024x128 .f32)
    (L : List (View.Piece (Elt F) S4x1024x128 .f32)) : v.read (Elt F) (v.writes (Elt F) f (planeList g ++ L)) = planes g := by
  rw [View.writes_append]
  funext y
  refine View.read_writes_apply_of_pieces (v := v) _ (planes g) (planeList g) ?_ y
    (View.cover_of_tiledL (planeList g) S1x1024x128.size (by sl_kernel_rfl) y)
  intro p hp
  simp only [List.mem_cons, List.not_mem_nil, or_false] at hp
  rcases hp with rfl | rfl | rfl | rfl
  · exact planes_at_3 g
  · exact planes_at_2 g
  · exact planes_at_1 g
  · exact planes_at_0 g

theorem planes_M (f : S4x1024x128.Idx → Elt F .f32) (g : Fin 4 → Vec F S1x1024x128 .f32)
    (L : List (View.Piece (Elt F) S4x1024x128 .f32)) : scM.view.writes (Elt F) f (planeList g ++ L) = planes g := by
  have h := read_planes scM.view f g L
  rwa [View.read_whole] at h

theorem planes_L (f : S4x1024x128.Idx → Elt F .f32) (g : Fin 4 → Vec F S1x1024x128 .f32)
    (L : List (View.Piece (Elt F) S4x1024x128 .f32)) : scL.view.writes (Elt F) f (planeList g ++ L) = planes g := by
  have h := read_planes scL.view f g L
  rwa [View.read_whole] at h

theorem planes_A (f : S4x1024x128.Idx → Elt F .f32) (g : Fin 4 → Vec F S1x1024x128 .f32)
    (L : List (View.Piece (Elt F) S4x1024x128 .f32)) : scA.view.writes (Elt F) f (planeList g ++ L) = planes g := by
  have h := read_planes scA.view f g L
  rwa [View.read_whole] at h

theorem readCov_init_0 (v : View sig .tc sp S4x1024x128 .f32) (Z : S4x1024x128.Idx → Elt F .f32) :
    v.readCov [⟨Rect.unit (s := S4x1024x128) ![0, 0, 0] S4x1024x128.size inb_S4x1024x128_S4x1024x128_0_0_0, Z⟩]
      (Rect.unit (s := S4x1024x128) ![0, 0, 0] S1x1024x128.size inb_S4x1024x128_S1x1024x128_0_0_0).toLoadRect = headStat Z 0 :=
  (View.readCov_fill v inb_S4x1024x128_S4x1024x128_0_0_0 Z [] _ (by decide)).trans (plane_0 Z)

theorem readCov_init_1 (v : View sig .tc sp S4x1024x128 .f32) (Z : S4x1024x128.Idx → Elt F .f32) :
    v.readCov [⟨Rect.unit (s := S4x1024x128) ![0, 0, 0] S4x1024x128.size inb_S4x1024x128_S4x1024x128_0_0_0, Z⟩]
      (Rect.unit (s := S4x1024x128) ![1, 0, 0] S1x1024x128.size inb_S4x1024x128_S1x1024x128_1_0_0).toLoadRect = headStat Z 1 :=
  (View.readCov_fill v inb_S4x1024x128_S4x1024x128_0_0_0 Z [] _ (by decide)).trans (plane_1 Z)

theorem readCov_init_2 (v : View sig .tc sp S4x1024x128 .f32) (Z : S4x1024x128.Idx → Elt F .f32) :
    v.readCov [⟨Rect.unit (s := S4x1024x128) ![0, 0, 0] S4x1024x128.size inb_S4x1024x128_S4x1024x128_0_0_0, Z⟩]
      (Rect.unit (s := S4x1024x128) ![2, 0, 0] S1x1024x128.size inb_S4x1024x128_S1x1024x128_2_0_0).toLoadRect = headStat Z 2 :=
  (View.readCov_fill v inb_S4x1024x128_S4x1024x128_0_0_0 Z [] _ (by decide)).trans (plane_2 Z)

theorem readCov_init_3 (v : View sig .tc sp S4x1024x128 .f32) (Z : S4x1024x128.Idx → Elt F .f32) :
    v.readCov [⟨Rect.unit (s := S4x1024x128) ![0, 0, 0] S4x1024x128.size inb_S4x1024x128_S4x1024x128_0_0_0, Z⟩]
      (Rect.unit (s := S4x1024x128) ![3, 0, 0] S1x1024x128.size inb_S4x1024x128_S1x1024x128_3_0_0).toLoadRect = headStat Z 3 :=
  (View.readCov_fill v inb_S4x1024x128_S4x1024x128_0_0_0 Z [] _ (by decide)).trans (plane_3 Z)

/-! Reading one head's plane back after stores to planes: another head's store is passed over, the head's own is what is read. -/

theorem skip_01 (v : View sig .tc sp S4x1024x128 .f32) (w : Vec F S1x1024x128 .f32) (L : List (View.Piece (Elt F) S4x1024x128 .f32)) :
    v.readCov (⟨(Rect.unit (s := S4x1024x128) ![1, 0, 0] S1x1024x128.size inb_S4x1024x128_S1x1024x128_1_0_0), w⟩ :: L) (Rect.unit (s := S4x1024x128) ![0, 0, 0] S1x1024x128.size inb_S4x1024x128_S1x1024x128_0_0_0).toLoadRect = v.readCov L (Rect.unit (s := S4x1024x128) ![0, 0, 0] S1x1024x128.size inb_S4x1024x128_S1x1024x128_0_0_0).toLoadRect :=
  View.readCov_skip v (Rect.unit (s := S4x1024x128) ![1, 0, 0] S1x1024x128.size inb_S4x1024x128_S1x1024x128_1_0_0) w L (Rect.unit (s := S4x1024x128) ![0, 0, 0] S1x1024x128.size inb_S4x1024x128_S1x1024x128_0_0_0).toLoadRect (decide_eq_true ⟨0, .inr (.inr (.inr (show 0 + 1 * (1 - 1) < 1 by decide)))⟩)

theorem skip_02 (v : View sig .tc sp S4x1024x128 .f32) (w : Vec F S1x1024x128 .f32) (L : List (View.Piece (Elt F) S4x1024x128 .f32)) :
    v.readCov (⟨(Rect.unit (s := S4x1024x128) ![2, 0, 0] S1x1024x128.size inb_S4x1024x128_S1x1024x128_2_0_0), w⟩ :: L) (Rect.unit (s := S4x1024x128) ![0, 0, 0] S1x1024x128.size inb_S4x1024x128_S1x1024x128_0_0_0).toLoadRect = v.readCov L (Rect.unit (s := S4x1024x128) ![0, 0, 0] S1x1024x128.size inb_S4x1024x128_S1x1024x128_0_0_0).toLoadRect :=
  View.readCov_skip v (Rect.unit (s := S4x1024x128) ![2, 0, 0] S1x1024x128.size inb_S4x1024x128_S1x1024x128_2_0_0) w L (Rect.unit (s := S4x1024x128) ![0, 0, 0] S1x1024x128.size inb_S4x1024x128_S1x1024x128_0_0_0).toLoadRect (decide_eq_true ⟨0, .inr (.inr (.inr (show 0 + 1 * (1 - 1) < 2 by decide)))⟩)

theorem skip_03 (v : View sig .tc sp S4x1024x128 .f32) (w : Vec F S1x1024x128 .f32) (L : List (View.Piece (Elt F) S4x1024x128 .f32)) :
    v.readCov (⟨(Rect.unit (s := S4x1024x128) ![3, 0, 0] S1x1024x128.size inb_S4x1024x128_S1x1024x128_3_0_0), w⟩ :: L) (Rect.unit (s := S4x1024x128) ![0, 0, 0] S1x1024x128.size inb_S4x1024x128_S1x1024x128_0_0_0).toLoadRect = v.readCov L (Rect.unit (s := S4x1024x128) ![0, 0, 0] S1x1024x128.size inb_S4x1024x128_S1x1024x128_0_0_0).toLoadRect :=
  View.readCov_skip v (Rect.unit (s := S4x1024x128) ![3, 0, 0] S1x1024x128.size inb_S4x1024x128_S1x1024x128_3_0_0) w L (Rect.unit (s := S4x1024x128) ![0, 0, 0] S1x1024x128.size inb_S4x1024x128_S1x1024x128_0_0_0).toLoadRect (decide_eq_true ⟨0, .inr (.inr (.inr (show 0 + 1 * (1 - 1) < 3 by decide)))⟩)

theorem hit_0 (v : View sig .tc sp S4x1024x128 .f32) (w : Vec F S1x1024x128 .f32) (L : List (View.Piece (Elt F) S4x1024x128 .f32)) :
    v.readCov (⟨(Rect.unit (s := S4x1024x128) ![0, 0, 0] S1x1024x128.size inb_S4x1024x128_S1x1024x128_0_0_0), w⟩ :: L) (Rect.unit (s := S4x1024x128) ![0, 0, 0] S1x1024x128.size inb_S4x1024x128_S1x1024x128_0_0_0).toLoadRect = w :=
  View.readCov_cons_toLoadRect v (Rect.unit (s := S4x1024x128) ![0, 0, 0] S1x1024x128.size inb_S4x1024x128_S1x1024x128_0_0_0) w L

theorem skip_10 (v : View sig .tc sp S4x1024x128 .f32) (w : Vec F S1x1024x128 .f32) (L : List (View.Piece (Elt F) S4x1024x128 .f32)) :
    v.readCov (⟨(Rect.unit (s := S4x1024x128) ![0, 0, 0] S1x1024x128.size inb_S4x1024x128_S1x1024x128_0_0_0), w⟩ :: L) (Rect.unit (s := S4x1024x128) ![1, 0, 0] S1x1024x128.size inb_S4x1024x128_S1x1024x128_1_0_0).toLoadRect = v.readCov L (Rect.unit (s := S4x1024x128) ![1, 0, 0] S1x1024x128.size inb_S4x1024x128_S1x1024x128_1_0_0).toLoadRect :=
  View.readCov_skip v (Rect.unit (s := S4x1024x128) ![0, 0, 0] S1x1024x128.size inb_S4x1024x128_S1x1024x128_0_0_0) w L (Rect.unit (s := S4x1024x128) ![1, 0, 0] S1x1024x128.size inb_S4x1024x128_S1x1024x128_1_0_0).toLoadRect (decide_eq_true ⟨0, .inr (.inr (.inl (show 0 + 1 * (1 - 1) < 1 by decide)))⟩)

theorem skip_12 (v : View sig .tc sp S4x1024x128 .f32) (w : Vec F S1x1024x128 .f32) (L : List (View.Piece (Elt F) S4x1024x128 .f32)) :
    v.readCov (⟨(Rect.unit (s := S4x1024x128) ![2, 0, 0] S1x1024x128.size inb_S4x1024x128_S1x1024x128_2_0_0), w⟩ :: L) (Rect.unit (s := S4x1024x128) ![1, 0, 0] S1x1024x128.size inb_S4x1024x128_S1x1024x128_1_0_0).toLoadRect = v.readCov L (Rect.unit (s := S4x1024x128) ![1, 0, 0] S1x1024x128.size inb_S4x1024x128_S1x1024x128_1_0_0).toLoadRect :=
  View.readCov_skip v (Rect.unit (s := S4x1024x128) ![2, 0, 0] S1x1024x128.size inb_S4x1024x128_S1x1024x128_2_0_0) w L (Rect.unit (s := S4x1024x128) ![1, 0, 0] S1x1024x128.size inb_S4x1024x128_S1x1024x128_1_0_0).toLoadRect (decide_eq_true ⟨0, .inr (.inr (.inr (show 1 + 1 * (1 - 1) < 2 by decide)))⟩)

theorem skip_13 (v : View sig .tc sp S4x1024x128 .f32) (w : Vec F S1x1024x128 .f32) (L : List (View.Piece (Elt F) S4x1024x128 .f32)) :
    v.readCov (⟨(Rect.unit (s := S4x1024x128) ![3, 0, 0] S1x1024x128.size inb_S4x1024x128_S1x1024x128_3_0_0), w⟩ :: L) (Rect.unit (s := S4x1024x128) ![1, 0, 0] S1x1024x128.size inb_S4x1024x128_S1x1024x128_1_0_0).toLoadRect = v.readCov L (Rect.unit (s := S4x1024x128) ![1, 0, 0] S1x1024x128.size inb_S4x1024x128_S1x1024x128_1_0_0).toLoadRect :=
  View.readCov_skip v (Rect.unit (s := S4x1024x128) ![3, 0, 0] S1x1024x128.size inb_S4x1024x128_S1x1024x128_3_0_0) w L (Rect.unit (s := S4x1024x128) ![1, 0, 0] S1x1024x128.size inb_S4x1024x128_S1x1024x128_1_0_0).toLoadRect (decide_eq_true ⟨0, .inr (.inr (.inr (show 1 + 1 * (1 - 1) < 3 by decide)))⟩)

theorem hit_1 (v : View sig .tc sp S4x1024x128 .f32) (w : Vec F S1x1024x128 .f32) (L : List (View.Piece (Elt F) S4x1024x128 .f32)) :
    v.readCov (⟨(Rect.unit (s := S4x1024x128) ![1, 0, 0] S1x1024x128.size inb_S4x1024x128_S1x1024x128_1_0_0), w⟩ :: L) (Rect.unit (s := S4x1024x128) ![1, 0, 0] S1x1024x128.size inb_S4x1024x128_S1x1024x128_1_0_0).toLoadRect = w :=
  View.readCov_cons_toLoadRect v (Rect.unit (s := S4x1024x128) ![1, 0, 0] S1x1024x128.size inb_S4x1024x128_S1x1024x128_1_0_0) w L

theorem skip_20 (v : View sig .tc sp S4x1024x128 .f32) (w : Vec F S1x1024x128 .f32) (L : List (View.Piece (Elt F) S4x1024x128 .f32)) :
    v.readCov (⟨(Rect.unit (s := S4x1024x128) ![0, 0, 0] S1x1024x128.size inb_S4x1024x128_S1x1024x128_0_0_0), w⟩ :: L) (Rect.unit (s := S4x1024x128) ![2, 0, 0] S1x1024x128.size inb_S4x1024x128_S1x1024x128_2_0_0).toLoadRect = v.readCov L (Rect.unit (s := S4x1024x128) ![2, 0, 0] S1x1024x128.size inb_S4x1024x128_S1x1024x128_2_0_0).toLoadRect :=
  View.readCov_skip v (Rect.unit (s := S4x1024x128) ![0, 0, 0] S1x1024x128.size inb_S4x1024x128_S1x1024x128_0_0_0) w L (Rect.unit (s := S4x1024x128) ![2, 0, 0] S1x1024x128.size inb_S4x1024x128_S1x1024x128_2_0_0).toLoadRect (decide_eq_true ⟨0, .inr (.inr (.inl (show 0 + 1 * (1 - 1) < 2 by decide)))⟩)

theorem skip_21 (v : View sig .tc sp S4x1024x128 .f32) (w : Vec F S1x1024x128 .f32) (L : List (View.Piece (Elt F) S4x1024x128 .f32)) :
    v.readCov (⟨(Rect.unit (s := S4x1024x128) ![1, 0, 0] S1x1024x128.size inb_S4x1024x128_S1x1024x128_1_0_0), w⟩ :: L) (Rect.unit (s := S4x1024x128) ![2, 0, 0] S1x1024x128.size inb_S4x1024x128_S1x1024x128_2_0_0).toLoadRect = v.readCov L (Rect.unit (s := S4x1024x128) ![2, 0, 0] S1x1024x128.size inb_S4x1024x128_S1x1024x128_2_0_0).toLoadRect :=
  View.readCov_skip v (Rect.unit (s := S4x1024x128) ![1, 0, 0] S1x1024x128.size inb_S4x1024x128_S1x1024x128_1_0_0) w L (Rect.unit (s := S4x1024x128) ![2, 0, 0] S1x1024x128.size inb_S4x1024x128_S1x1024x128_2_0_0).toLoadRect (decide_eq_true ⟨0, .inr (.inr (.inl (show 1 + 1 * (1 - 1) < 2 by decide)))⟩)

theorem skip_23 (v : View sig .tc sp S4x1024x128 .f32) (w : Vec F S1x1024x128 .f32) (L : List (View.Piece (Elt F) S4x1024x128 .f32)) :
    v.readCov (⟨(Rect.unit (s := S4x1024x128) ![3, 0, 0] S1x1024x128.size inb_S4x1024x128_S1x1024x128_3_0_0), w⟩ :: L) (Rect.unit (s := S4x1024x128) ![2, 0, 0] S1x1024x128.size inb_S4x1024x128_S1x1024x128_2_0_0).toLoadRect = v.readCov L (Rect.unit (s := S4x1024x128) ![2, 0, 0] S1x1024x128.size inb_S4x1024x128_S1x1024x128_2_0_0).toLoadRect :=
  View.readCov_skip v (Rect.unit (s := S4x1024x128) ![3, 0, 0] S1x1024x128.size inb_S4x1024x128_S1x1024x128_3_0_0) w L (Rect.unit (s := S4x1024x128) ![2, 0, 0] S1x1024x128.size inb_S4x1024x128_S1x1024x128_2_0_0).toLoadRect (decide_eq_true ⟨0, .inr (.inr (.inr (show 2 + 1 * (1 - 1) < 3 by decide)))⟩)

theorem hit_2 (v : View sig .tc sp S4x1024x128 .f32) (w : Vec F S1x1024x128 .f32) (L : List (View.Piece (Elt F) S4x1024x128 .f32)) :
    v.readCov (⟨(Rect.unit (s := S4x1024x128) ![2, 0, 0] S1x1024x128.size inb_S4x1024x128_S1x1024x128_2_0_0), w⟩ :: L) (Rect.unit (s := S4x1024x128) ![2, 0, 0] S1x1024x128.size inb_S4x1024x128_S1x1024x128_2_0_0).toLoadRect = w :=
  View.readCov_cons_toLoadRect v (Rect.unit (s := S4x1024x128) ![2, 0, 0] S1x1024x128.size inb_S4x1024x128_S1x1024x128_2_0_0) w L

theorem skip_30 (v : View sig .tc sp S4x1024x128 .f32) (w : Vec F S1x1024x128 .f32) (L : List (View.Piece (Elt F) S4x1024x128 .f32)) :
    v.readCov (⟨(Rect.unit (s := S4x1024x128) ![0, 0, 0] S1x1024x128.size inb_S4x1024x128_S1x1024x128_0_0_0), w⟩ :: L) (Rect.unit (s := S4x1024x128) ![3, 0, 0] S1x1024x128.size inb_S4x1024x128_S1x1024x128_3_0_0).toLoadRect = v.readCov L (Rect.unit (s := S4x1024x128) ![3, 0, 0] S1x1024x128.size inb_S4x1024x128_S1x1024x128_3_0_0).toLoadRect :=
  View.readCov_skip v (Rect.unit (s := S4x1024x128) ![0, 0, 0] S1x1024x128.size inb_S4x1024x128_S1x1024x128_0_0_0) w L (Rect.unit (s := S4x1024x128) ![3, 0, 0] S1x1024x128.size inb_S4x1024x128_S1x1024x128_3_0_0).toLoadRect (decide_eq_true ⟨0, .inr (.inr (.inl (show 0 + 1 * (1 - 1) < 3 by decide)))⟩)

theorem skip_31 (v : View sig .tc sp S4x1024x128 .f32) (w : Vec F S1x1024x128 .f32) (L : List (View.Piece (Elt F) S4x1024x128 .f32)) :
    v.readCov (⟨(Rect.unit (s := S4x1024x128) ![1, 0, 0] S1x1024x128.size inb_S4x1024x128_S1x1024x128_1_0_0), w⟩ :: L) (Rect.unit (s := S4x1024x128) ![3, 0, 0] S1x1024x128.size inb_S4x1024x128_S1x1024x128_3_0_0).toLoadRect = v.readCov L (Rect.unit (s := S4x1024x128) ![3, 0, 0] S1x1024x128.size inb_S4x1024x128_S1x1024x128_3_0_0).toLoadRect :=
  View.readCov_skip v (Rect.unit (s := S4x1024x128) ![1, 0, 0] S1x1024x128.size inb_S4x1024x128_S1x1024x128_1_0_0) w L (Rect.unit (s := S4x1024x128) ![3, 0, 0] S1x1024x128.size inb_S4x1024x128_S1x1024x128_3_0_0).toLoadRect (decide_eq_true ⟨0, .inr (.inr (.inl (show 1 + 1 * (1 - 1) < 3 by decide)))⟩)

theorem skip_32 (v : View sig .tc sp S4x1024x128 .f32) (w : Vec F S1x1024x128 .f32) (L : List (View.Piece (Elt F) S4x1024x128 .f32)) :
    v.readCov (⟨(Rect.unit (s := S4x1024x128) ![2, 0, 0] S1x1024x128.size inb_S4x1024x128_S1x1024x128_2_0_0), w⟩ :: L) (Rect.unit (s := S4x1024x128) ![3, 0, 0] S1x1024x128.size inb_S4x1024x128_S1x1024x128_3_0_0).toLoadRect = v.readCov L (Rect.unit (s := S4x1024x128) ![3, 0, 0] S1x1024x128.size inb_S4x1024x128_S1x1024x128_3_0_0).toLoadRect :=
  View.readCov_skip v (Rect.unit (s := S4x1024x128) ![2, 0, 0] S1x1024x128.size inb_S4x1024x128_S1x1024x128_2_0_0) w L (Rect.unit (s := S4x1024x128) ![3, 0, 0] S1x1024x128.size inb_S4x1024x128_S1x1024x128_3_0_0).toLoadRect (decide_eq_true ⟨0, .inr (.inr (.inl (show 2 + 1 * (1 - 1) < 3 by decide)))⟩)

theorem hit_3 (v : View sig .tc sp S4x1024x128 .f32) (w : Vec F S1x1024x128 .f32) (L : List (View.Piece (Elt F) S4x1024x128 .f32)) :
    v.readCov (⟨(Rect.unit (s := S4x1024x128) ![3, 0, 0] S1x1024x128.size inb_S4x1024x128_S1x1024x128_3_0_0), w⟩ :: L) (Rect.unit (s := S4x1024x128) ![3, 0, 0] S1x1024x128.size inb_S4x1024x128_S1x1024x128_3_0_0).toLoadRect = w :=
  View.readCov_cons_toLoadRect v (Rect.unit (s := S4x1024x128) ![3, 0, 0] S1x1024x128.size inb_S4x1024x128_S1x1024x128_3_0_0) w L

theorem read_cols (v : View sig .tc sp S1024x512 .bf16) (f : v.ty.Contents (Elt F)) (g : Fin 4 → FVec F S1024x128 .bf16) :
    v.read (Elt F) (v.writes (Elt F) f (colList g)) = columns g := by
  funext y
  refine View.read_writes_apply_of_pieces (v := v) _ (columns g) (colList g) ?_ y
    (View.cover_of_tiledL (colList g) S1024x128.size (by sl_kernel_rfl) y)
  intro p hp
  simp only [List.mem_cons, List.not_mem_nil, or_false] at hp
  rcases hp with rfl | rfl | rfl | rfl
  · exact columns_at_3 g
  · exact columns_at_2 g
  · exact columns_at_1 g
  · exact columns_at_0 g

end Cert.KernelIdeal.Fox
-- ==== Proof.Schedule.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Step
public import Idealize.ShloMosaic.Lib.Pipeline.TableIdle
public import Idealize.ShloMosaic.Lib.Affine
public import Idealize.ShloMosaic.PureOps.BitExact

/-!
# The schedule of the forgetting attention

The four tables the program hands its kernel list the ten pairs of a query tile and a key tile on or below the diagonal, and
say which pair opens and which closes a row of tiles. Here: the pipeline at these tables, and what they decide at each of the
160 grid points.
-/

@[expose] public section

set_option maxRecDepth 16384
set_option Elab.async false

noncomputable section

namespace Cert.KernelIdeal.Fox

open Cert.KernelIdeal Cert.KernelIdeal.Gen
open Idealize.ShloMosaic
open Idealize.ShloMosaic.TcCoe

variable {F : FTy → Type} [FloatOps F]

/-- The query tile of each pair. -/
def T0 : S10.Idx → Elt F .i32 := fun i => lit0 (S10.rowMajor i)
/-- The key tile of each pair. -/
def T1 : S10.Idx → Elt F .i32 := fun i => lit1 (S10.rowMajor i)
/-- Whether the pair opens its row of tiles. -/
def T2 : S10.Idx → Elt F .i32 := fun i => lit2 (S10.rowMajor i)
/-- Whether the pair closes its row of tiles. -/
def T3 : S10.Idx → Elt F .i32 := fun i => lit3 (S10.rowMajor i)

/-- The four tables. -/
def tables : pre0.Contents (Elt F) := fun | ⟨0, _⟩ => T0 | ⟨1, _⟩ => T1 | ⟨2, _⟩ => T2 | ⟨3, _⟩ => T3 | ⟨_ + 4, h⟩ => absurd h (by simp)

theorem inb_q_bits : ∀ i : grid0.Coords, ∀ a, (cc0_transform_0 k0_off1_inb numel1_S1 (tables (F := Bits)) i a + 1) * S1024x512.size a ≤ S16384x10240.size a := by decide +kernel
theorem inb_k_bits : ∀ i : grid0.Coords, ∀ a, (cc0_transform_1 k0_off1_inb numel1_S1 (tables (F := Bits)) i a + 1) * S1024x512.size a ≤ S16384x10240.size a := by decide +kernel
theorem inb_v_bits : ∀ i : grid0.Coords, ∀ a, (cc0_transform_2 k0_off1_inb numel1_S1 (tables (F := Bits)) i a + 1) * S1024x512.size a ≤ S16384x10240.size a := by decide +kernel
theorem inb_f_bits : ∀ i : grid0.Coords, ∀ a, (cc0_transform_3 k0_off1_inb numel1_S1 (tables (F := Bits)) i a + 1) * S1x4x1x1024.size a ≤ S4x16x1x4096.size a := by decide +kernel
theorem inb_o_bits : ∀ i : grid0.Coords, ∀ a, (cc0_transform_4 k0_off1_inb numel1_S1 (tables (F := Bits)) i a + 1) * S1024x512.size a ≤ S16384x2048.size a := by decide +kernel

/-- Every block the tables name lies inside its array. -/
theorem ok_tables : ok0 (tables (F := F)) :=
  ⟨fun i => ⟨inb_q_bits i, .inr (Affine.block_words_dvd (s := S16384x10240) (p := EltTy.packing .bf16) (by decide) (by decide))⟩,
   fun i => ⟨inb_k_bits i, .inr (Affine.block_words_dvd (s := S16384x10240) (p := EltTy.packing .bf16) (by decide) (by decide))⟩,
   fun i => ⟨inb_v_bits i, .inr (Affine.block_words_dvd (s := S16384x10240) (p := EltTy.packing .bf16) (by decide) (by decide))⟩,
   fun i => ⟨inb_f_bits i, .inl rfl⟩,
   fun i => ⟨inb_o_bits i, .inr (Affine.block_words_dvd (s := S16384x2048) (p := EltTy.packing .bf16) (by decide) (by decide))⟩⟩

/-- The tables as admissible contents, and the pipeline at them. -/
def adm : (pcfg0 (F := F)).Adm := ⟨tables, ok_tables⟩
abbrev cfgA (F : FTy → Type) [FloatOps F] : Pipeline.Cfg sig Λ₀ := cfg0 (F := F) adm

/-- Point `t`'s coordinates. -/
abbrev crd (t : Fin (cfgA F).N) : grid0.Coords := (cfgA F).grid.coords t

/-- The query tile of a point. -/
abbrev wq (F : FTy → Type) [FloatOps F] (i : grid0.Coords) : BitVec 32 := word0 i (T0 (F := F))
/-- The key tile of a point. -/
abbrev wk (F : FTy → Type) [FloatOps F] (i : grid0.Coords) : BitVec 32 := word1 i (T1 (F := F))

/-- The kernel's test that a pair opens its row of tiles. -/
abbrev isFirst (F : FTy → Type) [FloatOps F] (i : grid0.Coords) : Prop := (Scalar.cmpi .ne (Scalar.extui (Scalar.cmpi .eq (word2 i (T2 (F := F))) 1#32)) 0#32) = 1#1
/-- The kernel's test that a key tile lies before the diagonal. -/
abbrev isLow (F : FTy → Type) [FloatOps F] (i : grid0.Coords) : Prop := (Scalar.cmpi .ne (Scalar.extui (Scalar.cmpi .slt (word1 i (T1 (F := F))) (word0 i (T0 (F := F))))) 0#32) = 1#1
/-- The kernel's test that a key tile lies on the diagonal. -/
abbrev isDiag (F : FTy → Type) [FloatOps F] (i : grid0.Coords) : Prop := (Scalar.cmpi .ne (Scalar.extui (Scalar.cmpi .eq (word1 i (T1 (F := F))) (word0 i (T0 (F := F))))) 0#32) = 1#1
/-- The kernel's test that a pair closes its row of tiles. -/
abbrev isLast (F : FTy → Type) [FloatOps F] (i : grid0.Coords) : Prop := k0_cond4 (word3 i (T3 (F := F))) = 1#1

/-- What the tables decide at a point: its key tile is before or on the diagonal, it closes its row of tiles exactly on the
    diagonal, and there alone the output block is stored and written back. -/
abbrev FactsAt (F : FTy → Type) [FloatOps F] (t : Fin (cfgA F).N) : Prop :=
  (isLow F (crd t) ↔ ¬ isDiag F (crd t)) ∧ (isLast F (crd t) ↔ isDiag F (crd t))
  ∧ (t.val = 0 → isFirst F (crd t))
  ∧ (isDiag F (crd t) → (cfgA F).idle (4 : Fin 5) (crd t) = false ∧ ((cfgA F).win (4 : Fin 5)).flush t = true)
  ∧ (¬ isDiag F (crd t) → (cfgA F).idle (4 : Fin 5) (crd t) = true ∧ ((cfgA F).win (4 : Fin 5)).flush t = false)

set_option synthInstance.maxSize 65536 in
theorem facts_0 : ∀ t : Fin (cfgA Bits).N, t.val < 40 → FactsAt Bits t := by decide +kernel
theorem facts_1 : ∀ t : Fin (cfgA Bits).N, 40 ≤ t.val → t.val < 80 → FactsAt Bits t := by decide +kernel
theorem facts_2 : ∀ t : Fin (cfgA Bits).N, 80 ≤ t.val → t.val < 120 → FactsAt Bits t := by decide +kernel
theorem facts_3 : ∀ t : Fin (cfgA Bits).N, 120 ≤ t.val → FactsAt Bits t := by decide +kernel

theorem facts_bits (t : Fin (cfgA Bits).N) : FactsAt Bits t := by
  rcases Nat.lt_or_ge t.val 40 with h1 | h1; · exact facts_0 t h1
  rcases Nat.lt_or_ge t.val 80 with h2 | h2; · exact facts_1 t h1 h2
  rcases Nat.lt_or_ge t.val 120 with h3 | h3; · exact facts_2 t h2 h3
  exact facts_3 t h3

theorem facts (t : Fin (cfgA F).N) : FactsAt F t := facts_bits t

end Cert.KernelIdeal.Fox

end
-- ==== Proof.Masked.lean ====
module

public import proofs.«01_k».proof.Proof.Step
public import proofs.«01_k».proof.Proof.Gen.KernelIdeal.Skeleton
public import proofs.«01_k».proof.Proof.Gen.KernelIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init
public import Idealize.ShloMosaic.Lib.VecWindow
public import Idealize.ShloMosaic.Lib.Pipeline.ReadBack
public import Idealize.ShloMosaic.Lib.Pointwise.Index

/-!
# The heads of a masked tile

The body spells its four heads out one after another, each cut into values at other places. Each is the one update of `Step`.
-/

@[expose] public section

set_option maxRecDepth 16384
set_option Elab.async false

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem masked_m0 (wq wk : BitVec 32) (q k : Vec F S1024x128 .bf16) (f : Vec F S1x1x1x1024 .f32) (m : Vec F S1x1024x128 .f32) :
    k0_pay49 (k0_pay44 wq wk q k f m) = mOf (k0_pay42 wq wk q k f) m := rfl

theorem masked_m1 (wq wk : BitVec 32) (q k : Vec F S1024x128 .bf16) (f : Vec F S1x1x1x1024 .f32) (m : Vec F S1x1024x128 .f32) :
    k0_pay58 (k0_pay53 (k0_pay41 (F := F) wq wk) (k0_pay50 q k) f m) = mOf (k0_pay42 wq wk q k f) m := rfl

theorem masked_m2 (wq wk : BitVec 32) (q k : Vec F S1024x128 .bf16) (f : Vec F S1x1x1x1024 .f32) (m : Vec F S1x1024x128 .f32) :
    k0_pay67 (k0_pay61 (k0_pay41 (F := F) wq wk) q k f m) = mOf (k0_pay42 wq wk q k f) m := rfl

theorem masked_m3 (wq wk : BitVec 32) (q k : Vec F S1024x128 .bf16) (f : Vec F S1x1x1x1024 .f32) (m : Vec F S1x1024x128 .f32) :
    k0_pay7 (k0_pay71 (k0_pay41 (F := F) wq wk) (k0_pay68 q k f) (FloatOps.ofBits .f32 0xF149F2CA#32) m) = mOf (k0_pay42 wq wk q k f) m := rfl

theorem masked_l0 (wq wk : BitVec 32) (q k : Vec F S1024x128 .bf16) (f : Vec F S1x1x1x1024 .f32) (m l : Vec F S1x1024x128 .f32) :
    k0_pay47 (k0_pay45 wq wk q k f m) (k0_pay46 wq wk q k f m) l = lOf (k0_pay42 wq wk q k f) (maskP wq wk (pOf (k0_pay42 wq wk q k f) m)) m l := rfl

theorem masked_l1 (wq wk : BitVec 32) (q k : Vec F S1024x128 .bf16) (f : Vec F S1x1x1x1024 .f32) (m l : Vec F S1x1024x128 .f32) :
    k0_pay56 (k0_pay41 (F := F) wq wk) (k0_pay50 q k) f m l = lOf (k0_pay42 wq wk q k f) (maskP wq wk (pOf (k0_pay42 wq wk q k f) m)) m l := rfl

theorem masked_l2 (wq wk : BitVec 32) (q k : Vec F S1024x128 .bf16) (f : Vec F S1x1x1x1024 .f32) (m l : Vec F S1x1024x128 .f32) :
    k0_pay65 (k0_pay63 (k0_pay41 (F := F) wq wk) q k f m) (k0_pay64 (k0_pay41 (F := F) wq wk) q k f m l) = lOf (k0_pay42 wq wk q k f) (maskP wq wk (pOf (k0_pay42 wq wk q k f) m)) m l := rfl

theorem masked_l3 (wq wk : BitVec 32) (q k : Vec F S1024x128 .bf16) (f : Vec F S1x1x1x1024 .f32) (m l : Vec F S1x1024x128 .f32) :
    k0_pay74 (k0_pay41 (F := F) wq wk) (k0_pay68 q k f) (FloatOps.ofBits .f32 0xF149F2CA#32) m l = lOf (k0_pay42 wq wk q k f) (maskP wq wk (pOf (k0_pay42 wq wk q k f) m)) m l := rfl

theorem masked_a0 (wq wk : BitVec 32) (q k v : Vec F S1024x128 .bf16) (f : Vec F S1x1x1x1024 .f32) (m a : Vec F S1x1024x128 .f32) :
    k0_pay48 v (k0_pay45 wq wk q k f m) (k0_pay46 wq wk q k f m) a = aOf (k0_pay42 wq wk q k f) (maskP wq wk (pOf (k0_pay42 wq wk q k f) m)) v m a := rfl

theorem masked_a1 (wq wk : BitVec 32) (q k v : Vec F S1024x128 .bf16) (f : Vec F S1x1x1x1024 .f32) (m a : Vec F S1x1024x128 .f32) :
    k0_pay57 (k0_pay41 (F := F) wq wk) v (k0_pay50 q k) f m a = aOf (k0_pay42 wq wk q k f) (maskP wq wk (pOf (k0_pay42 wq wk q k f) m)) v m a := rfl

theorem masked_a2 (wq wk : BitVec 32) (q k v : Vec F S1024x128 .bf16) (f : Vec F S1x1x1x1024 .f32) (m a : Vec F S1x1024x128 .f32) :
    k0_pay66 v (k0_pay62 (k0_pay41 (F := F) wq wk) q k f m) (k0_pay63 (k0_pay41 (F := F) wq wk) q k f m) a = aOf (k0_pay42 wq wk q k f) (maskP wq wk (pOf (k0_pay42 wq wk q k f) m)) v m a := rfl

theorem masked_a3 (wq wk : BitVec 32) (q k v : Vec F S1024x128 .bf16) (f : Vec F S1x1x1x1024 .f32) (m a : Vec F S1x1024x128 .f32) :
    k0_pay75 (k0_pay41 (F := F) wq wk) v (k0_pay68 q k f) (FloatOps.ofBits .f32 0xF149F2CA#32) m a = aOf (k0_pay42 wq wk q k f) (maskP wq wk (pOf (k0_pay42 wq wk q k f) m)) v m a := rfl

theorem out_1 (l a : Vec F S1x1024x128 .f32) : k0_pay77 l a = k0_pay76 l a := rfl

theorem out_2 (l a : Vec F S1x1024x128 .f32) : k0_pay78 l a = k0_pay76 l a := rfl

theorem out_3 (l a : Vec F S1x1024x128 .f32) : k0_pay8 l a = k0_pay76 l a := rfl

end Cert.KernelIdeal.Fox
-- ==== Proof.RunA.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Step
public import proofs.«01_k».proof.Proof.Masked
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init
public import Idealize.ShloMosaic.Lib.VecWindow
public import Idealize.ShloMosaic.Lib.Pipeline.ReadBack
public import Idealize.ShloMosaic.Lib.Pointwise.Index

/-!
# The body's four paths

What one grid point of the forgetting attention leaves in its scratch buffers and its output block: at the first or a later
tile of a row of tiles, before or on the diagonal.
-/

@[expose] public section

set_option maxRecDepth 16384
set_option Elab.async false

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option backward.proofsInPublic true in
set_option maxHeartbeats 8000000 in
/-- The only tile of the first row of tiles: the three statistics after it, and the output block. -/
theorem run_A (c : Dev nD) (i : grid0.Coords) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1x4x1x1024 .f32) (harg10 : arg10.IsWhole) (arg11 : Memref sig .tc .vmem S1024x512 .bf16) (harg11 : arg11.IsWhole) (T0 T1 T2 T3 : (S10.Idx → Elt F .i32))
     (x0 : (S1024x512.Idx → Elt F .bf16)) (x1 : (S1024x512.Idx → Elt F .bf16)) (x2 : (S1024x512.Idx → Elt F .bf16)) (x3 : (S1x4x1x1024.Idx → Elt F .f32))
     (xa0 xa1 xa2 : S4x1024x128.Idx → Elt F .f32)
     (hc0 : (Scalar.cmpi .ne (Scalar.extui (Scalar.cmpi .eq (word2 i T2) 1#32)) 0#32) = 1#1)
     (hc1 : ¬(Scalar.cmpi .ne (Scalar.extui (Scalar.cmpi .slt (word1 i T1) (word0 i T0))) 0#32) = 1#1)
     (hc2 : (Scalar.cmpi .ne (Scalar.extui (Scalar.cmpi .eq (word1 i T1) (word0 i T0))) 0#32) = 1#1)
     (k0_h4 :  k0_cond4 (word3 i T3) = 1#1)
     (K : PUnit → sProp 𝕄) :
        iprop((arg7.view.loc (c : Thread nD τ) ↦[arg7.view.set]{fullShare} arg7.view.rep x0)
          ∗ (arg8.view.loc (c : Thread nD τ) ↦[arg8.view.set]{fullShare} arg8.view.rep x1)
          ∗ (arg9.view.loc (c : Thread nD τ) ↦[arg9.view.set]{fullShare} arg9.view.rep x2)
          ∗ (arg10.view.loc (c : Thread nD τ) ↦[arg10.view.set]{fullShare} arg10.view.rep x3)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ (tb3.view.loc (c : Thread nD τ) ↦{fullShare.right} T3)
          ∗ (∃ d, owns (c : Thread nD τ) arg11 fullShare d)
          ∗ (scM.view.loc (c : Thread nD τ) ↦{fullShare} xa0)
          ∗ (scL.view.loc (c : Thread nD τ) ↦{fullShare} xa1)
          ∗ (scA.view.loc (c : Thread nD τ) ↦{fullShare} xa2)
          ∗ (iprop((arg7.view.loc (c : Thread nD τ) ↦[arg7.view.set]{fullShare} arg7.view.rep x0)
              ∗ (arg8.view.loc (c : Thread nD τ) ↦[arg8.view.set]{fullShare} arg8.view.rep x1)
              ∗ (arg9.view.loc (c : Thread nD τ) ↦[arg9.view.set]{fullShare} arg9.view.rep x2)
              ∗ (arg10.view.loc (c : Thread nD τ) ↦[arg10.view.set]{fullShare} arg10.view.rep x3)
              ∗ (tb0.view.loc (c : Thread nD τ) ↦{fullShare.right} T0)
              ∗ (tb1.view.loc (c : Thread nD τ) ↦{fullShare.right} T1)
              ∗ (tb2.view.loc (c : Thread nD τ) ↦{fullShare.right} T2)
              ∗ (tb3.view.loc (c : Thread nD τ) ↦{fullShare.right} T3)
              ∗ owns (c : Thread nD τ) arg11 fullShare (outOf (stepL (scMask (word0 i T0) (word1 i T1) x0 x1 x3) (pMask (word0 i T0) (word1 i T1) x0 x1 x3 (k0_pay1 (F := F))) (k0_pay1 (F := F)) (k0_pay2 (F := F))) (stepA (scMask (word0 i T0) (word1 i T1) x0 x1 x3) (pMask (word0 i T0) (word1 i T1) x0 x1 x3 (k0_pay1 (F := F))) x2 (k0_pay1 (F := F)) (k0_pay3 (F := F))))
              ∗ (scM.view.loc (c : Thread nD τ) ↦{fullShare} stepM (scMask (word0 i T0) (word1 i T1) x0 x1 x3) (k0_pay1 (F := F)))
              ∗ (scL.view.loc (c : Thread nD τ) ↦{fullShare} stepL (scMask (word0 i T0) (word1 i T1) x0 x1 x3) (pMask (word0 i T0) (word1 i T1) x0 x1 x3 (k0_pay1 (F := F))) (k0_pay1 (F := F)) (k0_pay2 (F := F)))
              ∗ (scA.view.loc (c : Thread nD τ) ↦{fullShare} stepA (scMask (word0 i T0) (word1 i T1) x0 x1 x3) (pMask (word0 i T0) (word1 i T1) x0 x1 x3 (k0_pay1 (F := F))) x2 (k0_pay1 (F := F)) (k0_pay3 (F := F)))) -∗ K ⟨⟩))
          ⊢ wp frame (wpE (defs₀ (F := F)) Variants.none c none) Set.univ (cc0_flash_fox i tb0 (Memref.isWhole_whole _) tb1 (Memref.isWhole_whole _) tb2 (Memref.isWhole_whole _) tb3 (Memref.isWhole_whole _) arg7 harg7 arg8 harg8 arg9 harg9 arg10 harg10 arg11 harg11 scM (Memref.isWhole_whole _) scL (Memref.isWhole_whole _) scA (Memref.isWhole_whole _)) K := by
    unfold owns
    rw [cc0_flash_fox_eq_skeleton]; unfold cc0_flash_fox_skel
    iintro ⟨H0, H1, H2, H3, HT0, HT1, HT2, HT3, ⟨%d4, %f4, -, HO4⟩, HS0, HS1, HS2, Hk⟩
    have hS0 : scM.IsWhole := Memref.isWhole_whole _
    have hS1 : scL.IsWhole := Memref.isWhole_whole _
    have hS2 : scA.IsWhole := Memref.isWhole_whole _
    have hT0 : tb0.IsWhole := Memref.isWhole_whole _
    have hT1 : tb1.IsWhole := Memref.isWhole_whole _
    have hT2 : tb2.IsWhole := Memref.isWhole_whole _
    have hT3 : tb3.IsWhole := Memref.isWhole_whole _
    sl_exec! (disch := first | (guard_target = Scalar.cmpi = _; exact hc0) | (guard_target = ¬(Scalar.cmpi = _); exact hc1) | (guard_target = Scalar.cmpi = _; exact hc2) | (guard_target = k0_cond4 _ = _; exact k0_h4))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HT3]; · iexact HT3
    have E0 : scM.view.writes (Elt F) scM.view.junk (planeList (fun r => mOf (scMask (word0 i T0) (word1 i T1) x0 x1 x3 r) (headStat (k0_pay1 (F := F)) r)) ++ [⟨Rect.unit (s := S4x1024x128) ![0, 0, 0] S4x1024x128.size inb_S4x1024x128_S4x1024x128_0_0_0, (k0_pay1 (F := F))⟩])
        = stepM (scMask (word0 i T0) (word1 i T1) x0 x1 x3) (k0_pay1 (F := F)) := planes_M _ _ _
    have E1 : scL.view.writes (Elt F) scL.view.junk (planeList (fun r => lOf (scMask (word0 i T0) (word1 i T1) x0 x1 x3 r) (pMask (word0 i T0) (word1 i T1) x0 x1 x3 (k0_pay1 (F := F)) r) (headStat (k0_pay1 (F := F)) r) (headStat (k0_pay2 (F := F)) r)) ++ [⟨Rect.unit (s := S4x1024x128) ![0, 0, 0] S4x1024x128.size inb_S4x1024x128_S4x1024x128_0_0_0, (k0_pay2 (F := F))⟩])
        = stepL (scMask (word0 i T0) (word1 i T1) x0 x1 x3) (pMask (word0 i T0) (word1 i T1) x0 x1 x3 (k0_pay1 (F := F))) (k0_pay1 (F := F)) (k0_pay2 (F := F)) := planes_L _ _ _
    have E2 : scA.view.writes (Elt F) scA.view.junk
          (planeList (fun r => aOf (scMask (word0 i T0) (word1 i T1) x0 x1 x3 r) (pMask (word0 i T0) (word1 i T1) x0 x1 x3 (k0_pay1 (F := F)) r) (headCols x2 r) (headStat (k0_pay1 (F := F)) r) (headStat (k0_pay3 (F := F)) r)) ++ [⟨Rect.unit (s := S4x1024x128) ![0, 0, 0] S4x1024x128.size inb_S4x1024x128_S4x1024x128_0_0_0, (k0_pay3 (F := F))⟩])
        = stepA (scMask (word0 i T0) (word1 i T1) x0 x1 x3) (pMask (word0 i T0) (word1 i T1) x0 x1 x3 (k0_pay1 (F := F))) x2 (k0_pay1 (F := F)) (k0_pay3 (F := F)) := planes_A _ _ _
    delta run_A.sl.HO4_4 run_A.sl.HS0_1 run_A.sl.HS0_2 run_A.sl.HS0_3 run_A.sl.HS0_4 run_A.sl.HS0_5 run_A.sl.HS1_1 run_A.sl.HS1_2 run_A.sl.HS1_3 run_A.sl.HS1_4 run_A.sl.HS1_5 run_A.sl.HS2_1 run_A.sl.HS2_2 run_A.sl.HS2_3 run_A.sl.HS2_4 run_A.sl.HS2_5 run_A.sl.cst_114 run_A.sl.r run_A.sl.r_1 run_A.sl.r_10 run_A.sl.r_11 run_A.sl.r_12 run_A.sl.r_13 run_A.sl.r_14 run_A.sl.r_15 run_A.sl.r_16 run_A.sl.r_17 run_A.sl.r_18 run_A.sl.r_19 run_A.sl.r_2 run_A.sl.r_20 run_A.sl.r_3 run_A.sl.r_4 run_A.sl.r_5 run_A.sl.r_6 run_A.sl.r_7 run_A.sl.r_8 run_A.sl.r_9 run_A.sl.v107 run_A.sl.v117 run_A.sl.v143 run_A.sl.v157 run_A.sl.v167 run_A.sl.v193 run_A.sl.v20 run_A.sl.v207 run_A.sl.v217 run_A.sl.v24 run_A.sl.v29 run_A.sl.v33 run_A.sl.v38 run_A.sl.v42 run_A.sl.v43 run_A.sl.v47 run_A.sl.v51 run_A.sl.v57 run_A.sl.v67 run_A.sl.v93
    rw [cols_0 arg7 x0, cols_1 arg7 x0, cols_2 arg7 x0, cols_3 arg7 x0, cols_0 arg8 x1, cols_1 arg8 x1, cols_2 arg8 x1, cols_3 arg8 x1, cols_0 arg9 x2, cols_1 arg9 x2, cols_2 arg9 x2, cols_3 arg9 x2, row_0 arg10 x3, row_1 arg10 x3, row_2 arg10 x3, row_3 arg10 x3]
    repeat rw [skip_32]
    repeat rw [skip_31]
    repeat rw [skip_30]
    repeat rw [skip_21]
    repeat rw [skip_20]
    repeat rw [skip_10]
    repeat rw [readCov_init_0]
    repeat rw [readCov_init_1]
    repeat rw [readCov_init_2]
    repeat rw [readCov_init_3]
    repeat rw [skip_03]
    repeat rw [skip_02]
    repeat rw [skip_01]
    repeat rw [hit_0]
    repeat rw [skip_13]
    repeat rw [skip_12]
    repeat rw [hit_1]
    repeat rw [skip_23]
    repeat rw [hit_2]
    repeat rw [hit_3]
    repeat rw [masked_m0]
    repeat rw [masked_m1]
    repeat rw [masked_m2]
    repeat rw [masked_m3]
    repeat rw [masked_l0]
    repeat rw [masked_l1]
    repeat rw [masked_l2]
    repeat rw [masked_l3]
    repeat rw [masked_a0]
    repeat rw [masked_a1]
    repeat rw [masked_a2]
    repeat rw [masked_a3]
    repeat rw [out_1]
    repeat rw [out_2]
    repeat rw [out_3]
    isplitl [HO4]
    · iexists (arg11.view.writes (Elt F) arg11.view.junk (colList (fun r => k0_pay76 (lOf (scMask (word0 i T0) (word1 i T1) x0 x1 x3 r) (pMask (word0 i T0) (word1 i T1) x0 x1 x3 (k0_pay1 (F := F)) r) (headStat (k0_pay1 (F := F)) r) (headStat (k0_pay2 (F := F)) r))
        (aOf (scMask (word0 i T0) (word1 i T1) x0 x1 x3 r) (pMask (word0 i T0) (word1 i T1) x0 x1 x3 (k0_pay1 (F := F)) r) (headCols x2 r) (headStat (k0_pay1 (F := F)) r) (headStat (k0_pay3 (F := F)) r)))))
      isplitr; swap
      · iexact HO4
      · ipureintro
        rw [read_cols]
        simp only [outOf, stepL, stepA, headStat_planes]
    rw [← E0, ← E1, ← E2]
    isplitl [HS0]; · iexact HS0
    isplitl [HS1]; · iexact HS1
    iexact HS2

end Cert.KernelIdeal.Fox
-- ==== Proof.RunB.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Step
public import proofs.«01_k».proof.Proof.Masked
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init
public import Idealize.ShloMosaic.Lib.VecWindow
public import Idealize.ShloMosaic.Lib.Pipeline.ReadBack
public import Idealize.ShloMosaic.Lib.Pointwise.Index

/-!
# The body's four paths

What one grid point of the forgetting attention leaves in its scratch buffers and its output block: at the first or a later
tile of a row of tiles, before or on the diagonal.
-/

@[expose] public section

set_option maxRecDepth 16384
set_option Elab.async false

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option backward.proofsInPublic true in
set_option maxHeartbeats 8000000 in
/-- The first tile of a later row of tiles: the three statistics after it. -/
theorem run_B (c : Dev nD) (i : grid0.Coords) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1x4x1x1024 .f32) (harg10 : arg10.IsWhole) (arg11 : Memref sig .tc .vmem S1024x512 .bf16) (harg11 : arg11.IsWhole) (T0 T1 T2 T3 : (S10.Idx → Elt F .i32))
     (x0 : (S1024x512.Idx → Elt F .bf16)) (x1 : (S1024x512.Idx → Elt F .bf16)) (x2 : (S1024x512.Idx → Elt F .bf16)) (x3 : (S1x4x1x1024.Idx → Elt F .f32))
     (xa0 xa1 xa2 : S4x1024x128.Idx → Elt F .f32)
     (hc0 : (Scalar.cmpi .ne (Scalar.extui (Scalar.cmpi .eq (word2 i T2) 1#32)) 0#32) = 1#1)
     (hc1 : (Scalar.cmpi .ne (Scalar.extui (Scalar.cmpi .slt (word1 i T1) (word0 i T0))) 0#32) = 1#1)
     (hc2 : ¬(Scalar.cmpi .ne (Scalar.extui (Scalar.cmpi .eq (word1 i T1) (word0 i T0))) 0#32) = 1#1)
     (k0_h4 : ¬ k0_cond4 (word3 i T3) = 1#1)
     (K : PUnit → sProp 𝕄) :
        iprop((arg7.view.loc (c : Thread nD τ) ↦[arg7.view.set]{fullShare} arg7.view.rep x0)
          ∗ (arg8.view.loc (c : Thread nD τ) ↦[arg8.view.set]{fullShare} arg8.view.rep x1)
          ∗ (arg9.view.loc (c : Thread nD τ) ↦[arg9.view.set]{fullShare} arg9.view.rep x2)
          ∗ (arg10.view.loc (c : Thread nD τ) ↦[arg10.view.set]{fullShare} arg10.view.rep x3)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ (tb3.view.loc (c : Thread nD τ) ↦{fullShare.right} T3)
          ∗ (scM.view.loc (c : Thread nD τ) ↦{fullShare} xa0)
          ∗ (scL.view.loc (c : Thread nD τ) ↦{fullShare} xa1)
          ∗ (scA.view.loc (c : Thread nD τ) ↦{fullShare} xa2)
          ∗ (iprop((arg7.view.loc (c : Thread nD τ) ↦[arg7.view.set]{fullShare} arg7.view.rep x0)
              ∗ (arg8.view.loc (c : Thread nD τ) ↦[arg8.view.set]{fullShare} arg8.view.rep x1)
              ∗ (arg9.view.loc (c : Thread nD τ) ↦[arg9.view.set]{fullShare} arg9.view.rep x2)
              ∗ (arg10.view.loc (c : Thread nD τ) ↦[arg10.view.set]{fullShare} arg10.view.rep x3)
              ∗ (tb0.view.loc (c : Thread nD τ) ↦{fullShare.right} T0)
              ∗ (tb1.view.loc (c : Thread nD τ) ↦{fullShare.right} T1)
              ∗ (tb2.view.loc (c : Thread nD τ) ↦{fullShare.right} T2)
              ∗ (tb3.view.loc (c : Thread nD τ) ↦{fullShare.right} T3)
              ∗ (scM.view.loc (c : Thread nD τ) ↦{fullShare} stepM (scPlain x0 x1 x3) (k0_pay1 (F := F)))
              ∗ (scL.view.loc (c : Thread nD τ) ↦{fullShare} stepL (scPlain x0 x1 x3) (pPlain x0 x1 x3 (k0_pay1 (F := F))) (k0_pay1 (F := F)) (k0_pay2 (F := F)))
              ∗ (scA.view.loc (c : Thread nD τ) ↦{fullShare} stepA (scPlain x0 x1 x3) (pPlain x0 x1 x3 (k0_pay1 (F := F))) x2 (k0_pay1 (F := F)) (k0_pay3 (F := F)))) -∗ K ⟨⟩))
          ⊢ wp frame (wpE (defs₀ (F := F)) Variants.none c none) Set.univ (cc0_flash_fox i tb0 (Memref.isWhole_whole _) tb1 (Memref.isWhole_whole _) tb2 (Memref.isWhole_whole _) tb3 (Memref.isWhole_whole _) arg7 harg7 arg8 harg8 arg9 harg9 arg10 harg10 arg11 harg11 scM (Memref.isWhole_whole _) scL (Memref.isWhole_whole _) scA (Memref.isWhole_whole _)) K := by
    rw [cc0_flash_fox_eq_skeleton]; unfold cc0_flash_fox_skel
    iintro ⟨H0, H1, H2, H3, HT0, HT1, HT2, HT3, HS0, HS1, HS2, Hk⟩
    have hS0 : scM.IsWhole := Memref.isWhole_whole _
    have hS1 : scL.IsWhole := Memref.isWhole_whole _
    have hS2 : scA.IsWhole := Memref.isWhole_whole _
    have hT0 : tb0.IsWhole := Memref.isWhole_whole _
    have hT1 : tb1.IsWhole := Memref.isWhole_whole _
    have hT2 : tb2.IsWhole := Memref.isWhole_whole _
    have hT3 : tb3.IsWhole := Memref.isWhole_whole _
    sl_exec! (disch := first | (guard_target = Scalar.cmpi = _; exact hc0) | (guard_target = Scalar.cmpi = _; exact hc1) | (guard_target = ¬(Scalar.cmpi = _); exact hc2) | (guard_target = ¬(k0_cond4 _ = _); exact k0_h4))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HT3]; · iexact HT3
    have E0 : scM.view.writes (Elt F) scM.view.junk (planeList (fun r => mOf (scPlain x0 x1 x3 r) (headStat (k0_pay1 (F := F)) r)) ++ [⟨Rect.unit (s := S4x1024x128) ![0, 0, 0] S4x1024x128.size inb_S4x1024x128_S4x1024x128_0_0_0, (k0_pay1 (F := F))⟩])
        = stepM (scPlain x0 x1 x3) (k0_pay1 (F := F)) := planes_M _ _ _
    have E1 : scL.view.writes (Elt F) scL.view.junk (planeList (fun r => lOf (scPlain x0 x1 x3 r) (pPlain x0 x1 x3 (k0_pay1 (F := F)) r) (headStat (k0_pay1 (F := F)) r) (headStat (k0_pay2 (F := F)) r)) ++ [⟨Rect.unit (s := S4x1024x128) ![0, 0, 0] S4x1024x128.size inb_S4x1024x128_S4x1024x128_0_0_0, (k0_pay2 (F := F))⟩])
        = stepL (scPlain x0 x1 x3) (pPlain x0 x1 x3 (k0_pay1 (F := F))) (k0_pay1 (F := F)) (k0_pay2 (F := F)) := planes_L _ _ _
    have E2 : scA.view.writes (Elt F) scA.view.junk
          (planeList (fun r => aOf (scPlain x0 x1 x3 r) (pPlain x0 x1 x3 (k0_pay1 (F := F)) r) (headCols x2 r) (headStat (k0_pay1 (F := F)) r) (headStat (k0_pay3 (F := F)) r)) ++ [⟨Rect.unit (s := S4x1024x128) ![0, 0, 0] S4x1024x128.size inb_S4x1024x128_S4x1024x128_0_0_0, (k0_pay3 (F := F))⟩])
        = stepA (scPlain x0 x1 x3) (pPlain x0 x1 x3 (k0_pay1 (F := F))) x2 (k0_pay1 (F := F)) (k0_pay3 (F := F)) := planes_A _ _ _
    delta run_B.sl.HS0_1 run_B.sl.HS0_2 run_B.sl.HS0_3 run_B.sl.HS0_4 run_B.sl.HS0_5 run_B.sl.HS1_1 run_B.sl.HS1_2 run_B.sl.HS1_3 run_B.sl.HS1_4 run_B.sl.HS1_5 run_B.sl.HS2_1 run_B.sl.HS2_2 run_B.sl.HS2_3 run_B.sl.HS2_4 run_B.sl.HS2_5 run_B.sl.r run_B.sl.r_1 run_B.sl.r_10 run_B.sl.r_11 run_B.sl.r_12 run_B.sl.r_13 run_B.sl.r_14 run_B.sl.r_15 run_B.sl.r_16 run_B.sl.r_17 run_B.sl.r_18 run_B.sl.r_19 run_B.sl.r_2 run_B.sl.r_20 run_B.sl.r_3 run_B.sl.r_4 run_B.sl.r_5 run_B.sl.r_6 run_B.sl.r_7 run_B.sl.r_8 run_B.sl.r_9 run_B.sl.v100 run_B.sl.v124 run_B.sl.v136 run_B.sl.v146 run_B.sl.v170 run_B.sl.v182 run_B.sl.v192 run_B.sl.v32 run_B.sl.v44 run_B.sl.v54 run_B.sl.v78 run_B.sl.v90
    rw [cols_0 arg7 x0, cols_1 arg7 x0, cols_2 arg7 x0, cols_3 arg7 x0, cols_0 arg8 x1, cols_1 arg8 x1, cols_2 arg8 x1, cols_3 arg8 x1, cols_0 arg9 x2, cols_1 arg9 x2, cols_2 arg9 x2, cols_3 arg9 x2, row_0 arg10 x3, row_1 arg10 x3, row_2 arg10 x3, row_3 arg10 x3]
    repeat rw [skip_32]
    repeat rw [skip_31]
    repeat rw [skip_30]
    repeat rw [skip_21]
    repeat rw [skip_20]
    repeat rw [skip_10]
    repeat rw [readCov_init_0]
    repeat rw [readCov_init_1]
    repeat rw [readCov_init_2]
    repeat rw [readCov_init_3]
    rw [← E0, ← E1, ← E2]
    isplitl [HS0]; · iexact HS0
    isplitl [HS1]; · iexact HS1
    iexact HS2

end Cert.KernelIdeal.Fox
-- ==== Proof.RunC.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Step
public import proofs.«01_k».proof.Proof.Masked
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init
public import Idealize.ShloMosaic.Lib.VecWindow
public import Idealize.ShloMosaic.Lib.Pipeline.ReadBack
public import Idealize.ShloMosaic.Lib.Pointwise.Index

/-!
# The body's four paths

What one grid point of the forgetting attention leaves in its scratch buffers and its output block: at the first or a later
tile of a row of tiles, before or on the diagonal.
-/

@[expose] public section

set_option maxRecDepth 16384
set_option Elab.async false

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option backward.proofsInPublic true in
set_option maxHeartbeats 8000000 in
/-- The diagonal tile of a later row of tiles: the three statistics after it, and the output block. -/
theorem run_C (c : Dev nD) (i : grid0.Coords) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1x4x1x1024 .f32) (harg10 : arg10.IsWhole) (arg11 : Memref sig .tc .vmem S1024x512 .bf16) (harg11 : arg11.IsWhole) (T0 T1 T2 T3 : (S10.Idx → Elt F .i32))
     (x0 : (S1024x512.Idx → Elt F .bf16)) (x1 : (S1024x512.Idx → Elt F .bf16)) (x2 : (S1024x512.Idx → Elt F .bf16)) (x3 : (S1x4x1x1024.Idx → Elt F .f32))
     (xa0 xa1 xa2 : S4x1024x128.Idx → Elt F .f32)
     (hc0 : ¬(Scalar.cmpi .ne (Scalar.extui (Scalar.cmpi .eq (word2 i T2) 1#32)) 0#32) = 1#1)
     (hc1 : ¬(Scalar.cmpi .ne (Scalar.extui (Scalar.cmpi .slt (word1 i T1) (word0 i T0))) 0#32) = 1#1)
     (hc2 : (Scalar.cmpi .ne (Scalar.extui (Scalar.cmpi .eq (word1 i T1) (word0 i T0))) 0#32) = 1#1)
     (k0_h4 :  k0_cond4 (word3 i T3) = 1#1)
     (K : PUnit → sProp 𝕄) :
        iprop((arg7.view.loc (c : Thread nD τ) ↦[arg7.view.set]{fullShare} arg7.view.rep x0)
          ∗ (arg8.view.loc (c : Thread nD τ) ↦[arg8.view.set]{fullShare} arg8.view.rep x1)
          ∗ (arg9.view.loc (c : Thread nD τ) ↦[arg9.view.set]{fullShare} arg9.view.rep x2)
          ∗ (arg10.view.loc (c : Thread nD τ) ↦[arg10.view.set]{fullShare} arg10.view.rep x3)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ (tb3.view.loc (c : Thread nD τ) ↦{fullShare.right} T3)
          ∗ (∃ d, owns (c : Thread nD τ) arg11 fullShare d)
          ∗ (scM.view.loc (c : Thread nD τ) ↦{fullShare} xa0)
          ∗ (scL.view.loc (c : Thread nD τ) ↦{fullShare} xa1)
          ∗ (scA.view.loc (c : Thread nD τ) ↦{fullShare} xa2)
          ∗ (iprop((arg7.view.loc (c : Thread nD τ) ↦[arg7.view.set]{fullShare} arg7.view.rep x0)
              ∗ (arg8.view.loc (c : Thread nD τ) ↦[arg8.view.set]{fullShare} arg8.view.rep x1)
              ∗ (arg9.view.loc (c : Thread nD τ) ↦[arg9.view.set]{fullShare} arg9.view.rep x2)
              ∗ (arg10.view.loc (c : Thread nD τ) ↦[arg10.view.set]{fullShare} arg10.view.rep x3)
              ∗ (tb0.view.loc (c : Thread nD τ) ↦{fullShare.right} T0)
              ∗ (tb1.view.loc (c : Thread nD τ) ↦{fullShare.right} T1)
              ∗ (tb2.view.loc (c : Thread nD τ) ↦{fullShare.right} T2)
              ∗ (tb3.view.loc (c : Thread nD τ) ↦{fullShare.right} T3)
              ∗ owns (c : Thread nD τ) arg11 fullShare (outOf (stepL (scMask (word0 i T0) (word1 i T1) x0 x1 x3) (pMask (word0 i T0) (word1 i T1) x0 x1 x3 xa0) xa0 xa1) (stepA (scMask (word0 i T0) (word1 i T1) x0 x1 x3) (pMask (word0 i T0) (word1 i T1) x0 x1 x3 xa0) x2 xa0 xa2))
              ∗ (scM.view.loc (c : Thread nD τ) ↦{fullShare} stepM (scMask (word0 i T0) (word1 i T1) x0 x1 x3) xa0)
              ∗ (scL.view.loc (c : Thread nD τ) ↦{fullShare} stepL (scMask (word0 i T0) (word1 i T1) x0 x1 x3) (pMask (word0 i T0) (word1 i T1) x0 x1 x3 xa0) xa0 xa1)
              ∗ (scA.view.loc (c : Thread nD τ) ↦{fullShare} stepA (scMask (word0 i T0) (word1 i T1) x0 x1 x3) (pMask (word0 i T0) (word1 i T1) x0 x1 x3 xa0) x2 xa0 xa2)) -∗ K ⟨⟩))
          ⊢ wp frame (wpE (defs₀ (F := F)) Variants.none c none) Set.univ (cc0_flash_fox i tb0 (Memref.isWhole_whole _) tb1 (Memref.isWhole_whole _) tb2 (Memref.isWhole_whole _) tb3 (Memref.isWhole_whole _) arg7 harg7 arg8 harg8 arg9 harg9 arg10 harg10 arg11 harg11 scM (Memref.isWhole_whole _) scL (Memref.isWhole_whole _) scA (Memref.isWhole_whole _)) K := by
    unfold owns
    rw [cc0_flash_fox_eq_skeleton]; unfold cc0_flash_fox_skel
    iintro ⟨H0, H1, H2, H3, HT0, HT1, HT2, HT3, ⟨%d4, %f4, -, HO4⟩, HS0, HS1, HS2, Hk⟩
    have hS0 : scM.IsWhole := Memref.isWhole_whole _
    have hS1 : scL.IsWhole := Memref.isWhole_whole _
    have hS2 : scA.IsWhole := Memref.isWhole_whole _
    have hT0 : tb0.IsWhole := Memref.isWhole_whole _
    have hT1 : tb1.IsWhole := Memref.isWhole_whole _
    have hT2 : tb2.IsWhole := Memref.isWhole_whole _
    have hT3 : tb3.IsWhole := Memref.isWhole_whole _
    sl_exec! (disch := first | (guard_target = ¬(Scalar.cmpi = _); exact hc0) | (guard_target = ¬(Scalar.cmpi = _); exact hc1) | (guard_target = Scalar.cmpi = _; exact hc2) | (guard_target = k0_cond4 _ = _; exact k0_h4))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HT3]; · iexact HT3
    have E0 : scM.view.writes (Elt F) scM.view.junk (planeList (fun r => mOf (scMask (word0 i T0) (word1 i T1) x0 x1 x3 r) (headStat xa0 r)) ++ [])
        = stepM (scMask (word0 i T0) (word1 i T1) x0 x1 x3) xa0 := planes_M _ _ _
    have E1 : scL.view.writes (Elt F) scL.view.junk (planeList (fun r => lOf (scMask (word0 i T0) (word1 i T1) x0 x1 x3 r) (pMask (word0 i T0) (word1 i T1) x0 x1 x3 xa0 r) (headStat xa0 r) (headStat xa1 r)) ++ [])
        = stepL (scMask (word0 i T0) (word1 i T1) x0 x1 x3) (pMask (word0 i T0) (word1 i T1) x0 x1 x3 xa0) xa0 xa1 := planes_L _ _ _
    have E2 : scA.view.writes (Elt F) scA.view.junk
          (planeList (fun r => aOf (scMask (word0 i T0) (word1 i T1) x0 x1 x3 r) (pMask (word0 i T0) (word1 i T1) x0 x1 x3 xa0 r) (headCols x2 r) (headStat xa0 r) (headStat xa2 r)) ++ [])
        = stepA (scMask (word0 i T0) (word1 i T1) x0 x1 x3) (pMask (word0 i T0) (word1 i T1) x0 x1 x3 xa0) x2 xa0 xa2 := planes_A _ _ _
    delta run_C.sl.HO4_4 run_C.sl.HS0_4 run_C.sl.HS1_4 run_C.sl.HS2_4 run_C.sl.cst_114 run_C.sl.r run_C.sl.r_1 run_C.sl.r_10 run_C.sl.r_11 run_C.sl.r_12 run_C.sl.r_13 run_C.sl.r_14 run_C.sl.r_15 run_C.sl.r_16 run_C.sl.r_17 run_C.sl.r_18 run_C.sl.r_19 run_C.sl.r_2 run_C.sl.r_20 run_C.sl.r_3 run_C.sl.r_4 run_C.sl.r_5 run_C.sl.r_6 run_C.sl.r_7 run_C.sl.r_8 run_C.sl.r_9 run_C.sl.v107 run_C.sl.v117 run_C.sl.v143 run_C.sl.v157 run_C.sl.v167 run_C.sl.v193 run_C.sl.v20 run_C.sl.v207 run_C.sl.v217 run_C.sl.v24 run_C.sl.v29 run_C.sl.v33 run_C.sl.v38 run_C.sl.v42 run_C.sl.v47 run_C.sl.v51 run_C.sl.v93
    rw [cols_0 arg7 x0, cols_1 arg7 x0, cols_2 arg7 x0, cols_3 arg7 x0, cols_0 arg8 x1, cols_1 arg8 x1, cols_2 arg8 x1, cols_3 arg8 x1, cols_0 arg9 x2, cols_1 arg9 x2, cols_2 arg9 x2, cols_3 arg9 x2, row_0 arg10 x3, row_1 arg10 x3, row_2 arg10 x3, row_3 arg10 x3, stat_0 scM.view xa0, stat_1 scM.view xa0, stat_2 scM.view xa0, stat_3 scM.view xa0, stat_0 scL.view xa1, stat_1 scL.view xa1, stat_2 scL.view xa1, stat_3 scL.view xa1, stat_0 scA.view xa2, stat_1 scA.view xa2, stat_2 scA.view xa2, stat_3 scA.view xa2]
    repeat rw [skip_03]
    repeat rw [skip_02]
    repeat rw [skip_01]
    repeat rw [hit_0]
    repeat rw [skip_13]
    repeat rw [skip_12]
    repeat rw [hit_1]
    repeat rw [skip_23]
    repeat rw [hit_2]
    repeat rw [hit_3]
    repeat rw [masked_m0]
    repeat rw [masked_m1]
    repeat rw [masked_m2]
    repeat rw [masked_m3]
    repeat rw [masked_l0]
    repeat rw [masked_l1]
    repeat rw [masked_l2]
    repeat rw [masked_l3]
    repeat rw [masked_a0]
    repeat rw [masked_a1]
    repeat rw [masked_a2]
    repeat rw [masked_a3]
    repeat rw [out_1]
    repeat rw [out_2]
    repeat rw [out_3]
    isplitl [HO4]
    · iexists (arg11.view.writes (Elt F) arg11.view.junk (colList (fun r => k0_pay76 (lOf (scMask (word0 i T0) (word1 i T1) x0 x1 x3 r) (pMask (word0 i T0) (word1 i T1) x0 x1 x3 xa0 r) (headStat xa0 r) (headStat xa1 r))
        (aOf (scMask (word0 i T0) (word1 i T1) x0 x1 x3 r) (pMask (word0 i T0) (word1 i T1) x0 x1 x3 xa0 r) (headCols x2 r) (headStat xa0 r) (headStat xa2 r)))))
      isplitr; swap
      · iexact HO4
      · ipureintro
        rw [read_cols]
        simp only [outOf, stepL, stepA, headStat_planes]
    rw [← E0, ← E1, ← E2]
    isplitl [HS0]; · iexact HS0
    isplitl [HS1]; · iexact HS1
    iexact HS2

end Cert.KernelIdeal.Fox
-- ==== Proof.RunD.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Step
public import proofs.«01_k».proof.Proof.Masked
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init
public import Idealize.ShloMosaic.Lib.VecWindow
public import Idealize.ShloMosaic.Lib.Pipeline.ReadBack
public import Idealize.ShloMosaic.Lib.Pointwise.Index

/-!
# The body's four paths

What one grid point of the forgetting attention leaves in its scratch buffers and its output block: at the first or a later
tile of a row of tiles, before or on the diagonal.
-/

@[expose] public section

set_option maxRecDepth 16384
set_option Elab.async false

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option backward.proofsInPublic true in
set_option maxHeartbeats 8000000 in
/-- A middle tile of a row of tiles: the three statistics after it. -/
theorem run_D (c : Dev nD) (i : grid0.Coords) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1x4x1x1024 .f32) (harg10 : arg10.IsWhole) (arg11 : Memref sig .tc .vmem S1024x512 .bf16) (harg11 : arg11.IsWhole) (T0 T1 T2 T3 : (S10.Idx → Elt F .i32))
     (x0 : (S1024x512.Idx → Elt F .bf16)) (x1 : (S1024x512.Idx → Elt F .bf16)) (x2 : (S1024x512.Idx → Elt F .bf16)) (x3 : (S1x4x1x1024.Idx → Elt F .f32))
     (xa0 xa1 xa2 : S4x1024x128.Idx → Elt F .f32)
     (hc0 : ¬(Scalar.cmpi .ne (Scalar.extui (Scalar.cmpi .eq (word2 i T2) 1#32)) 0#32) = 1#1)
     (hc1 : (Scalar.cmpi .ne (Scalar.extui (Scalar.cmpi .slt (word1 i T1) (word0 i T0))) 0#32) = 1#1)
     (hc2 : ¬(Scalar.cmpi .ne (Scalar.extui (Scalar.cmpi .eq (word1 i T1) (word0 i T0))) 0#32) = 1#1)
     (k0_h4 : ¬ k0_cond4 (word3 i T3) = 1#1)
     (K : PUnit → sProp 𝕄) :
        iprop((arg7.view.loc (c : Thread nD τ) ↦[arg7.view.set]{fullShare} arg7.view.rep x0)
          ∗ (arg8.view.loc (c : Thread nD τ) ↦[arg8.view.set]{fullShare} arg8.view.rep x1)
          ∗ (arg9.view.loc (c : Thread nD τ) ↦[arg9.view.set]{fullShare} arg9.view.rep x2)
          ∗ (arg10.view.loc (c : Thread nD τ) ↦[arg10.view.set]{fullShare} arg10.view.rep x3)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ (tb3.view.loc (c : Thread nD τ) ↦{fullShare.right} T3)
          ∗ (scM.view.loc (c : Thread nD τ) ↦{fullShare} xa0)
          ∗ (scL.view.loc (c : Thread nD τ) ↦{fullShare} xa1)
          ∗ (scA.view.loc (c : Thread nD τ) ↦{fullShare} xa2)
          ∗ (iprop((arg7.view.loc (c : Thread nD τ) ↦[arg7.view.set]{fullShare} arg7.view.rep x0)
              ∗ (arg8.view.loc (c : Thread nD τ) ↦[arg8.view.set]{fullShare} arg8.view.rep x1)
              ∗ (arg9.view.loc (c : Thread nD τ) ↦[arg9.view.set]{fullShare} arg9.view.rep x2)
              ∗ (arg10.view.loc (c : Thread nD τ) ↦[arg10.view.set]{fullShare} arg10.view.rep x3)
              ∗ (tb0.view.loc (c : Thread nD τ) ↦{fullShare.right} T0)
              ∗ (tb1.view.loc (c : Thread nD τ) ↦{fullShare.right} T1)
              ∗ (tb2.view.loc (c : Thread nD τ) ↦{fullShare.right} T2)
              ∗ (tb3.view.loc (c : Thread nD τ) ↦{fullShare.right} T3)
              ∗ (scM.view.loc (c : Thread nD τ) ↦{fullShare} stepM (scPlain x0 x1 x3) xa0)
              ∗ (scL.view.loc (c : Thread nD τ) ↦{fullShare} stepL (scPlain x0 x1 x3) (pPlain x0 x1 x3 xa0) xa0 xa1)
              ∗ (scA.view.loc (c : Thread nD τ) ↦{fullShare} stepA (scPlain x0 x1 x3) (pPlain x0 x1 x3 xa0) x2 xa0 xa2)) -∗ K ⟨⟩))
          ⊢ wp frame (wpE (defs₀ (F := F)) Variants.none c none) Set.univ (cc0_flash_fox i tb0 (Memref.isWhole_whole _) tb1 (Memref.isWhole_whole _) tb2 (Memref.isWhole_whole _) tb3 (Memref.isWhole_whole _) arg7 harg7 arg8 harg8 arg9 harg9 arg10 harg10 arg11 harg11 scM (Memref.isWhole_whole _) scL (Memref.isWhole_whole _) scA (Memref.isWhole_whole _)) K := by
    rw [cc0_flash_fox_eq_skeleton]; unfold cc0_flash_fox_skel
    iintro ⟨H0, H1, H2, H3, HT0, HT1, HT2, HT3, HS0, HS1, HS2, Hk⟩
    have hS0 : scM.IsWhole := Memref.isWhole_whole _
    have hS1 : scL.IsWhole := Memref.isWhole_whole _
    have hS2 : scA.IsWhole := Memref.isWhole_whole _
    have hT0 : tb0.IsWhole := Memref.isWhole_whole _
    have hT1 : tb1.IsWhole := Memref.isWhole_whole _
    have hT2 : tb2.IsWhole := Memref.isWhole_whole _
    have hT3 : tb3.IsWhole := Memref.isWhole_whole _
    sl_exec! (disch := first | (guard_target = ¬(Scalar.cmpi = _); exact hc0) | (guard_target = Scalar.cmpi = _; exact hc1) | (guard_target = ¬(Scalar.cmpi = _); exact hc2) | (guard_target = ¬(k0_cond4 _ = _); exact k0_h4))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HT3]; · iexact HT3
    have E0 : scM.view.writes (Elt F) scM.view.junk (planeList (fun r => mOf (scPlain x0 x1 x3 r) (headStat xa0 r)) ++ [])
        = stepM (scPlain x0 x1 x3) xa0 := planes_M _ _ _
    have E1 : scL.view.writes (Elt F) scL.view.junk (planeList (fun r => lOf (scPlain x0 x1 x3 r) (pPlain x0 x1 x3 xa0 r) (headStat xa0 r) (headStat xa1 r)) ++ [])
        = stepL (scPlain x0 x1 x3) (pPlain x0 x1 x3 xa0) xa0 xa1 := planes_L _ _ _
    have E2 : scA.view.writes (Elt F) scA.view.junk
          (planeList (fun r => aOf (scPlain x0 x1 x3 r) (pPlain x0 x1 x3 xa0 r) (headCols x2 r) (headStat xa0 r) (headStat xa2 r)) ++ [])
        = stepA (scPlain x0 x1 x3) (pPlain x0 x1 x3 xa0) x2 xa0 xa2 := planes_A _ _ _
    delta run_D.sl.HS0_4 run_D.sl.HS1_4 run_D.sl.HS2_4 run_D.sl.r run_D.sl.r_1 run_D.sl.r_10 run_D.sl.r_11 run_D.sl.r_12 run_D.sl.r_13 run_D.sl.r_14 run_D.sl.r_15 run_D.sl.r_16 run_D.sl.r_17 run_D.sl.r_18 run_D.sl.r_19 run_D.sl.r_2 run_D.sl.r_20 run_D.sl.r_3 run_D.sl.r_4 run_D.sl.r_5 run_D.sl.r_6 run_D.sl.r_7 run_D.sl.r_8 run_D.sl.r_9 run_D.sl.v100 run_D.sl.v124 run_D.sl.v136 run_D.sl.v146 run_D.sl.v170 run_D.sl.v182 run_D.sl.v192 run_D.sl.v78 run_D.sl.v90
    rw [cols_0 arg7 x0, cols_1 arg7 x0, cols_2 arg7 x0, cols_3 arg7 x0, cols_0 arg8 x1, cols_1 arg8 x1, cols_2 arg8 x1, cols_3 arg8 x1, cols_0 arg9 x2, cols_1 arg9 x2, cols_2 arg9 x2, cols_3 arg9 x2, row_0 arg10 x3, row_1 arg10 x3, row_2 arg10 x3, row_3 arg10 x3, stat_0 scM.view xa0, stat_1 scM.view xa0, stat_2 scM.view xa0, stat_3 scM.view xa0, stat_0 scL.view xa1, stat_1 scL.view xa1, stat_2 scL.view xa1, stat_3 scL.view xa1, stat_0 scA.view xa2, stat_1 scA.view xa2, stat_2 scA.view xa2, stat_3 scA.view xa2]
    rw [← E0, ← E1, ← E2]
    isplitl [HS0]; · iexact HS0
    isplitl [HS1]; · iexact HS1
    iexact HS2

end Cert.KernelIdeal.Fox
-- ==== Proof.Frame.lean ====
module

public import proofs.«01_k».proof.Proof.Schedule
public import proofs.«01_k».proof.Proof.RunA
public import proofs.«01_k».proof.Proof.RunB
public import proofs.«01_k».proof.Proof.RunC
public import proofs.«01_k».proof.Proof.RunD
public import Idealize.ShloMosaic.Lib.Pipeline.Frame

/-!
# The run of the forgetting attention

The state of the streaming softmax before every grid point, the pipeline's proof data, the body at a generic point, and the
whole run: it terminates, the output array holds the blocks the closing points wrote, and every other array is unchanged.
-/

@[expose] public section

set_option maxRecDepth 16384
set_option Elab.async false

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

abbrev ms_0 (t : Fin (cfgA F).N) : Memref sig .tc .vmem S1024x512 .bf16 := spec0_0.stage ((cfgA F).slots t (0 : Fin 5))
abbrev hs_0 (t : Fin (cfgA F).N) : (ms_0 t).IsWhole := hstage0_0 (((cfgA F).slots t (0 : Fin 5)).cast nbuf0_0)
abbrev ms_1 (t : Fin (cfgA F).N) : Memref sig .tc .vmem S1024x512 .bf16 := spec0_1.stage ((cfgA F).slots t (1 : Fin 5))
abbrev hs_1 (t : Fin (cfgA F).N) : (ms_1 t).IsWhole := hstage0_1 (((cfgA F).slots t (1 : Fin 5)).cast nbuf0_1)
abbrev ms_2 (t : Fin (cfgA F).N) : Memref sig .tc .vmem S1024x512 .bf16 := spec0_2.stage ((cfgA F).slots t (2 : Fin 5))
abbrev hs_2 (t : Fin (cfgA F).N) : (ms_2 t).IsWhole := hstage0_2 (((cfgA F).slots t (2 : Fin 5)).cast nbuf0_2)
abbrev ms_3 (t : Fin (cfgA F).N) : Memref sig .tc .vmem S1x4x1x1024 .f32 := spec0_3.stage ((cfgA F).slots t (3 : Fin 5))
abbrev hs_3 (t : Fin (cfgA F).N) : (ms_3 t).IsWhole := hstage0_3 (((cfgA F).slots t (3 : Fin 5)).cast nbuf0_3)
abbrev ms_4 (t : Fin (cfgA F).N) : Memref sig .tc .vmem S1024x512 .bf16 := spec0_4.stage ((cfgA F).slots t (4 : Fin 5))
abbrev hs_4 (t : Fin (cfgA F).N) : (ms_4 t).IsWhole := hstage0_4 (((cfgA F).slots t (4 : Fin 5)).cast nbuf0_4)

/-! ## The state of the streaming softmax -/

/-- The three statistics of a block's heads: the running maxima, the sums of the weights, the weighted sums of the values. -/
abbrev State (F : FTy → Type) : Type := (S4x1024x128.Idx → Elt F .f32) × (S4x1024x128.Idx → Elt F .f32) × (S4x1024x128.Idx → Elt F .f32)

/-- The statistics a row of tiles opens with. -/
def initS : State F := (k0_pay1 (F := F), k0_pay2 (F := F), k0_pay3 (F := F))

/-- The scores of a tile: masked on the diagonal. -/
def scAt (i : grid0.Coords) (q k : S1024x512.Idx → Elt F .bf16) (f : S1x4x1x1024.Idx → Elt F .f32) : Fin 4 → FVec F S1024x1024 .f32 :=
  if isDiag F i then scMask (wq F i) (wk F i) q k f else scPlain q k f

/-- The weights of a tile: masked on the diagonal. -/
def pAt (i : grid0.Coords) (q k : S1024x512.Idx → Elt F .bf16) (f : S1x4x1x1024.Idx → Elt F .f32) (m : S4x1024x128.Idx → Elt F .f32) :
    Fin 4 → FVec F S1024x1024 .f32 :=
  if isDiag F i then pMask (wq F i) (wk F i) q k f m else pPlain q k f m

/-- The statistics a point starts from: the opening ones at the first tile of its row of tiles. -/
def baseS (i : grid0.Coords) (s : State F) : State F := if isFirst F i then initS else s

/-- The statistics after a point, from those before it. -/
def updS (i : grid0.Coords) (q k v : S1024x512.Idx → Elt F .bf16) (f : S1x4x1x1024.Idx → Elt F .f32) (s : State F) : State F :=
  (stepM (scAt i q k f) (baseS i s).1,
   stepL (scAt i q k f) (pAt i q k f (baseS i s).1) (baseS i s).1 (baseS i s).2.1,
   stepA (scAt i q k f) (pAt i q k f (baseS i s).1) v (baseS i s).1 (baseS i s).2.2)

variable (m : (ℓ : Loc nD τ sig) → Buf (Elt F) ℓ)

/-- Window `w`'s block at point `t`, read off its array at launch. -/
def iblk (c : Dev nD) (w : Fin (cfgA F).W) (t : Fin (cfgA F).N) : (((cfgA F).win w).xblock (crd t)).Idx → Elt F ((cfgA F).win w).elt :=
  (((cfgA F).win w).blk t).view.read (Elt F) (m (((cfgA F).win w).arr.view.loc (c : Thread nD τ)))

/-- The statistics after point `t`, from those before it, at the blocks of that point. -/
def ptS (c : Dev nD) (t : Fin (cfgA F).N) (s : State F) : State F :=
  updS (crd t) (iblk m c (0 : Fin 5) t) (iblk m c (1 : Fin 5) t) (iblk m c (2 : Fin 5) t) (iblk m c (3 : Fin 5) t) s

/-- The statistics before position `n` of the grid. -/
def stateS (c : Dev nD) : ℕ → State F
  | 0 => initS
  | n + 1 => if h : n < (cfgA F).N then ptS m c ⟨n, h⟩ (stateS c n) else stateS c n

theorem stateS_succ (c : Dev nD) (t : Fin (cfgA F).N) : stateS m c (t.val + 1) = ptS m c t (stateS m c t.val) := by
  rw [stateS, dif_pos t.isLt]

/-! ## The pipeline's proof data -/

/-- The invariant before point `t`: the scratch buffers hold the statistics (anything before the first point), the tables the
    schedule. -/
def Phi (c : Dev nD) (t : Fin ((cfgA F).N + 1)) : sProp 𝕄 :=
  iprop((∃ s : State F, ⌜t.val ≠ 0 → s = stateS m c t.val⌝ ∗ (scM.view.loc (c : Thread nD τ) ↦{fullShare} s.1) ∗ (scL.view.loc (c : Thread nD τ) ↦{fullShare} s.2.1) ∗ (scA.view.loc (c : Thread nD τ) ↦{fullShare} s.2.2))
    ∗ (tb0.view.loc (c : Thread nD τ) ↦{fullShare.right} T0 (F := F)) ∗ (tb1.view.loc (c : Thread nD τ) ↦{fullShare.right} T1 (F := F))
    ∗ (tb2.view.loc (c : Thread nD τ) ↦{fullShare.right} T2 (F := F)) ∗ (tb3.view.loc (c : Thread nD τ) ↦{fullShare.right} T3 (F := F))
    ∗ ∃ r, prngReg c r)

/-- The proof data of the one pipeline on core `c`. -/
def dats (_ : Fin 1) (c : Dev nD) : Dat τ (Elt F) Unit ℕ (UR sig nD τ) ℕ (cfgA F) c where
  A w := m (((cfgA F).win w).arr.view.loc (c : Thread nD τ))
  after w t := match w with
    | ⟨0, _⟩ => iblk m c (0 : Fin 5) t
    | ⟨1, _⟩ => iblk m c (1 : Fin 5) t
    | ⟨2, _⟩ => iblk m c (2 : Fin 5) t
    | ⟨3, _⟩ => iblk m c (3 : Fin 5) t
    | ⟨4, _⟩ => outOf (stateS m c (t.val + 1)).2.1 (stateS m c (t.val + 1)).2.2
  Φ t := Phi m c t
  q _ := fullShare
  owed _ := 0

theorem after_0 (c : Dev nD) (t : Fin (cfgA F).N) : (dats m 0 c).after (0 : Fin 5) t = iblk m c (0 : Fin 5) t := rfl
theorem after_1 (c : Dev nD) (t : Fin (cfgA F).N) : (dats m 0 c).after (1 : Fin 5) t = iblk m c (1 : Fin 5) t := rfl
theorem after_2 (c : Dev nD) (t : Fin (cfgA F).N) : (dats m 0 c).after (2 : Fin 5) t = iblk m c (2 : Fin 5) t := rfl
theorem after_3 (c : Dev nD) (t : Fin (cfgA F).N) : (dats m 0 c).after (3 : Fin 5) t = iblk m c (3 : Fin 5) t := rfl
theorem after_4 (c : Dev nD) (t : Fin (cfgA F).N) :
    (dats m 0 c).after (4 : Fin 5) t = outOf (stateS m c (t.val + 1)).2.1 (stateS m c (t.val + 1)).2.2 := rfl

/-- An input window's staging buffer holds its block. -/
theorem before_0 (c : Dev nD) (t : Fin (cfgA F).N) (d) : (dats m 0 c).before (0 : Fin 5) t d = iblk m c (0 : Fin 5) t :=
  ((dats m 0 c).before_in_eq_fetched (0 : Fin 5) rfl (fun _ => rfl) (fun _ _ _ => rfl) (fun t => by rw [after_0]; unfold Dat.blockOf iblk; rfl) t d).trans
    (by unfold Dat.fetched Dat.blockOf iblk; rfl)
theorem before_1 (c : Dev nD) (t : Fin (cfgA F).N) (d) : (dats m 0 c).before (1 : Fin 5) t d = iblk m c (1 : Fin 5) t :=
  ((dats m 0 c).before_in_eq_fetched (1 : Fin 5) rfl (fun _ => rfl) (fun _ _ _ => rfl) (fun t => by rw [after_1]; unfold Dat.blockOf iblk; rfl) t d).trans
    (by unfold Dat.fetched Dat.blockOf iblk; rfl)
theorem before_2 (c : Dev nD) (t : Fin (cfgA F).N) (d) : (dats m 0 c).before (2 : Fin 5) t d = iblk m c (2 : Fin 5) t :=
  ((dats m 0 c).before_in_eq_fetched (2 : Fin 5) rfl (fun _ => rfl) (fun _ _ _ => rfl) (fun t => by rw [after_2]; unfold Dat.blockOf iblk; rfl) t d).trans
    (by unfold Dat.fetched Dat.blockOf iblk; rfl)
theorem before_3 (c : Dev nD) (t : Fin (cfgA F).N) (d) : (dats m 0 c).before (3 : Fin 5) t d = iblk m c (3 : Fin 5) t :=
  ((dats m 0 c).before_in_eq_fetched (3 : Fin 5) rfl (fun _ => rfl) (fun _ _ _ => rfl) (fun t => by rw [after_3]; unfold Dat.blockOf iblk; rfl) t d).trans
    (by unfold Dat.fetched Dat.blockOf iblk; rfl)

/-- The output's staging buffer holds nothing determined at any point: a point that stores it also writes it back. -/
theorem fresh_4 (n : ℕ) (h : n ≤ (cfgA F).N) : (cfgA F).fresh (4 : Fin 5) n = true :=
  Pipeline.Cfg.fresh_tab (cfgA F) (4 : Fin 5) (fun _ => true) rfl (fun t => by
    obtain ⟨-, -, -, hd, hl⟩ := facts (F := F) t
    by_cases h : isDiag F (crd t)
    · rw [(hd h).2]; rfl
    · rw [(hl h).1]; exact (Bool.or_true _).symm) n h

theorem before_4 (c : Dev nD) (t : Fin (cfgA F).N) (d) : (dats m 0 c).before (4 : Fin 5) t d = d := by
  rw [(dats m 0 c).before_out_traj (4 : Fin 5) rfl (fun _ _ => rfl)
    (fun t _ _ hf => absurd ((fresh_4 t.val t.isLt.le).symm.trans hf) (by decide)) t.val t rfl d, if_pos (fresh_4 t.val t.isLt.le)]

/-! ## The body at a generic point -/

/-- The body at point `t` on its staging memrefs. -/
abbrev bodyAt (t : Fin (cfgA F).N) : Prog (TpuEff nD τ sig (Elt F) Λ₀ .tc) PUnit :=
  cc0_flash_fox (crd t) tb0 (Memref.isWhole_whole _) tb1 (Memref.isWhole_whole _) tb2 (Memref.isWhole_whole _) tb3 (Memref.isWhole_whole _) (ms_0 t) (hs_0 t) (ms_1 t) (hs_1 t) (ms_2 t) (hs_2 t) (ms_3 t) (hs_3 t) (ms_4 t) (hs_4 t) scM (Memref.isWhole_whole _) scL (Memref.isWhole_whole _) scA (Memref.isWhole_whole _)

theorem upd_diag_first {i : grid0.Coords} (hd : isDiag F i) (hf : isFirst F i) (q k v : S1024x512.Idx → Elt F .bf16) (f : S1x4x1x1024.Idx → Elt F .f32) (s : State F) :
    updS i q k v f s = (stepM (scMask (wq F i) (wk F i) q k f) (k0_pay1 (F := F)),
      stepL (scMask (wq F i) (wk F i) q k f) (pMask (wq F i) (wk F i) q k f (k0_pay1 (F := F))) (k0_pay1 (F := F)) (k0_pay2 (F := F)),
      stepA (scMask (wq F i) (wk F i) q k f) (pMask (wq F i) (wk F i) q k f (k0_pay1 (F := F))) v (k0_pay1 (F := F)) (k0_pay3 (F := F))) := by
  unfold updS scAt pAt baseS initS; simp only [if_pos hd, if_pos hf]

theorem upd_diag_later {i : grid0.Coords} (hd : isDiag F i) (hf : ¬ isFirst F i) (q k v : S1024x512.Idx → Elt F .bf16) (f : S1x4x1x1024.Idx → Elt F .f32) (s : State F) :
    updS i q k v f s = (stepM (scMask (wq F i) (wk F i) q k f) s.1,
      stepL (scMask (wq F i) (wk F i) q k f) (pMask (wq F i) (wk F i) q k f s.1) s.1 s.2.1,
      stepA (scMask (wq F i) (wk F i) q k f) (pMask (wq F i) (wk F i) q k f s.1) v s.1 s.2.2) := by
  unfold updS scAt pAt baseS; simp only [if_pos hd, if_neg hf]

theorem upd_low_first {i : grid0.Coords} (hd : ¬ isDiag F i) (hf : isFirst F i) (q k v : S1024x512.Idx → Elt F .bf16) (f : S1x4x1x1024.Idx → Elt F .f32) (s : State F) :
    updS i q k v f s = (stepM (scPlain q k f) (k0_pay1 (F := F)),
      stepL (scPlain q k f) (pPlain q k f (k0_pay1 (F := F))) (k0_pay1 (F := F)) (k0_pay2 (F := F)),
      stepA (scPlain q k f) (pPlain q k f (k0_pay1 (F := F))) v (k0_pay1 (F := F)) (k0_pay3 (F := F))) := by
  unfold updS scAt pAt baseS initS; simp only [if_neg hd, if_pos hf]

theorem upd_low_later {i : grid0.Coords} (hd : ¬ isDiag F i) (hf : ¬ isFirst F i) (q k v : S1024x512.Idx → Elt F .bf16) (f : S1x4x1x1024.Idx → Elt F .f32) (s : State F) :
    updS i q k v f s = (stepM (scPlain q k f) s.1, stepL (scPlain q k f) (pPlain q k f s.1) s.1 s.2.1,
      stepA (scPlain q k f) (pPlain q k f s.1) v s.1 s.2.2) := by
  unfold updS scAt pAt baseS; simp only [if_neg hd, if_neg hf]

/-- What one point does to the buffers it holds: the inputs and the tables stay, the scratch buffers go from the statistics
    before to those after, the output's staging buffer gets the block on the diagonal and stays as it was off it. -/
theorem point (c : Dev nD) (t : Fin (cfgA F).N) (s : State F) (d : (S1024x512.Idx → Elt F .bf16)) (K : PUnit → sProp 𝕄) :
    iprop(((ms_0 t).view.loc (c : Thread nD τ) ↦[(ms_0 t).view.set]{fullShare} (ms_0 t).view.rep (iblk m c (0 : Fin 5) t))
      ∗ ((ms_1 t).view.loc (c : Thread nD τ) ↦[(ms_1 t).view.set]{fullShare} (ms_1 t).view.rep (iblk m c (1 : Fin 5) t))
      ∗ ((ms_2 t).view.loc (c : Thread nD τ) ↦[(ms_2 t).view.set]{fullShare} (ms_2 t).view.rep (iblk m c (2 : Fin 5) t))
      ∗ ((ms_3 t).view.loc (c : Thread nD τ) ↦[(ms_3 t).view.set]{fullShare} (ms_3 t).view.rep (iblk m c (3 : Fin 5) t))
      ∗ (tb0.view.loc (c : Thread nD τ) ↦{fullShare.right} T0 (F := F))
      ∗ (tb1.view.loc (c : Thread nD τ) ↦{fullShare.right} T1 (F := F))
      ∗ (tb2.view.loc (c : Thread nD τ) ↦{fullShare.right} T2 (F := F))
      ∗ (tb3.view.loc (c : Thread nD τ) ↦{fullShare.right} T3 (F := F))
      ∗ owns (c : Thread nD τ) (ms_4 t) fullShare d
      ∗ (scM.view.loc (c : Thread nD τ) ↦{fullShare} s.1)
      ∗ (scL.view.loc (c : Thread nD τ) ↦{fullShare} s.2.1)
      ∗ (scA.view.loc (c : Thread nD τ) ↦{fullShare} s.2.2)
      ∗ (iprop(((ms_0 t).view.loc (c : Thread nD τ) ↦[(ms_0 t).view.set]{fullShare} (ms_0 t).view.rep (iblk m c (0 : Fin 5) t))
          ∗ ((ms_1 t).view.loc (c : Thread nD τ) ↦[(ms_1 t).view.set]{fullShare} (ms_1 t).view.rep (iblk m c (1 : Fin 5) t))
          ∗ ((ms_2 t).view.loc (c : Thread nD τ) ↦[(ms_2 t).view.set]{fullShare} (ms_2 t).view.rep (iblk m c (2 : Fin 5) t))
          ∗ ((ms_3 t).view.loc (c : Thread nD τ) ↦[(ms_3 t).view.set]{fullShare} (ms_3 t).view.rep (iblk m c (3 : Fin 5) t))
          ∗ (tb0.view.loc (c : Thread nD τ) ↦{fullShare.right} T0 (F := F))
          ∗ (tb1.view.loc (c : Thread nD τ) ↦{fullShare.right} T1 (F := F))
          ∗ (tb2.view.loc (c : Thread nD τ) ↦{fullShare.right} T2 (F := F))
          ∗ (tb3.view.loc (c : Thread nD τ) ↦{fullShare.right} T3 (F := F))
          ∗ owns (c : Thread nD τ) (ms_4 t) fullShare (if isDiag F (crd t) then outOf (ptS m c t s).2.1 (ptS m c t s).2.2 else d)
          ∗ (scM.view.loc (c : Thread nD τ) ↦{fullShare} (ptS m c t s).1)
          ∗ (scL.view.loc (c : Thread nD τ) ↦{fullShare} (ptS m c t s).2.1)
          ∗ (scA.view.loc (c : Thread nD τ) ↦{fullShare} (ptS m c t s).2.2)) -∗ K ⟨⟩))
      ⊢ wp frame (wpE (defs₀ (F := F)) Variants.none c none) Set.univ (bodyAt t) K := by
  obtain ⟨hlow, hlast, -, -, -⟩ := facts (F := F) t
  unfold ptS
  by_cases hd : isDiag F (crd t)
  · have h1 : ¬ isLow F (crd t) := fun h => (hlow.1 h) hd
    have h4 := hlast.2 hd
    rw [if_pos hd]
    by_cases hf : isFirst F (crd t)
    · rw [upd_diag_first hd hf]
      iintro ⟨H0, H1, H2, H3, HT0, HT1, HT2, HT3, H4, HS0, HS1, HS2, Hk⟩
      iapply (run_A c (crd t) (ms_0 t) (hs_0 t) (ms_1 t) (hs_1 t) (ms_2 t) (hs_2 t) (ms_3 t) (hs_3 t) (ms_4 t) (hs_4 t) (T0 (F := F)) (T1 (F := F)) (T2 (F := F)) (T3 (F := F)) (iblk m c (0 : Fin 5) t) (iblk m c (1 : Fin 5) t) (iblk m c (2 : Fin 5) t) (iblk m c (3 : Fin 5) t) s.1 s.2.1 s.2.2 hf h1 hd h4 K)
      iframe
      iexists _; iexact H4
    · rw [upd_diag_later hd hf]
      iintro ⟨H0, H1, H2, H3, HT0, HT1, HT2, HT3, H4, HS0, HS1, HS2, Hk⟩
      iapply (run_C c (crd t) (ms_0 t) (hs_0 t) (ms_1 t) (hs_1 t) (ms_2 t) (hs_2 t) (ms_3 t) (hs_3 t) (ms_4 t) (hs_4 t) (T0 (F := F)) (T1 (F := F)) (T2 (F := F)) (T3 (F := F)) (iblk m c (0 : Fin 5) t) (iblk m c (1 : Fin 5) t) (iblk m c (2 : Fin 5) t) (iblk m c (3 : Fin 5) t) s.1 s.2.1 s.2.2 hf h1 hd h4 K)
      iframe
      iexists _; iexact H4
  · have h1 := hlow.2 hd
    have h4 : ¬ isLast F (crd t) := fun h => hd (hlast.1 h)
    rw [if_neg hd]
    by_cases hf : isFirst F (crd t)
    · rw [upd_low_first hd hf]
      iintro ⟨H0, H1, H2, H3, HT0, HT1, HT2, HT3, H4, HS0, HS1, HS2, Hk⟩
      iapply (run_B c (crd t) (ms_0 t) (hs_0 t) (ms_1 t) (hs_1 t) (ms_2 t) (hs_2 t) (ms_3 t) (hs_3 t) (ms_4 t) (hs_4 t) (T0 (F := F)) (T1 (F := F)) (T2 (F := F)) (T3 (F := F)) (iblk m c (0 : Fin 5) t) (iblk m c (1 : Fin 5) t) (iblk m c (2 : Fin 5) t) (iblk m c (3 : Fin 5) t) s.1 s.2.1 s.2.2 hf h1 hd h4 K)
      iframe
      iintro ⟨H0, H1, H2, H3, HT0, HT1, HT2, HT3, HS0, HS1, HS2⟩
      iapply Hk
      iframe
    · rw [upd_low_later hd hf]
      iintro ⟨H0, H1, H2, H3, HT0, HT1, HT2, HT3, H4, HS0, HS1, HS2, Hk⟩
      iapply (run_D c (crd t) (ms_0 t) (hs_0 t) (ms_1 t) (hs_1 t) (ms_2 t) (hs_2 t) (ms_3 t) (hs_3 t) (ms_4 t) (hs_4 t) (T0 (F := F)) (T1 (F := F)) (T2 (F := F)) (T3 (F := F)) (iblk m c (0 : Fin 5) t) (iblk m c (1 : Fin 5) t) (iblk m c (2 : Fin 5) t) (iblk m c (3 : Fin 5) t) s.1 s.2.1 s.2.2 hf h1 hd h4 K)
      iframe
      iintro ⟨H0, H1, H2, H3, HT0, HT1, HT2, HT3, HS0, HS1, HS2⟩
      iapply Hk
      iframe

/-- A point finds the statistics the trajectory names, or makes them its opening ones. -/
theorem pt_state (c : Dev nD) (t : Fin (cfgA F).N) (s : State F) (hs : t.val ≠ 0 → s = stateS m c t.val) :
    ptS m c t s = stateS m c (t.val + 1) := by
  rw [stateS_succ]
  by_cases h0 : t.val = 0
  · have hf := (facts (F := F) t).2.2.1 h0
    unfold ptS updS baseS; simp only [if_pos hf]
  · rw [hs h0]

/-- What a point leaves in the output's staging buffer is what the obligation asks of it. -/
theorem out_post (c : Dev nD) (t : Fin (cfgA F).N) (d : S1024x512.Idx → Elt F .bf16) :
    (owns (c : Thread nD τ) (ms_4 t) fullShare
        (if isDiag F (crd t) then outOf (stateS m c (t.val + 1)).2.1 (stateS m c (t.val + 1)).2.2 else d) : sProp 𝕄)
      ⊢ match (cfgA F).idle (4 : Fin 5) (crd t) with
        | true =>
          match ((cfgA F).win (4 : Fin 5)).flush t with
          | false => iprop(∃ d, owns (c : Thread nD τ) (ms_4 t) fullShare d)
          | true => owns (c : Thread nD τ) (ms_4 t) fullShare (outOf (stateS m c (t.val + 1)).2.1 (stateS m c (t.val + 1)).2.2)
        | false => owns (c : Thread nD τ) (ms_4 t) fullShare (outOf (stateS m c (t.val + 1)).2.1 (stateS m c (t.val + 1)).2.2) := by
  obtain ⟨-, -, -, hdg, hlw⟩ := facts (F := F) t
  by_cases hd : isDiag F (crd t)
  · rw [(hdg hd).1, if_pos hd]
  · rw [(hlw hd).1, (hlw hd).2, if_neg hd]
    iintro H; iexists d; iexact H

set_option maxHeartbeats 400000 in
/-- The body obligation at point `t`. -/
theorem sound_body (c : Dev nD) (t : Fin (cfgA F).N) :
    iprop((dats m 0 c).Φ t.castSucc ∗ (dats m 0 c).owesAt () t.castSucc
        ∗ (∃ d, owns (c : Thread nD τ) (ms_0 t) fullShare ((dats m 0 c).before (0 : Fin 5) t d))
        ∗ (∃ d, owns (c : Thread nD τ) (ms_1 t) fullShare ((dats m 0 c).before (1 : Fin 5) t d))
        ∗ (∃ d, owns (c : Thread nD τ) (ms_2 t) fullShare ((dats m 0 c).before (2 : Fin 5) t d))
        ∗ (∃ d, owns (c : Thread nD τ) (ms_3 t) fullShare ((dats m 0 c).before (3 : Fin 5) t d))
        ∗ (∃ d, owns (c : Thread nD τ) (ms_4 t) fullShare ((dats m 0 c).before (4 : Fin 5) t d)))
      ⊢ wp frame (wpE (defs₀ (F := F)) Variants.none c none) Set.univ (bodyAt t) fun _ =>
          iprop((dats m 0 c).Φ t.succ ∗ (dats m 0 c).owesAt () t.succ
            ∗ bigSep Finset.univ fun w : Fin (cfgA F).W =>
                match (cfgA F).idle w ((cfgA F).grid.coords t) with
                | true =>
                  match ((cfgA F).win w).flush t with
                  | false => iprop(∃ d, owns (c : Thread nD τ) (((cfgA F).win w).stage ((cfgA F).slots t w)) fullShare ((dats m 0 c).before w t d))
                  | true => owns (c : Thread nD τ) (((cfgA F).win w).stage ((cfgA F).slots t w)) fullShare ((dats m 0 c).after w t)
                | false => owns (c : Thread nD τ) (((cfgA F).win w).stage ((cfgA F).slots t w)) fullShare ((dats m 0 c).after w t)) := by
  rw [bigSep_W0]
  simp only [before_0, before_1, before_2, before_3, before_4, after_0, after_1, after_2, after_3, after_4]
  rewrite [show (dats m 0 c).Φ t.succ = Phi m c t.succ from rfl, show (dats m 0 c).Φ t.castSucc = Phi m c t.castSucc from rfl,
    show (dats m 0 c).owesAt () t.succ = (dats m 0 c).owesAt () t.castSucc from rfl]
  unfold Phi
  simp only [Fin.val_castSucc, Fin.val_succ]
  iintro ⟨⟨⟨%s, %hs, HS0, HS1, HS2⟩, HT0, HT1, HT2, HT3, Hp⟩, Ho, ⟨%d0, H0⟩, ⟨%d1, H1⟩, ⟨%d2, H2⟩, ⟨%d3, H3⟩, ⟨%d4, H4⟩⟩
  have hst : ptS m c t s = stateS m c (t.val + 1) := pt_state m c t s hs
  iapply (point m c t s d4)
  isplitl [H0]; · iapply rep_of_owns; iexact H0
  isplitl [H1]; · iapply rep_of_owns; iexact H1
  isplitl [H2]; · iapply rep_of_owns; iexact H2
  isplitl [H3]; · iapply rep_of_owns; iexact H3
  iframe HT0 HT1 HT2 HT3 H4 HS0 HS1 HS2
  iintro ⟨H0, H1, H2, H3, HT0, HT1, HT2, HT3, H4, HS0, HS1, HS2⟩
  isplitl [HS0 HS1 HS2 HT0 HT1 HT2 HT3 Hp]
  · iframe HT0 HT1 HT2 HT3 Hp
    iexists (ptS m c t s)
    iframe HS0 HS1 HS2
    ipureintro; intro _; exact hst
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  rewrite [hst]
  iapply (out_post m c t d4); iexact H4

theorem body_obligation (c : Dev nD) : BodyObligation (dats m 0 c) (defs₀ (F := F)) Variants.none () Set.univ := fun t => by
  rw [bigSep_W0]; exact sound_body m c t

end Cert.KernelIdeal.Fox

end
-- ==== Proof.Run.lean ====
module

public import proofs.«01_k».proof.Proof.Frame
public import Idealize.ShloMosaic.Lib.Pipeline.Frame

/-!
# The launch of the forgetting attention

The whole run: it terminates, the output array holds the blocks the closing points wrote, and every other array is unchanged.
-/

@[expose] public section

set_option maxRecDepth 16384
set_option Elab.async false

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The launch -/

/-- The buffers' contents where the pipeline starts: the tables written, everything else as at launch. -/
def V (c : Dev nD) (b : Ref sig .tc) : Buf (Elt F) ((c.tc : Thread nD τ).loc b) := StableHlo.after hostOps0 (fun b => m (c, b)) b

theorem V_arr (c : Dev nD) (w : Fin 5) : m ((spec0 w).arr.view.loc (c : Thread nD τ)) = V m c (Pipeline.arrRef spec0 w) := by
  fin_cases w <;> rfl

theorem V_tab (c : Dev nD) (k : Fin 4) : V m c (pre0.ref k) = tables (F := F) k := by
  fin_cases k <;> rfl

theorem share_eq (c : Dev nD) (w : Fin (cfgA F).W) : (dats m 0 c).share w = fullShare := by unfold Dat.share; split <;> rfl

/-- The tables as the launch hands them to the region, one by one. -/
theorem prefHeld_eq (c : Dev nD) (q : Fin 4 → PosShare TreeShare) (v : pre0.Contents (Elt F)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1) ∗ (((c : Thread nD τ).loc main_c_1) ↦{q 2} v 2) ∗ (((c : Thread nD τ).loc main_c_2) ↦{q 3} v 3)) := by
  unfold Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-- The invariant before the first point, from the scratch buffers and the tables. -/
theorem phi_intro (c : Dev nD) :
    iprop(Pipeline.ΦA spec0 c ∗ Pipeline.ΦT pre0 (tables (F := F)) c) ⊢ (dats m 0 c).Φ 0 := by
  rw [show (dats m 0 c).Φ 0 = Phi m c 0 from rfl]
  unfold Pipeline.ΦA Pipeline.ΦT Phi
  rw [prefHeld_eq, scopedRest0_eq]
  iintro ⟨⟨⟨⟨%a0, HS0⟩, ⟨%a1, HS1⟩, ⟨%a2, HS2⟩⟩, Hp⟩, HT0, HT1, HT2, HT3⟩
  isplitl [HS0 HS1 HS2]
  · iexists ((a0, a1, a2) : State F)
    isplitr
    · ipureintro; intro h; exact absurd rfl h
    isplitl [HS0]; · iexact HS0
    isplitl [HS1]; · iexact HS1
    iexact HS2
  isplitl [HT0]; · iexact HT0
  isplitl [HT1]; · iexact HT1
  isplitl [HT2]; · iexact HT2
  isplitl [HT3]; · iexact HT3
  iexact Hp

/-- The scratch buffers come back after the last point. -/
theorem phi_exit (c : Dev nD) : (dats m 0 c).Φ (Fin.last (cfgA F).N) ⊢ Pipeline.ΦA spec0 c := by
  rw [show (dats m 0 c).Φ (Fin.last (cfgA F).N) = Phi m c (Fin.last _) from rfl]
  unfold Pipeline.ΦA Phi
  rw [scopedRest0_eq]
  iintro ⟨⟨%s, -, HS0, HS1, HS2⟩, -, -, -, -, Hp⟩
  isplitr [Hp]
  · isplitl [HS0]; · iexists _; iexact HS0
    isplitl [HS1]; · iexists _; iexact HS1
    iexists _; iexact HS2
  iexact Hp

/-- The whole run: it terminates, the windows' arrays hold what the proof data compute, the counters are zero. -/
theorem run_main (ρ : Dev nD → PrngReg) :
    θ_run (defs (F := F)) (onTc (τ := τ) (main (F := F))) ⟨m, fun _ => 0, ρ⟩
      (fun r => (∀ (c : Dev nD) (w : Fin 5), r.2.mem ((spec0 w).arr.view.loc (c : Thread nD τ)) = (dats m 0 c).arrAt w (cfgA F).N)
        ∧ r.2.sem = fun _ => 0) :=
  Pipeline.θ_run_frameP_track (pcfgs (F := F)) (fun _ => adm) (dats m) (0 : Fin 1) launch0 (defs₀ (F := F)) Variants.none m ρ main
    (hbody := fun c => (body_obligation m c).loose) (hshare := share_eq m) (howed := fun _ _ => rfl)
    (V := V m)
    (hmain := Pipeline.hmainP_prefix (pcfgs (F := F)) (0 : Fin 1) (defs₀ (F := F)) Variants.none m main hostOps0 hostOps0_sub ⟨rfl, rfl, rfl, rfl⟩ main_chain)
    (hA := V_arr m) (hpf := V_tab m) (hin := phi_intro m) (hout := phi_exit m)
    (Q' := _) (hQ' := fun r h => ⟨fun c w => (h.1 c).1 w, h.2⟩)

/-- Every argument ends unchanged, every counter at zero. -/
theorem run_frame (ρ : Dev nD → PrngReg) :
    θ_run (defs (F := F)) (onTc (τ := τ) (main (F := F))) ⟨m, fun _ => 0, ρ⟩
      (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
        ∧ r.2.sem = fun _ => 0) :=
  (θ_run defs _ _).mono (fun _ h => ⟨fun c =>
    ⟨(h.1 c 0).trans ((dats m 0 c).arrAt_in (0 : Fin 5) rfl _), (h.1 c 1).trans ((dats m 0 c).arrAt_in (1 : Fin 5) rfl _),
     (h.1 c 2).trans ((dats m 0 c).arrAt_in (2 : Fin 5) rfl _), (h.1 c 3).trans ((dats m 0 c).arrAt_in (3 : Fin 5) rfl _)⟩, h.2⟩)
    (run_main m ρ)

end Cert.KernelIdeal.Fox

end
-- ==== Proof.Same.lean ====
module

public import proofs.«01_k».proof.Defs
public import proofs.«01_k».proof.Proof.Gen.Kernel
public import proofs.«01_k».proof.Proof.Gen.KernelIdeal

/-!
# The two readings of the kernel are one program
-/

@[expose] public section

set_option maxRecDepth 16384
set_option maxHeartbeats 1000000
set_option Elab.async false

noncomputable section

namespace Cert.Same

open Idealize.ShloMosaic Idealize.SL.Sem Cert.Kernel

variable {F : FTy → Type} [FloatOps F]

/-- The program read on bit patterns and the program read on the extended reals have the same kernel body, … -/
theorem same_body : (Cert.Kernel.cc0_flash_fox (F := F)) = Cert.KernelIdeal.cc0_flash_fox (F := F) := rfl

/-- … the same body table, … -/
theorem same_bodies : (Cert.Kernel.defs₀ (F := F)) = Cert.KernelIdeal.defs₀ (F := F) := by
  unfold Cert.Kernel.defs₀ Cert.KernelIdeal.defs₀
  refine congrArg Defs.onTc (funext fun l => funext fun x => ?_)
  match l, x with
  | ⟨0, _⟩, (t, s) => rfl
  | ⟨n + 1, h⟩, _ => exact absurd h (Nat.not_lt.2 (Nat.le_add_left _ _))

/-- … the same calls, … -/
theorem same_calls : (Cert.Kernel.pcfgs (F := F)) = Cert.KernelIdeal.pcfgs (F := F) := rfl

theorem same_lit0 : Cert.Kernel.lit0 = Cert.KernelIdeal.lit0 := by funext i; fin_cases i <;> rfl
theorem same_lit1 : Cert.Kernel.lit1 = Cert.KernelIdeal.lit1 := by funext i; fin_cases i <;> rfl
theorem same_lit2 : Cert.Kernel.lit2 = Cert.KernelIdeal.lit2 := by funext i; fin_cases i <;> rfl
theorem same_lit3 : Cert.Kernel.lit3 = Cert.KernelIdeal.lit3 := by funext i; fin_cases i <;> rfl

/-- … the same table of procedures … -/
theorem same_defs : (Cert.Kernel.defs (F := F)) = Cert.KernelIdeal.defs (F := F) := by
  unfold Cert.Kernel.defs Cert.KernelIdeal.defs
  rw [same_bodies]
  rfl

/-- … and the same main function. -/
theorem same_main : (Cert.Kernel.main (F := F)) = Cert.KernelIdeal.main (F := F) := by
  unfold Cert.Kernel.main Cert.KernelIdeal.main
  rw [same_lit0, same_lit1, same_lit2, same_lit3]
  rfl

end Cert.Same

end
-- ==== Proof.Blocks.lean ====
module

public import proofs.«01_k».proof.Proof.Frame
public import Idealize.ShloMosaic.Lib.Pipeline.ValueKit

/-!
# Which part of the arrays a grid point sees

Point `t` works for batch `t / 40`, the four heads of group `t / 10 % 4`, a query tile and a key tile of 1024 positions. Here:
where its blocks lie in the arrays, and how a point follows the one before it.
-/

@[expose] public section

set_option maxRecDepth 16384
set_option Elab.async false

noncomputable section

namespace Cert.KernelIdeal.Fox

open Cert.KernelIdeal Cert.KernelIdeal.Gen
open Idealize.ShloMosaic
open Idealize.ShloMosaic.TcCoe

variable {F : FTy → Type} [FloatOps F]

/-- The batch, the group of heads, the query tile and the key tile of a point. -/
abbrev bat (t : Fin (cfgA F).N) : ℕ := t.val / 40
abbrev grp (t : Fin (cfgA F).N) : ℕ := t.val / 10 % 4
abbrev qt (t : Fin (cfgA F).N) : ℕ := (wq F (crd t)).toNat
abbrev kt (t : Fin (cfgA F).N) : ℕ := (wk F (crd t)).toNat

/-- Where the blocks of point `t` begin, in blocks. -/
abbrev PlacesAt (F : FTy → Type) [FloatOps F] (t : Fin (cfgA F).N) : Prop :=
  (((cfgA F).win (0 : Fin 5)).index t (0 : Fin 2) = 4 * bat t + qt t ∧ ((cfgA F).win (0 : Fin 5)).index t (1 : Fin 2) = grp t)
  ∧ (((cfgA F).win (1 : Fin 5)).index t (0 : Fin 2) = 4 * bat t + kt t ∧ ((cfgA F).win (1 : Fin 5)).index t (1 : Fin 2) = 4 + grp t)
  ∧ (((cfgA F).win (2 : Fin 5)).index t (0 : Fin 2) = 4 * bat t + kt t ∧ ((cfgA F).win (2 : Fin 5)).index t (1 : Fin 2) = 8 + grp t)
  ∧ (((cfgA F).win (3 : Fin 5)).index t (0 : Fin 4) = bat t ∧ ((cfgA F).win (3 : Fin 5)).index t (1 : Fin 4) = grp t
      ∧ ((cfgA F).win (3 : Fin 5)).index t (2 : Fin 4) = 0 ∧ ((cfgA F).win (3 : Fin 5)).index t (3 : Fin 4) = kt t)
  ∧ (((cfgA F).win (4 : Fin 5)).index t (0 : Fin 2) = 4 * bat t + qt t ∧ ((cfgA F).win (4 : Fin 5)).index t (1 : Fin 2) = grp t)

/-- The order of the tiles: a row of tiles opens with key tile 0 and closes on the diagonal; in between the key tile moves by
    one and nothing else does. -/
abbrev OrderAt (F : FTy → Type) [FloatOps F] (t : Fin (cfgA F).N) : Prop :=
  bat t < 4 ∧ qt t < 4 ∧ kt t ≤ qt t ∧ (isFirst F (crd t) → kt t = 0) ∧ (isDiag F (crd t) ↔ kt t = qt t)
  ∧ (¬ isFirst F (crd t) → ∃ s : Fin (cfgA F).N, s.val + 1 = t.val ∧ bat s = bat t ∧ grp s = grp t ∧ qt s = qt t ∧ kt t = kt s + 1)

set_option synthInstance.maxSize 65536 in
theorem places_bits : ∀ t : Fin (cfgA Bits).N, PlacesAt Bits t := by decide +kernel

/-- The same facts, the point before named. -/
theorem order_bits : ∀ t : Fin (cfgA Bits).N, bat t < 4 ∧ qt t < 4 ∧ kt t ≤ qt t ∧ (isFirst Bits (crd t) → kt t = 0) ∧ (isDiag Bits (crd t) ↔ kt t = qt t)
    ∧ (¬ isFirst Bits (crd t) → (⟨t.val - 1, lt_of_le_of_lt (Nat.sub_le _ _) t.isLt⟩ : Fin (cfgA Bits).N).val + 1 = t.val
      ∧ bat (F := Bits) ⟨t.val - 1, lt_of_le_of_lt (Nat.sub_le _ _) t.isLt⟩ = bat t ∧ grp (F := Bits) ⟨t.val - 1, lt_of_le_of_lt (Nat.sub_le _ _) t.isLt⟩ = grp t
      ∧ qt (F := Bits) ⟨t.val - 1, lt_of_le_of_lt (Nat.sub_le _ _) t.isLt⟩ = qt t ∧ kt t = kt (F := Bits) ⟨t.val - 1, lt_of_le_of_lt (Nat.sub_le _ _) t.isLt⟩ + 1) := by
  decide +kernel

theorem places (t : Fin (cfgA F).N) : PlacesAt F t := places_bits t

theorem order (t : Fin (cfgA F).N) : OrderAt F t :=
  ⟨(order_bits t).1, (order_bits t).2.1, (order_bits t).2.2.1, (order_bits t).2.2.2.1, (order_bits t).2.2.2.2.1,
    fun h => ⟨⟨t.val - 1, lt_of_le_of_lt (Nat.sub_le _ _) t.isLt⟩, (order_bits t).2.2.2.2.2 h⟩⟩

/-- For every batch, group and query tile there is a closing point. -/
theorem closing_bits : ∀ (b g q : Fin 4), ∃ t : Fin (cfgA Bits).N, bat t = b.val ∧ grp t = g.val ∧ qt t = q.val ∧ kt t = qt t := by decide +kernel

theorem closing (b g q : Fin 4) : ∃ t : Fin (cfgA F).N, bat t = b.val ∧ grp t = g.val ∧ qt t = q.val ∧ kt t = qt t := closing_bits b g q

end Cert.KernelIdeal.Fox

end
-- ==== Proof.Head.lean ====
module

public import proofs.«01_k».proof.Proof.Step
public import Idealize.ShloMosaic.Lib.Pointwise

/-!
# One head's update, entry by entry

What the streaming softmax update of one head computes on the extended reals, at a row and a column.
-/

@[expose] public section

set_option maxRecDepth 16384
set_option Elab.async false

noncomputable section

namespace Cert.KernelIdeal.Fox

open Cert.KernelIdeal Cert.KernelIdeal.Gen
open Idealize.ShloMosaic

/-- The scale of the scores. -/
def scl : EReal := Ideal.ofBits .f32 0x3DB504F3#32

/-- The largest score of a row of a tile. -/
def rowTop (s : FVec Ideal S1024x1024 .f32) (y : Fin 1024) : EReal := Finset.univ.fold max (Ideal.ofBits .f32 0xFF800000#32) fun j : Fin 1024 => s (ix2 y j)

theorem mxOf_at (s : FVec Ideal S1024x1024 .f32) (m : Vec Ideal S1x1024x128 .f32) (y : Fin 1024) (d : Fin 128) :
    mxOf s m (ix2 y d) = max (m (ix3 0 y d)) (rowTop s y) := by
  unfold rowTop
  pointwise [mxOf]

theorem alphaOf_at (s : FVec Ideal S1024x1024 .f32) (m : Vec Ideal S1x1024x128 .f32) (y : Fin 1024) (d : Fin 128) :
    alphaOf s m (ix2 y d) = Ideal.exp (m (ix3 0 y d) - max (m (ix3 0 y d)) (rowTop s y)) := by
  rw [← mxOf_at]
  unfold alphaOf
  generalize mxOf s m = x
  pointwise

theorem pOf_at (s : FVec Ideal S1024x1024 .f32) (m : Vec Ideal S1x1024x128 .f32) (y j : Fin 1024) :
    pOf s m (ix2 y j) = Ideal.exp (s (ix2 y j) - max (m (ix3 0 y 0)) (rowTop s y)) := by
  rw [← mxOf_at]
  unfold pOf
  generalize mxOf s m = x
  pointwise

theorem mOf_at (s : FVec Ideal S1024x1024 .f32) (m : Vec Ideal S1x1024x128 .f32) (y : Fin 1024) (d : Fin 128) :
    mOf s m (ix3 0 y d) = max (m (ix3 0 y d)) (rowTop s y) := by
  rw [← mxOf_at]
  unfold mOf
  generalize mxOf s m = x
  pointwise

theorem lOf_at (s p : FVec Ideal S1024x1024 .f32) (m l : Vec Ideal S1x1024x128 .f32) (y : Fin 1024) (d : Fin 128) :
    lOf s p m l (ix3 0 y d)
      = Ideal.exp (m (ix3 0 y d) - max (m (ix3 0 y d)) (rowTop s y)) * l (ix3 0 y d) + ∑ j : Fin 1024, p (ix2 y j) := by
  rw [← alphaOf_at]
  unfold lOf
  generalize alphaOf s m = x
  pointwise

theorem aOf_at (s p : FVec Ideal S1024x1024 .f32) (v : Vec Ideal S1024x128 .bf16) (m a : Vec Ideal S1x1024x128 .f32) (y : Fin 1024) (d : Fin 128) :
    aOf s p v m a (ix3 0 y d)
      = Ideal.exp (m (ix3 0 y d) - max (m (ix3 0 y d)) (rowTop s y)) * a (ix3 0 y d) + ∑ j : Fin 1024, p (ix2 y j) * v (ix2 j d) := by
  rw [← alphaOf_at]
  unfold aOf
  generalize alphaOf s m = x
  pointwise

theorem score_at (q k : Vec Ideal S1024x128 .bf16) (f : Vec Ideal S1x1x1x1024 .f32) (y j : Fin 1024) :
    k0_pay9 q k f (ix2 y j) = (∑ d : Fin 128, q (ix2 y d) * scl * k (ix2 j d)) - f (ix4 0 0 0 j) := by
  unfold scl
  pointwise [k0_pay9]

theorem mask_at (a b : BitVec 32) (y j : Fin 1024) :
    k0_pay41 (F := Ideal) a b (ix2 y j) = IntOp.cmpi .sle (b * 1024#32 + BitVec.ofNat 32 j.val) (a * 1024#32 + BitVec.ofNat 32 y.val) := by
  pointwise [k0_pay41]
  rfl

theorem score_masked_at (a b : BitVec 32) (q k : Vec Ideal S1024x128 .bf16) (f : Vec Ideal S1x1x1x1024 .f32) (y j : Fin 1024) :
    k0_pay42 a b q k f (ix2 y j) = Scalar.select (k0_pay41 (F := Ideal) a b (ix2 y j)) (k0_pay9 q k f (ix2 y j)) (Ideal.ofBits .f32 0xF149F2CA#32) := by
  rfl

theorem out_at (l a : Vec Ideal S1x1024x128 .f32) (y : Fin 1024) (d : Fin 128) :
    k0_pay76 l a (ix2 y d) = a (ix3 0 y d) * Ideal.div 1 (l (ix3 0 y d)) := by
  pointwise [k0_pay76]

end Cert.KernelIdeal.Fox

end
-- ==== Proof.Row.lean ====
module

public import proofs.«01_k».proof.Proof.Head

/-!
# One row of the streaming softmax

A query row with real scores `S` and real values `V` over the keys, key `k` visible when `k ≤ i`. Streaming over the tiles of
keys keeps, relative to some real shift, the sum of the visible weights and the sum of the visible weighted values; their
quotient is the attention of the row whatever the shift.
-/

@[expose] public section

set_option maxRecDepth 16384
set_option Elab.async false

noncomputable section

namespace Cert.KernelIdeal.Fox

open Cert.KernelIdeal Cert.KernelIdeal.Gen
open Idealize.ShloMosaic

/-- The weight of the visible keys below `n`, relative to the shift `μ`. -/
def wsum (S : ℕ → ℝ) (i n : ℕ) (μ : ℝ) : ℝ := ∑ k ∈ Finset.range n, if k ≤ i then Real.exp (S k - μ) else 0

/-- The weighted values of the visible keys below `n`, relative to the shift `μ`. -/
def vsum (S v : ℕ → ℝ) (i n : ℕ) (μ : ℝ) : ℝ := ∑ k ∈ Finset.range n, if k ≤ i then Real.exp (S k - μ) * v k else 0

/-- The attention of row `i`: the visible values weighted by the softmax of the scores. -/
def attn (S v : ℕ → ℝ) (i : ℕ) : ℝ := vsum S v i 4096 0 / wsum S i 4096 0

theorem wsum_shift (S : ℕ → ℝ) (i n : ℕ) (μ ν : ℝ) : Real.exp (μ - ν) * wsum S i n μ = wsum S i n ν := by
  unfold wsum
  rw [Finset.mul_sum]
  refine Finset.sum_congr rfl fun k _ => ?_
  split
  · rw [← Real.exp_add]; congr 1; ring
  · simp

theorem vsum_shift (S v : ℕ → ℝ) (i n : ℕ) (μ ν : ℝ) : Real.exp (μ - ν) * vsum S v i n μ = vsum S v i n ν := by
  unfold vsum
  rw [Finset.mul_sum]
  refine Finset.sum_congr rfl fun k _ => ?_
  split
  · rw [← mul_assoc, ← Real.exp_add]; congr 2; ring
  · simp

/-- A sum over the visible keys does not see the keys from `n` on, once row `i` lies below `n`. -/
theorem visible_sum (g : ℕ → ℝ) (i n N : ℕ) (hi : i < n) (hn : n ≤ N) :
    (∑ k ∈ Finset.range n, if k ≤ i then g k else 0) = ∑ k ∈ Finset.range N, if k ≤ i then g k else 0 := by
  refine Finset.sum_subset (Finset.range_mono hn) fun k _ hk => if_neg ?_
  have : ¬ k < n := fun h => hk (Finset.mem_range.2 h)
  omega

/-- One more tile of 1024 keys. -/
theorem tile_sum (g : ℕ → ℝ) (n : ℕ) :
    ∑ k ∈ Finset.range (n + 1024), g k = (∑ k ∈ Finset.range n, g k) + ∑ j : Fin 1024, g (n + j.val) := by
  rw [Finset.sum_range_add, Finset.sum_range fun j => g (n + j)]

theorem wsum_pos (S : ℕ → ℝ) (i n : ℕ) (μ : ℝ) (hi : i < n) : 0 < wsum S i n μ := by
  unfold wsum
  refine Finset.sum_pos' (fun k _ => ?_) ⟨0, Finset.mem_range.2 (by omega), ?_⟩
  · split
    · exact (Real.exp_pos _).le
    · exact le_rfl
  · rw [if_pos (Nat.zero_le i)]; exact Real.exp_pos _

/-- The quotient of the two sums is the row's attention, whatever the shift. -/
theorem quotient_eq_attn (S v : ℕ → ℝ) (i n : ℕ) (μ : ℝ) (hi : i < n) (hn : n ≤ 4096) :
    vsum S v i n μ / wsum S i n μ = attn S v i := by
  have e1 : wsum S i n μ = wsum S i 4096 μ := visible_sum _ i n 4096 hi hn
  have e2 : vsum S v i n μ = vsum S v i 4096 μ := visible_sum _ i n 4096 hi hn
  rw [e1, e2, ← wsum_shift S i 4096 0 μ, ← vsum_shift S v i 4096 0 μ, attn, mul_div_mul_left _ _ (Real.exp_pos _).ne']

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem bits_bot : Ideal.ofBits .f32 0xFF800000#32 = ⊥ := by simp [Ideal.ofBits, Ideal.ieee]
theorem bits_floor : ∃ r : ℝ, Ideal.ofBits .f32 0xF149F2CA#32 = (r : EReal) := by
  simp only [Ideal.ofBits, Ideal.ieee]; exact ⟨_, rfl⟩
theorem bits_scale : ∃ r : ℝ, scl = (r : EReal) := by
  simp only [scl, Ideal.ofBits, Ideal.ieee]; exact ⟨_, rfl⟩

theorem coe_max (a b : ℝ) : max (a : EReal) (b : EReal) = ((max a b : ℝ) : EReal) := (EReal.coe_strictMono.monotone.map_max).symm

/-- The largest of finitely many reals, none excepted, is a real. -/
theorem fold_max_real {ι : Type} (s : Finset ι) (hne : s.Nonempty) (f : ι → ℝ) :
    ∃ ρ : ℝ, (s.fold max (⊥ : EReal) fun j => (f j : EReal)) = (ρ : EReal) := by
  classical
  induction hne using Finset.Nonempty.cons_induction with
  | singleton a => exact ⟨f a, by simp⟩
  | cons a s ha hs ih =>
    obtain ⟨ρ, hρ⟩ := ih
    exact ⟨max (f a) ρ, by rw [Finset.fold_cons, hρ, coe_max]⟩

/-- Row `y` of the statistics of a head, after the keys below `n`: relative to one real shift, in every lane. -/
def RowOK (S : ℕ → ℝ) (V : ℕ → Fin 128 → ℝ) (i n : ℕ) (m l a : Vec Ideal S1x1024x128 .f32) (y : Fin 1024) : Prop :=
  ∃ μ : ℝ, (∀ d : Fin 128, m (ix3 0 y d) = (μ : EReal)) ∧ (∀ d : Fin 128, l (ix3 0 y d) = (wsum S i n μ : EReal))
    ∧ ∀ d : Fin 128, a (ix3 0 y d) = (vsum S (fun k => V k d) i n μ : EReal)

/-- Before the first tile. -/
theorem row_init (S : ℕ → ℝ) (V : ℕ → Fin 128 → ℝ) (i : ℕ) (m l a : Vec Ideal S1x1024x128 .f32) (y : Fin 1024)
    (hm : ∀ d : Fin 128, m (ix3 0 y d) = Ideal.ofBits .f32 0xF149F2CA#32) (hl : ∀ d : Fin 128, l (ix3 0 y d) = 0)
    (ha : ∀ d : Fin 128, a (ix3 0 y d) = 0) : RowOK S V i 0 m l a y := by
  obtain ⟨r, hr⟩ := bits_floor
  exact ⟨r, fun d => (hm d).trans hr, fun d => (hl d).trans (by simp [wsum]), fun d => (ha d).trans (by simp [vsum])⟩

/-- One tile: the keys `n … n + 1023`. -/
theorem row_step (S : ℕ → ℝ) (V : ℕ → Fin 128 → ℝ) (i n : ℕ) (m l a : Vec Ideal S1x1024x128 .f32) (y : Fin 1024)
    (s p : FVec Ideal S1024x1024 .f32) (v : Vec Ideal S1024x128 .bf16) (h : RowOK S V i n m l a y)
    (hs : ∀ j : Fin 1024, ∃ r : ℝ, s (ix2 y j) = (r : EReal) ∧ (n + j.val ≤ i → r = S (n + j.val)))
    (hp : ∀ j : Fin 1024, p (ix2 y j) = if n + j.val ≤ i then Ideal.exp (s (ix2 y j) - max (m (ix3 0 y 0)) (rowTop s y)) else 0)
    (hv : ∀ (j : Fin 1024) (d : Fin 128), v (ix2 j d) = (V (n + j.val) d : EReal)) :
    RowOK S V i (n + 1024) (mOf s m) (lOf s p m l) (aOf s p v m a) y := by
  obtain ⟨μ, hm, hl, ha⟩ := h
  choose r hr hrS using hs
  obtain ⟨ρ, hρ⟩ : ∃ ρ : ℝ, rowTop s y = (ρ : EReal) := by
    unfold rowTop
    rw [bits_bot, show (fun j : Fin 1024 => s (ix2 y j)) = fun j => (r j : EReal) from funext hr]
    exact fold_max_real _ Finset.univ_nonempty r
  have hmax : ∀ d : Fin 128, max (m (ix3 0 y d)) (rowTop s y) = ((max μ ρ : ℝ) : EReal) := fun d => by rw [hm, hρ, coe_max]
  generalize max μ ρ = ν at hmax
  have hα : ∀ d : Fin 128, Ideal.exp (m (ix3 0 y d) - max (m (ix3 0 y d)) (rowTop s y)) = ((Real.exp (μ - ν) : ℝ) : EReal) := fun d => by
    rw [hmax, hm, ← EReal.coe_sub, Ideal.exp_coe]
  have hp' : ∀ j : Fin 1024, p (ix2 y j) = (((if n + j.val ≤ i then Real.exp (S (n + j.val) - ν) else 0 : ℝ)) : EReal) := fun j => by
    rw [hp, hmax, hr]
    split
    · next h => rw [hrS j h, ← EReal.coe_sub, Ideal.exp_coe]
    · rfl
  refine ⟨ν, fun d => ?_, fun d => ?_, fun d => ?_⟩
  · rw [mOf_at, hmax]
  · rw [lOf_at, hα, hl, Finset.sum_congr rfl fun j _ => hp' j, ← coe_sum, ← EReal.coe_mul, ← EReal.coe_add, wsum_shift]
    unfold wsum
    rw [tile_sum]
  · rw [aOf_at, hα, ha, Finset.sum_congr rfl fun j _ => (congrArg₂ (· * ·) (hp' j) (hv j d)).trans (EReal.coe_mul _ _).symm, ← coe_sum,
      ← EReal.coe_mul, ← EReal.coe_add, vsum_shift]
    unfold vsum
    rw [tile_sum]
    congr 2
    refine Finset.sum_congr rfl fun j _ => ?_
    split
    · rfl
    · exact zero_mul _

/-- After the last tile of the row, the quotient stored is the row's attention. -/
theorem row_out (S : ℕ → ℝ) (V : ℕ → Fin 128 → ℝ) (i n : ℕ) (m l a : Vec Ideal S1x1024x128 .f32) (y : Fin 1024)
    (h : RowOK S V i n m l a y) (hi : i < n) (hn : n ≤ 4096) (d : Fin 128) :
    k0_pay76 l a (ix2 y d) = ((attn S (fun k => V k d) i : ℝ) : EReal) := by
  obtain ⟨μ, hm, hl, ha⟩ := h
  have hpos := wsum_pos S i n μ hi
  rw [out_at, hl, ha, Ideal.div, if_neg (by exact_mod_cast hpos.ne'), one_mul, ← EReal.coe_inv, ← EReal.coe_mul, ← div_eq_mul_inv,
    quotient_eq_attn _ _ i n μ hi hn]

end Cert.KernelIdeal.Fox

end
-- ==== Proof.Tiles.lean ====
module

public import proofs.«01_k».proof.Proof.Blocks
public import proofs.«01_k».proof.Proof.Row

/-!
# The statistics of every row at every grid point

For finite arguments: after a point the statistics of its four heads are, row by row, those of the streaming softmax over the
keys seen so far, and at a closing point the block stored is the attention of its rows.
-/

@[expose] public section

set_option maxRecDepth 16384
set_option Elab.async false

noncomputable section

namespace Cert.KernelIdeal.Fox

open Cert.KernelIdeal Cert.KernelIdeal.Gen
open Idealize.ShloMosaic
open Idealize.ShloMosaic.TcCoe

/-- No entry is infinite. -/
def AllReal {s : Shape} (x : s.Idx → EReal) : Prop := ∀ j, x j ≠ ⊤ ∧ x j ≠ ⊥

/-- An array's entry as a real, zero outside. -/
def cell2 (x : S16384x10240.Idx → EReal) (r c : ℕ) : ℝ := if h : r < 16384 ∧ c < 10240 then (x (ix2 ⟨r, h.1⟩ ⟨c, h.2⟩)).toReal else 0
def cell4 (x : S4x16x1x4096.Idx → EReal) (b h k : ℕ) : ℝ :=
  if e : b < 4 ∧ h < 16 ∧ k < 4096 then (x (ix4 ⟨b, e.1⟩ ⟨h, e.2.1⟩ 0 ⟨k, e.2.2⟩)).toReal else 0

theorem cell2_of (x : S16384x10240.Idx → EReal) (hx : AllReal x) (r c : ℕ) (hr : r < 16384) (hc : c < 10240) :
    x (ix2 ⟨r, hr⟩ ⟨c, hc⟩) = (cell2 x r c : EReal) := by
  rw [cell2, dif_pos ⟨hr, hc⟩, EReal.coe_toReal (hx _).1 (hx _).2]

theorem cell4_of (x : S4x16x1x4096.Idx → EReal) (hx : AllReal x) (b h k : ℕ) (hb : b < 4) (hh : h < 16) (hk : k < 4096) :
    x (ix4 ⟨b, hb⟩ ⟨h, hh⟩ 0 ⟨k, hk⟩) = (cell4 x b h k : EReal) := by
  rw [cell4, dif_pos ⟨hb, hh, hk⟩, EReal.coe_toReal (hx _).1 (hx _).2]

/-- The scale as a real. -/
def scR : ℝ := scl.toReal
theorem scl_eq : scl = (scR : EReal) := by obtain ⟨r, hr⟩ := bits_scale; rw [scR, hr, EReal.toReal_coe]

/-- The score of key `k` for query `i` of batch `b` and head `h`, up to a term of the query alone: the scaled product less the
    key's cumulative decay. -/
def scoreR (Q K : S16384x10240.Idx → EReal) (f : S4x16x1x4096.Idx → EReal) (b h i k : ℕ) : ℝ :=
  (∑ d : Fin 128, cell2 Q (4096 * b + i) (128 * h + d.val) * scR * cell2 K (4096 * b + k) (2048 + 128 * h + d.val)) - cell4 f b h k

/-- The value of key `k`, lane `d`. -/
def valueR (V : S16384x10240.Idx → EReal) (b h k : ℕ) (d : Fin 128) : ℝ := cell2 V (4096 * b + k) (4096 + 128 * h + d.val)

theorem sle_small (a b : BitVec 32) (ha : a.toNat < 2 ^ 31) (hb : b.toNat < 2 ^ 31) :
    IntOp.cmpi .sle a b = BitVec.ofBool (decide (a.toNat ≤ b.toNat)) := by
  have h1 : a.toInt = a.toNat := by rw [BitVec.toInt_eq_toNat_of_lt (by omega)]
  have h2 : b.toInt = b.toNat := by rw [BitVec.toInt_eq_toNat_of_lt (by omega)]
  show BitVec.ofBool (a.sle b) = _
  congr 1
  rw [BitVec.sle, h1, h2]
  simp

theorem pos_small (a : BitVec 32) (ha : a.toNat < 4) (y : Fin 1024) : (a * 1024#32 + BitVec.ofNat 32 y.val).toNat = 1024 * a.toNat + y.val := by
  have := y.isLt
  rw [BitVec.toNat_add, BitVec.toNat_mul, BitVec.toNat_ofNat, BitVec.toNat_ofNat]
  omega

/-- The mask of a tile: key no later than query. -/
theorem mask_small (a b : BitVec 32) (ha : a.toNat < 4) (hb : b.toNat < 4) (y j : Fin 1024) :
    k0_pay41 (F := Ideal) a b (ix2 y j) = BitVec.ofBool (decide (1024 * b.toNat + j.val ≤ 1024 * a.toNat + y.val)) := by
  have := y.isLt
  have := j.isLt
  rw [mask_at, sle_small _ _ (by rw [pos_small b hb]; omega) (by rw [pos_small a ha]; omega), pos_small a ha, pos_small b hb]

theorem select_of {α : Type} (p : Prop) [Decidable p] (x y : α) : Scalar.select (BitVec.ofBool (decide p)) x y = if p then x else y := by
  by_cases h : p <;> simp [h, Scalar.select]

variable (m : (ℓ : Loc nD τ sig) → Buf (Elt Ideal) ℓ) (c : Dev nD)

abbrev argQ : S16384x10240.Idx → EReal := m ((c.tc : Thread nD τ).loc main_arg0)
abbrev argK : S16384x10240.Idx → EReal := m ((c.tc : Thread nD τ).loc main_arg1)
abbrev argV : S16384x10240.Idx → EReal := m ((c.tc : Thread nD τ).loc main_arg2)
abbrev argF : S4x16x1x4096.Idx → EReal := m ((c.tc : Thread nD τ).loc main_arg3)

/-- The arguments hold no infinity. -/
def Finite : Prop := AllReal (argQ m c) ∧ AllReal (argK m c) ∧ AllReal (argV m c) ∧ AllReal (argF m c)

variable {m c}

theorem q_block (hm : Finite m c) (t : Fin (cfgA Ideal).N) (y : Fin 1024) (x : Fin 512) :
    iblk m c (0 : Fin 5) t (ix2 y x) = (cell2 (argQ m c) (4096 * bat t + (1024 * qt t + y.val)) (512 * grp t + x.val) : EReal) := by
  have e := (places (F := Ideal) t).1
  have o := order (F := Ideal) t
  have hy := y.isLt
  have hx := x.isLt
  have hg : grp t < 4 := Nat.mod_lt _ (by decide)
  rw [← cell2_of _ hm.1 _ _ (by have := o.1; have := o.2.1; omega) (by omega)]
  unfold iblk
  refine congrArg (argQ m c) (funext fun a => Fin.ext ?_)
  blk_simp
  match a with
  | ⟨0, _⟩ => show ((cfgA Ideal).win (0 : Fin 5)).index t (0 : Fin 2) * 1024 + y.val = 4096 * bat t + (1024 * qt t + y.val); rw [e.1]; omega
  | ⟨1, _⟩ => show ((cfgA Ideal).win (0 : Fin 5)).index t (1 : Fin 2) * 512 + x.val = 512 * grp t + x.val; rw [e.2]; omega

theorem k_block (hm : Finite m c) (t : Fin (cfgA Ideal).N) (y : Fin 1024) (x : Fin 512) :
    iblk m c (1 : Fin 5) t (ix2 y x) = (cell2 (argK m c) (4096 * bat t + (1024 * kt t + y.val)) (2048 + 512 * grp t + x.val) : EReal) := by
  have e := (places (F := Ideal) t).2.1
  have o := order (F := Ideal) t
  have hy := y.isLt
  have hx := x.isLt
  have hg : grp t < 4 := Nat.mod_lt _ (by decide)
  rw [← cell2_of _ hm.2.1 _ _ (by have := o.1; have := o.2.1; have := o.2.2.1; omega) (by omega)]
  unfold iblk
  refine congrArg (argK m c) (funext fun a => Fin.ext ?_)
  blk_simp
  match a with
  | ⟨0, _⟩ => show ((cfgA Ideal).win (1 : Fin 5)).index t (0 : Fin 2) * 1024 + y.val = 4096 * bat t + (1024 * kt t + y.val); rw [e.1]; omega
  | ⟨1, _⟩ => show ((cfgA Ideal).win (1 : Fin 5)).index t (1 : Fin 2) * 512 + x.val = 2048 + 512 * grp t + x.val; rw [e.2]; omega

theorem v_block (hm : Finite m c) (t : Fin (cfgA Ideal).N) (y : Fin 1024) (x : Fin 512) :
    iblk m c (2 : Fin 5) t (ix2 y x) = (cell2 (argV m c) (4096 * bat t + (1024 * kt t + y.val)) (4096 + 512 * grp t + x.val) : EReal) := by
  have e := (places (F := Ideal) t).2.2.1
  have o := order (F := Ideal) t
  have hy := y.isLt
  have hx := x.isLt
  have hg : grp t < 4 := Nat.mod_lt _ (by decide)
  rw [← cell2_of _ hm.2.2.1 _ _ (by have := o.1; have := o.2.1; have := o.2.2.1; omega) (by omega)]
  unfold iblk
  refine congrArg (argV m c) (funext fun a => Fin.ext ?_)
  blk_simp
  match a with
  | ⟨0, _⟩ => show ((cfgA Ideal).win (2 : Fin 5)).index t (0 : Fin 2) * 1024 + y.val = 4096 * bat t + (1024 * kt t + y.val); rw [e.1]; omega
  | ⟨1, _⟩ => show ((cfgA Ideal).win (2 : Fin 5)).index t (1 : Fin 2) * 512 + x.val = 4096 + 512 * grp t + x.val; rw [e.2]; omega

theorem f_block (hm : Finite m c) (t : Fin (cfgA Ideal).N) (r : Fin 4) (j : Fin 1024) :
    iblk m c (3 : Fin 5) t (ix4 0 r 0 j) = (cell4 (argF m c) (bat t) (4 * grp t + r.val) (1024 * kt t + j.val) : EReal) := by
  have e := (places (F := Ideal) t).2.2.2.1
  have o := order (F := Ideal) t
  have hj := j.isLt
  have hr := r.isLt
  have hg : grp t < 4 := Nat.mod_lt _ (by decide)
  rw [← cell4_of _ hm.2.2.2 _ _ _ o.1 (by omega) (by have := o.2.1; have := o.2.2.1; omega)]
  unfold iblk
  refine congrArg (argF m c) (funext fun a => Fin.ext ?_)
  blk_simp
  match a with
  | ⟨0, _⟩ => show ((cfgA Ideal).win (3 : Fin 5)).index t (0 : Fin 4) * 1 + 0 = bat t; rw [e.1]; omega
  | ⟨1, _⟩ => show ((cfgA Ideal).win (3 : Fin 5)).index t (1 : Fin 4) * 4 + r.val = 4 * grp t + r.val; rw [e.2.1]; omega
  | ⟨2, _⟩ => show ((cfgA Ideal).win (3 : Fin 5)).index t (2 : Fin 4) * 1 + 0 = 0; rw [e.2.2.1]
  | ⟨3, _⟩ => show ((cfgA Ideal).win (3 : Fin 5)).index t (3 : Fin 4) * 1024 + j.val = 1024 * kt t + j.val; rw [e.2.2.2]; omega

/-- The scores and values a row of point `t` streams over: row `y` of head `r` of its group. -/
abbrev rowS (m : (ℓ : Loc nD τ sig) → Buf (Elt Ideal) ℓ) (c : Dev nD) (b g q : ℕ) (r : Fin 4) (y : Fin 1024) : ℕ → ℝ :=
  scoreR (argQ m c) (argK m c) (argF m c) b (4 * g + r.val) (1024 * q + y.val)
abbrev rowV (m : (ℓ : Loc nD τ sig) → Buf (Elt Ideal) ℓ) (c : Dev nD) (b g : ℕ) (r : Fin 4) : ℕ → Fin 128 → ℝ :=
  valueR (argV m c) b (4 * g + r.val)

/-- The product part of a tile's scores. -/
theorem score_block (hm : Finite m c) (t : Fin (cfgA Ideal).N) (r : Fin 4) (y j : Fin 1024) :
    k0_pay9 (headCols (iblk m c (0 : Fin 5) t) r) (headCols (iblk m c (1 : Fin 5) t) r) (headRow (iblk m c (3 : Fin 5) t) r) (ix2 y j)
      = (rowS m c (bat t) (grp t) (qt t) r y (1024 * kt t + j.val) : EReal) := by
  have hq : ∀ d : Fin 128, headCols (iblk m c (0 : Fin 5) t) r (ix2 y d)
      = (cell2 (argQ m c) (4096 * bat t + (1024 * qt t + y.val)) (128 * (4 * grp t + r.val) + d.val) : EReal) := fun d => by
    refine (q_block hm t y ⟨128 * r.val + d.val, by have := r.isLt; have := d.isLt; omega⟩).trans ?_
    rw [show 512 * grp t + (128 * r.val + d.val) = 128 * (4 * grp t + r.val) + d.val from by omega]
  have hk : ∀ d : Fin 128, headCols (iblk m c (1 : Fin 5) t) r (ix2 j d)
      = (cell2 (argK m c) (4096 * bat t + (1024 * kt t + j.val)) (2048 + 128 * (4 * grp t + r.val) + d.val) : EReal) := fun d => by
    refine (k_block hm t j ⟨128 * r.val + d.val, by have := r.isLt; have := d.isLt; omega⟩).trans ?_
    rw [show 2048 + 512 * grp t + (128 * r.val + d.val) = 2048 + 128 * (4 * grp t + r.val) + d.val from by omega]
  have hf : headRow (iblk m c (3 : Fin 5) t) r (ix4 0 0 0 j) = (cell4 (argF m c) (bat t) (4 * grp t + r.val) (1024 * kt t + j.val) : EReal) :=
    f_block hm t r j
  rw [score_at, hf, scl_eq]
  simp only [hq, hk]
  simp only [← EReal.coe_mul]
  rw [← coe_sum, ← EReal.coe_sub]
  rfl

/-- The scores of a tile are real, and at a visible key the row's score. -/
theorem tile_scores (hm : Finite m c) (t : Fin (cfgA Ideal).N) (r : Fin 4) (y j : Fin 1024) :
    ∃ x : ℝ, scAt (F := Ideal) (crd t) (iblk m c (0 : Fin 5) t) (iblk m c (1 : Fin 5) t) (iblk m c (3 : Fin 5) t) r (ix2 y j) = (x : EReal)
      ∧ (1024 * kt t + j.val ≤ 1024 * qt t + y.val → x = rowS m c (bat t) (grp t) (qt t) r y (1024 * kt t + j.val)) := by
  have o := order (F := Ideal) t
  unfold scAt
  by_cases hd : isDiag Ideal (crd t)
  · rw [if_pos hd, scMask, score_masked_at, score_block hm, mask_small _ _ o.2.1 (lt_of_le_of_lt o.2.2.1 o.2.1), select_of]
    obtain ⟨z, hz⟩ := bits_floor
    split
    · exact ⟨_, rfl, fun _ => rfl⟩
    · next h => exact ⟨z, hz, fun h' => absurd h' h⟩
  · rw [if_neg hd, scPlain, score_block hm]
    exact ⟨_, rfl, fun _ => rfl⟩

/-- The weights of a tile, zero at the keys not visible. -/
theorem tile_weights (t : Fin (cfgA Ideal).N) (q k : S1024x512.Idx → EReal) (f : S1x4x1x1024.Idx → EReal)
    (M : S4x1024x128.Idx → EReal) (r : Fin 4) (y j : Fin 1024) :
    pAt (F := Ideal) (crd t) q k f M r (ix2 y j)
      = if 1024 * kt t + j.val ≤ 1024 * qt t + y.val then
          Ideal.exp (scAt (F := Ideal) (crd t) q k f r (ix2 y j) - max (headStat (F := Ideal) M r (ix3 0 y 0)) (rowTop (scAt (F := Ideal) (crd t) q k f r) y))
        else 0 := by
  have o := order (F := Ideal) t
  unfold pAt scAt
  by_cases hd : isDiag Ideal (crd t)
  · rw [if_pos hd, if_pos hd, pMask, ← pOf_at]
    generalize pOf (F := Ideal) (scMask (wq Ideal (crd t)) (wk Ideal (crd t)) q k f r) (headStat M r) = P
    show Scalar.select (k0_pay41 (F := Ideal) _ _ (ix2 y j)) (P (ix2 y j)) (Ideal.ofBits .f32 0x00000000#32) = _
    rw [mask_small _ _ o.2.1 (lt_of_le_of_lt o.2.2.1 o.2.1), select_of, Ideal.ofBits_zero_f32]
  · have hlt : kt t < qt t := lt_of_le_of_ne o.2.2.1 fun h => hd (o.2.2.2.2.1.2 h)
    have := j.isLt
    rw [if_neg hd, if_neg hd, pPlain, pOf_at, if_pos (by omega)]

/-- A statistic's head after a point. -/
theorem pt_head (t : Fin (cfgA Ideal).N) (s : State Ideal) (r : Fin 4) :
    headStat (ptS m c t s).1 r = mOf (scAt (F := Ideal) (crd t) (iblk m c (0 : Fin 5) t) (iblk m c (1 : Fin 5) t) (iblk m c (3 : Fin 5) t) r) (headStat (baseS (crd t) s).1 r)
    ∧ headStat (ptS m c t s).2.1 r = lOf (scAt (F := Ideal) (crd t) (iblk m c (0 : Fin 5) t) (iblk m c (1 : Fin 5) t) (iblk m c (3 : Fin 5) t) r)
        (pAt (F := Ideal) (crd t) (iblk m c (0 : Fin 5) t) (iblk m c (1 : Fin 5) t) (iblk m c (3 : Fin 5) t) (baseS (crd t) s).1 r)
        (headStat (baseS (crd t) s).1 r) (headStat (baseS (crd t) s).2.1 r)
    ∧ headStat (ptS m c t s).2.2 r = aOf (scAt (F := Ideal) (crd t) (iblk m c (0 : Fin 5) t) (iblk m c (1 : Fin 5) t) (iblk m c (3 : Fin 5) t) r)
        (pAt (F := Ideal) (crd t) (iblk m c (0 : Fin 5) t) (iblk m c (1 : Fin 5) t) (iblk m c (3 : Fin 5) t) (baseS (crd t) s).1 r)
        (headCols (iblk m c (2 : Fin 5) t) r) (headStat (baseS (crd t) s).1 r) (headStat (baseS (crd t) s).2.2 r) := by
  unfold ptS updS stepM stepL stepA
  dsimp only
  exact ⟨headStat_planes _ r, headStat_planes _ r, headStat_planes _ r⟩

/-- Every row of a state stands after the keys below `n`. -/
def StateOK (m : (ℓ : Loc nD τ sig) → Buf (Elt Ideal) ℓ) (c : Dev nD) (b g q n : ℕ) (s : State Ideal) : Prop :=
  ∀ (r : Fin 4) (y : Fin 1024), RowOK (rowS m c b g q r y) (rowV m c b g r) (1024 * q + y.val) n (headStat s.1 r) (headStat s.2.1 r) (headStat s.2.2 r) y

/-- The opening statistics stand before the first key. -/
theorem state_init (b g q : ℕ) : StateOK m c b g q 0 (initS (F := Ideal)) := fun r y =>
  row_init _ _ _ _ _ _ y (fun _ => rfl) (fun _ => Ideal.ofBits_zero_f32) (fun _ => Ideal.ofBits_zero_f32)

/-- A point moves every row past its tile. -/
theorem state_point (hm : Finite m c) (t : Fin (cfgA Ideal).N) (s : State Ideal)
    (h : StateOK m c (bat t) (grp t) (qt t) (1024 * kt t) (baseS (crd t) s)) :
    StateOK m c (bat t) (grp t) (qt t) (1024 * kt t + 1024) (ptS m c t s) := fun r y => by
  obtain ⟨e1, e2, e3⟩ := pt_head (m := m) (c := c) t s r
  rw [e1, e2, e3]
  refine row_step _ _ _ _ _ _ _ _ _ _ _ (h r y) (fun j => tile_scores hm t r y j) (fun j => tile_weights t _ _ _ _ r y j) fun j d => ?_
  refine (v_block hm t j ⟨128 * r.val + d.val, by have := r.isLt; have := d.isLt; omega⟩).trans ?_
  rw [show 4096 + 512 * grp t + (128 * r.val + d.val) = 4096 + 128 * (4 * grp t + r.val) + d.val from by omega]
  rfl

/-- After every point every row stands past its tile. -/
theorem state_after (hm : Finite m c) (n : ℕ) : ∀ t : Fin (cfgA Ideal).N, t.val = n →
    StateOK m c (bat t) (grp t) (qt t) (1024 * kt t + 1024) (stateS m c (t.val + 1)) := by
  induction n with
  | zero =>
    intro t ht
    rw [stateS_succ]
    have hf := (facts (F := Ideal) t).2.2.1 ht
    refine state_point hm t _ ?_
    rw [baseS, if_pos hf, (order (F := Ideal) t).2.2.2.1 hf]
    exact state_init _ _ _
  | succ n ih =>
    intro t ht
    rw [stateS_succ]
    refine state_point hm t _ ?_
    by_cases hf : isFirst Ideal (crd t)
    · rw [baseS, if_pos hf, (order (F := Ideal) t).2.2.2.1 hf]
      exact state_init _ _ _
    · obtain ⟨s, hs, e1, e2, e3, e4⟩ := (order (F := Ideal) t).2.2.2.2.2 hf
      have h := ih s (by omega)
      rw [e1, e2, e3, show 1024 * kt s + 1024 = 1024 * kt t from by omega, hs] at h
      rw [baseS, if_neg hf]
      exact h

/-- The attention of the model at result row `R`, column `C`. -/
def result (Q K V : S16384x10240.Idx → EReal) (f : S4x16x1x4096.Idx → EReal) (R C : ℕ) : EReal :=
  ((attn (scoreR Q K f (R / 4096) (C / 128) (R % 4096))
    (fun k => valueR V (R / 4096) (C / 128) k ⟨C % 128, Nat.mod_lt _ (by decide)⟩) (R % 4096) : ℝ) : EReal)

/-- The block stored at a closing point. -/
theorem out_block (hm : Finite m c) (t : Fin (cfgA Ideal).N) (hd : isDiag Ideal (crd t)) (y : Fin 1024) (x : Fin 512) :
    outOf (F := Ideal) (stateS m c (t.val + 1)).2.1 (stateS m c (t.val + 1)).2.2 (ix2 y x)
      = result (argQ m c) (argK m c) (argV m c) (argF m c) (4096 * bat t + 1024 * qt t + y.val) (512 * grp t + x.val) := by
  have o := order (F := Ideal) t
  have hx := x.isLt
  have hy := y.isLt
  have h := state_after hm t.val t rfl ⟨x.val / 128, by omega⟩ y
  have hk : kt t = qt t := o.2.2.2.2.1.1 hd
  have e := row_out _ _ _ _ _ _ _ y h (by omega) (by have := o.2.1; omega) ⟨x.val % 128, Nat.mod_lt _ (by decide)⟩
  refine Eq.trans ?_ (e.trans ?_)
  · rfl
  · have h1 : (4096 * bat t + 1024 * qt t + y.val) / 4096 = bat t := by have := o.2.1; omega
    have h2 : (4096 * bat t + 1024 * qt t + y.val) % 4096 = 1024 * qt t + y.val := by have := o.2.1; omega
    have h3 : (512 * grp t + x.val) / 128 = 4 * grp t + x.val / 128 := by omega
    have h4 : (512 * grp t + x.val) % 128 = x.val % 128 := by omega
    unfold result
    simp only [h1, h2, h3, h4]

end Cert.KernelIdeal.Fox

end
-- ==== Proof.Attention.lean ====
module

public import proofs.«01_k».proof.Proof.Run
public import proofs.«01_k».proof.Proof.Tiles

/-!
# The array the call leaves

For finite arguments the result array ends as the attention of every row and column: the blocks stored at the closing points
hold it and cover the array.
-/

@[expose] public section

set_option maxRecDepth 16384
set_option Elab.async false

noncomputable section

namespace Cert.KernelIdeal.Fox

open Cert.KernelIdeal Cert.KernelIdeal.Gen
open Idealize.ShloMosaic
open Idealize.ShloMosaic.TcCoe

variable {m : (ℓ : Loc nD τ sig) → Buf (Elt Ideal) ℓ} {c : Dev nD}

/-- The result array, as a function of the arguments. -/
def model (m : (ℓ : Loc nD τ sig) → Buf (Elt Ideal) ℓ) (c : Dev nD) : S16384x2048.Idx → EReal := fun i =>
  result (argQ m c) (argK m c) (argV m c) (argF m c) (i 0).val (i 1).val

/-- The result array ends as the model. -/
theorem arr_eq (hm : Finite m c) : (dats (F := Ideal) m 0 c).arrAt (4 : Fin 5) (cfgA Ideal).N = model m c := by
  refine (dats (F := Ideal) m 0 c).arrAt_eq_of_emb (4 : Fin 5) (model m c) (fun t ht y => ?_) fun i => ?_
  · have hd : isDiag Ideal (crd t) := by
      by_contra h
      have := (facts (F := Ideal) t).2
      simp_all
    have e := (places (F := Ideal) t).2.2.2.2
    refine (congrFun (after_4 m c t) _).trans ?_
    have hx : ((cfgA Ideal).win (4 : Fin 5)).xinj ((cfgA Ideal).grid.coords t) y = ix2 (y 0) (y 1) := by
      funext a
      match a with
      | ⟨0, _⟩ => rfl
      | ⟨1, _⟩ => rfl
    refine (congrArg (outOf (F := Ideal) (stateS m c (t.val + 1)).2.1 (stateS m c (t.val + 1)).2.2) hx).trans ?_
    refine (out_block hm t hd (y 0) (y 1)).trans ?_
    unfold model
    have e0 : ((((cfgA Ideal).win (4 : Fin 5)).blk t).view.emb y 0).val = 4096 * bat t + 1024 * qt t + (y 0).val := by
      blk_simp
      show ((cfgA Ideal).win (4 : Fin 5)).index t (0 : Fin 2) * 1024 + (y 0).val = _
      rw [e.1]; omega
    have e1 : ((((cfgA Ideal).win (4 : Fin 5)).blk t).view.emb y 1).val = 512 * grp t + (y 1).val := by
      blk_simp
      show ((cfgA Ideal).win (4 : Fin 5)).index t (1 : Fin 2) * 512 + (y 1).val = _
      rw [e.2]; omega
    exact (congrArg₂ (result (argQ m c) (argK m c) (argV m c) (argF m c)) e0 e1).symm
  · have h0 : (i 0).val < 16384 := (i 0).isLt
    have h1 : (i 1).val < 2048 := (i 1).isLt
    obtain ⟨t, b, g, q, k⟩ := closing (F := Ideal) ⟨(i 0).val / 4096, by omega⟩ ⟨(i 1).val / 512, by omega⟩ ⟨(i 0).val / 1024 % 4, by omega⟩
    have e := (places (F := Ideal) t).2.2.2.2
    refine ⟨t, ((facts (F := Ideal) t).2.2.2.1 ((order (F := Ideal) t).2.2.2.2.1.2 k)).2, ?_⟩
    refine (((cfgA Ideal).win (4 : Fin 5)).emb_mem_blk_iff t i).2 fun a => ?_
    match a with
    | ⟨0, _⟩ =>
      show ((cfgA Ideal).win (4 : Fin 5)).index t (0 : Fin 2) * 1024 ≤ (i 0).val ∧ (i 0).val < ((cfgA Ideal).win (4 : Fin 5)).index t (0 : Fin 2) * 1024 + 1024
      rw [e.1, b, q]
      dsimp only
      omega
    | ⟨1, _⟩ =>
      show ((cfgA Ideal).win (4 : Fin 5)).index t (1 : Fin 2) * 512 ≤ (i 1).val ∧ (i 1).val < ((cfgA Ideal).win (4 : Fin 5)).index t (1 : Fin 2) * 512 + 512
      rw [e.2, g]
      dsimp only
      omega

end Cert.KernelIdeal.Fox

end
-- ==== Proof.Ref.lean ====
module

public import proofs.«01_k».proof.Proof.Tiles
public import proofs.«01_k».proof.Proof.Gen.ReferenceIdeal.Read

/-!
# The reference, entry by entry

For finite arguments the reference's result is the same attention: its scores are the kernel's plus a term of the query alone,
which the softmax forgets.
-/

@[expose] public section

set_option maxRecDepth 16384
set_option Elab.async false

noncomputable section

namespace Cert.ReferenceIdeal.Fox

open Cert.ReferenceIdeal Cert.ReferenceIdeal.Gen Cert.ReferenceIdeal.Read
open Cert.KernelIdeal.Fox (AllReal cell2 cell4 cell2_of cell4_of scoreR valueR scR scl scl_eq wsum vsum attn wsum_pos quotient_eq_attn coe_sum bits_bot result
  sle_small select_of)
open Idealize.ShloMosaic
open Idealize.ShloMosaic.TcCoe

variable {Q K V : S16384x10240.Idx → EReal} {f : S4x16x1x4096.Idx → EReal}

/-- The queries, split into batches and heads. -/
theorem q_at (hQ : AllReal Q) (i : S4x4096x16x128.Idx) :
    val_main_v2 (F := Ideal) Q i = (cell2 Q (4096 * (i 0).val + (i 1).val) (128 * (i 2).val + (i 3).val) : EReal) := by
  have h0 : (i 0).val < 4 := (i 0).isLt
  have h1 : (i 1).val < 4096 := (i 1).isLt
  have h2 : (i 2).val < 16 := (i 2).isLt
  have h3 : (i 3).val < 128 := (i 3).isLt
  rw [val_main_v2_apply, val_main_v1_apply, val_main_v0_apply, ← cell2_of Q hQ _ _ (by omega) (by omega)]
  refine congrArg Q (funext fun a => Fin.ext ?_)
  match a with
  | ⟨0, _⟩ => show ((((i 0).val * 4096 + (i 1).val) * 16 + (i 2).val) * 128 + (i 3).val) / 2048 = 4096 * (i 0).val + (i 1).val; omega
  | ⟨1, _⟩ => show ((((i 0).val * 4096 + (i 1).val) * 16 + (i 2).val) * 128 + (i 3).val) % 2048 = 128 * (i 2).val + (i 3).val; omega

/-- The keys. -/
theorem k_at (hK : AllReal K) (i : S4x4096x16x128.Idx) :
    val_main_v5 (F := Ideal) K i = (cell2 K (4096 * (i 0).val + (i 1).val) (2048 + 128 * (i 2).val + (i 3).val) : EReal) := by
  have h0 : (i 0).val < 4 := (i 0).isLt
  have h1 : (i 1).val < 4096 := (i 1).isLt
  have h2 : (i 2).val < 16 := (i 2).isLt
  have h3 : (i 3).val < 128 := (i 3).isLt
  rw [val_main_v5_apply, val_main_v4_apply, val_main_v3_apply, ← cell2_of K hK _ _ (by omega) (by omega)]
  refine congrArg K (funext fun a => Fin.ext ?_)
  match a with
  | ⟨0, _⟩ => show ((((i 0).val * 4096 + (i 1).val) * 16 + (i 2).val) * 128 + (i 3).val) / 2048 = 4096 * (i 0).val + (i 1).val; omega
  | ⟨1, _⟩ => show 2048 + ((((i 0).val * 4096 + (i 1).val) * 16 + (i 2).val) * 128 + (i 3).val) % 2048 = 2048 + 128 * (i 2).val + (i 3).val; omega

/-- The values. -/
theorem v_at (hV : AllReal V) (i : S4x4096x16x128.Idx) :
    val_main_v8 (F := Ideal) V i = (cell2 V (4096 * (i 0).val + (i 1).val) (4096 + 128 * (i 2).val + (i 3).val) : EReal) := by
  have h0 : (i 0).val < 4 := (i 0).isLt
  have h1 : (i 1).val < 4096 := (i 1).isLt
  have h2 : (i 2).val < 16 := (i 2).isLt
  have h3 : (i 3).val < 128 := (i 3).isLt
  rw [val_main_v8_apply, val_main_v7_apply, val_main_v6_apply, ← cell2_of V hV _ _ (by omega) (by omega)]
  refine congrArg V (funext fun a => Fin.ext ?_)
  match a with
  | ⟨0, _⟩ => show ((((i 0).val * 4096 + (i 1).val) * 16 + (i 2).val) * 128 + (i 3).val) / 2048 = 4096 * (i 0).val + (i 1).val; omega
  | ⟨1, _⟩ => show 4096 + ((((i 0).val * 4096 + (i 1).val) * 16 + (i 2).val) * 128 + (i 3).val) % 2048 = 4096 + 128 * (i 2).val + (i 3).val; omega

/-- The cumulative decay. -/
theorem f_at (hf : AllReal f) (i : S4x16x4096.Idx) : val_main_v9 (F := Ideal) f i = (cell4 f (i 0).val (i 1).val (i 2).val : EReal) := by
  have h0 : (i 0).val < 4 := (i 0).isLt
  have h1 : (i 1).val < 16 := (i 1).isLt
  have h2 : (i 2).val < 4096 := (i 2).isLt
  rw [val_main_v9_apply, ← cell4_of f hf _ _ _ h0 h1 h2]
  refine congrArg f (funext fun a => Fin.ext ?_)
  match a with
  | ⟨0, _⟩ => show (((i 0).val * 16 + (i 1).val) * 4096 + (i 2).val) / 65536 = (i 0).val; omega
  | ⟨1, _⟩ => show (((i 0).val * 16 + (i 1).val) * 4096 + (i 2).val) / 4096 % 16 = (i 1).val; omega
  | ⟨2, _⟩ => rfl
  | ⟨3, _⟩ => show (((i 0).val * 16 + (i 1).val) * 4096 + (i 2).val) % 4096 = (i 2).val; omega

/-- The score before the mask: the kernel's plus the decay of the query. -/
theorem raw_at (hQ : AllReal Q) (hK : AllReal K) (hf : AllReal f) (i : S4x16x4096x4096.Idx) :
    val_main_v18 (F := Ideal) Q K f i
      = ((scoreR Q K f (i 0).val (i 1).val (i 2).val (i 3).val + cell4 f (i 0).val (i 1).val (i 2).val : ℝ) : EReal) := by
  rw [val_main_v18_apply, val_main_v15_apply, val_main_v12_apply, val_main_v10_apply, val_main_v11_apply, val_main_cst_apply,
    val_main_v14_apply, val_main_v13_apply, val_main_v17_apply, val_main_v16_apply, f_at hf, f_at hf]
  have e : (∑ d : Fin 128, val_main_v2 (F := Ideal) Q (lidx_main_v10 i d) * val_main_v5 (F := Ideal) K (ridx_main_v10 i d))
      = ((∑ d : Fin 128, cell2 Q (4096 * (i 0).val + (i 2).val) (128 * (i 1).val + d.val)
          * cell2 K (4096 * (i 0).val + (i 3).val) (2048 + 128 * (i 1).val + d.val) : ℝ) : EReal) := by
    rw [coe_sum]
    refine Finset.sum_congr rfl fun d _ => ?_
    rw [q_at hQ, k_at hK, EReal.coe_mul]
  rw [e]
  show (_ * scl + _ : EReal) - _ = _
  rw [scl_eq, ← EReal.coe_mul, ← EReal.coe_add, ← EReal.coe_sub]
  refine congrArg _ ?_
  unfold scoreR
  rw [Finset.sum_mul, Finset.sum_congr rfl fun d _ => mul_right_comm _ _ _]
  ring

/-- The masked score: no score for a later key. -/
theorem score_at (hQ : AllReal Q) (hK : AllReal K) (hf : AllReal f) (i : S4x16x4096x4096.Idx) :
    val_main_v25 (F := Ideal) Q K f i
      = if (i 3).val ≤ (i 2).val then ((scoreR Q K f (i 0).val (i 1).val (i 2).val (i 3).val + cell4 f (i 0).val (i 1).val (i 2).val : ℝ) : EReal) else ⊥ := by
  have h2 : (i 2).val < 4096 := (i 2).isLt
  have h3 : (i 3).val < 4096 := (i 3).isLt
  rw [val_main_v25_apply, raw_at hQ hK hf, val_main_call0_v1_apply, val_main_v24_apply, val_main_v22_apply, val_main_v20_apply, val_main_v23_apply,
    val_main_v21_apply, val_main_v19_apply, val_main_v19_apply, val_main_call0_v2_apply, val_main_call0_v0_apply, val_main_cst_0_apply]
  have e : IntOp.cmpi .sle (BitVec.ofNat 32 (i 3).val) (BitVec.ofNat 32 (i 2).val) = BitVec.ofBool (decide ((i 3).val ≤ (i 2).val)) := by
    rw [sle_small _ _ (by rw [BitVec.toNat_ofNat]; omega) (by rw [BitVec.toNat_ofNat]; omega), BitVec.toNat_ofNat, BitVec.toNat_ofNat,
      Nat.mod_eq_of_lt (by omega), Nat.mod_eq_of_lt (by omega)]
  refine (congrArg (fun z => Scalar.select z _ _) e).trans ?_
  rw [select_of]
  refine if_congr Iff.rfl rfl bits_bot

/-- The largest of finitely many values below `⊤`, one of them real, is a real. -/
theorem fold_max_masked {n : ℕ} (g : Fin n → EReal) (hT : ∀ k, g k ≠ ⊤) (k₀ : Fin n) (hB : g k₀ ≠ ⊥) :
    ∃ ρ : ℝ, ((Finset.univ : Finset (Fin n)).fold max (⊥ : EReal) g) = (ρ : EReal) := by
  refine ⟨_, (EReal.coe_toReal (ne_of_lt ((Finset.fold_max_lt _).2 ⟨bot_lt_top, fun k _ => lt_top_iff_ne_top.2 (hT k)⟩)) ?_).symm⟩
  refine ne_of_gt (lt_of_lt_of_le (bot_lt_iff_ne_bot.2 hB) ((Finset.le_fold_max _).2 (Or.inr ⟨k₀, Finset.mem_univ _, le_rfl⟩)))

/-- The row's largest score is a real. -/
theorem top_at (hQ : AllReal Q) (hK : AllReal K) (hf : AllReal f) (i : S4x16x4096.Idx) :
    ∃ ρ : ℝ, val_main_v26 (F := Ideal) Q K f i = (ρ : EReal) := by
  obtain ⟨ρ, h⟩ := fold_max_masked (fun k : Fin 4096 => val_main_v25 (F := Ideal) Q K f (idx_main_v35 i k))
    (fun k => by rw [score_at hQ hK hf]; split; exacts [EReal.coe_ne_top _, bot_ne_top]) ⟨0, by decide⟩
    (by rw [score_at hQ hK hf, if_pos (Nat.zero_le _)]; exact EReal.coe_ne_bot _)
  refine ⟨ρ, Eq.trans ?_ h⟩
  unfold val_main_v26
  generalize val_main_v25 (F := Ideal) Q K f = s
  rw [Host.reduce_eq_fold, Shape.ReducesTo.fold_fiber_r4_a3]
  rw [val_main_cst_1_apply]
  refine (congrArg (fun z => Finset.fold max z _ _) bits_bot).trans
    (congrArg (fun g => Finset.fold max (⊥ : EReal) g Finset.univ) (funext fun k => congrArg s (funext fun a => ?_)))
  match a with
  | ⟨0, _⟩ => rfl
  | ⟨1, _⟩ => rfl
  | ⟨2, _⟩ => rfl
  | ⟨3, _⟩ => rfl

/-- The weight of a key before division, for a row whose largest score is `ρ`. -/
theorem weight_at (hQ : AllReal Q) (hK : AllReal K) (hf : AllReal f) (b : Fin 4) (h : Fin 16) (q : Fin 4096) (ρ : ℝ)
    (hρ : val_main_v26 (F := Ideal) Q K f (ix3 b h q) = (ρ : EReal)) (k : Fin 4096) :
    val_main_v34 (F := Ideal) Q K f (ix4 b h q k)
      = ((if k.val ≤ q.val then Real.exp (scoreR Q K f b.val h.val q.val k.val - (ρ - cell4 f b.val h.val q.val)) else 0 : ℝ) : EReal) := by
  have e27 : ∀ z, val_main_v27 (F := Ideal) Q K f (ix4 b h q z) = (ρ : EReal) := fun z => by
    rw [val_main_v27_apply, ← hρ]
    refine congrArg _ (funext fun a => ?_)
    match a with
    | ⟨0, _⟩ => rfl
    | ⟨1, _⟩ => rfl
    | ⟨2, _⟩ => rfl
  have e31 : val_main_v31 (F := Ideal) Q K f (ix4 b h q 0) = (ρ : EReal) := by
    rw [val_main_v31_apply, val_main_v30_apply, val_main_v28_apply, e27, val_main_v29_apply, val_main_cst_2_apply]
    have e : FloatOps.cmpf (F := Ideal) (φ := .f32) .olt (FloatOps.hostAbsf (F := Ideal) (φ := .f32) (ρ : EReal)) (FloatOps.ofBits .f32 0x7F800000#32) = BitVec.ofBool (decide True) := by
      show BitVec.ofBool (decide (max (ρ : EReal) (-(ρ : EReal)) < Ideal.ofBits .f32 0x7F800000#32)) = _
      refine congrArg BitVec.ofBool (decide_eq_decide.2 (iff_true_intro ?_))
      rw [show Ideal.ofBits .f32 0x7F800000#32 = ⊤ from by simp [Ideal.ofBits, Ideal.ieee], ← EReal.coe_neg, max_lt_iff]
      exact ⟨EReal.coe_lt_top _, EReal.coe_lt_top _⟩
    refine (congrArg (fun z => Scalar.select z _ _) e).trans ?_
    rw [select_of, if_pos trivial]
  have e32 : val_main_v32 (F := Ideal) Q K f (ix4 b h q k) = (ρ : EReal) := by
    rw [val_main_v32_apply, ← e31]
    refine congrArg _ (funext fun a => ?_)
    match a with
    | ⟨0, _⟩ => rfl
    | ⟨1, _⟩ => rfl
    | ⟨2, _⟩ => rfl
    | ⟨3, _⟩ => rfl
  rw [val_main_v34_apply, val_main_v33_apply, e32, score_at hQ hK hf]
  show Ideal.exp ((if k.val ≤ q.val then _ else _ : EReal) - (ρ : EReal)) = _
  split
  · next hk =>
    rw [← EReal.coe_sub, Ideal.exp_coe]
    refine congrArg (fun z : ℝ => ((Real.exp z : ℝ) : EReal)) ?_
    show scoreR Q K f b.val h.val q.val k.val + cell4 f b.val h.val q.val - ρ = _
    ring
  · rw [EReal.bot_sub, Ideal.exp_bot, EReal.coe_zero]

/-- The sum of a row's weights. -/
theorem sum_at (hQ : AllReal Q) (hK : AllReal K) (hf : AllReal f) (b : Fin 4) (h : Fin 16) (q : Fin 4096) (ρ : ℝ)
    (hρ : val_main_v26 (F := Ideal) Q K f (ix3 b h q) = (ρ : EReal)) (z : Fin 1) :
    val_main_v36 (F := Ideal) Q K f (ix4 b h q z)
      = ((wsum (scoreR Q K f b.val h.val q.val) q.val 4096 (ρ - cell4 f b.val h.val q.val) : ℝ) : EReal) := by
  rw [val_main_v36_apply, val_main_v35_apply, val_main_cst_4_apply, wsum, Finset.sum_range, coe_sum]
  show Ideal.ofBits .f32 0x00000000#32 + _ = _
  rw [Ideal.ofBits_zero_f32, zero_add]
  refine Finset.sum_congr rfl fun k _ => ?_
  rw [← weight_at hQ hK hf b h q ρ hρ k]
  refine congrArg _ (funext fun a => ?_)
  match a with
  | ⟨0, _⟩ => rfl
  | ⟨1, _⟩ => rfl
  | ⟨2, _⟩ => rfl
  | ⟨3, _⟩ => rfl

/-- A weight after division by the row's sum, which is positive. -/
theorem share_at (hQ : AllReal Q) (hK : AllReal K) (hf : AllReal f) (b : Fin 4) (h : Fin 16) (q : Fin 4096) (ρ : ℝ)
    (hρ : val_main_v26 (F := Ideal) Q K f (ix3 b h q) = (ρ : EReal)) (k : Fin 4096) :
    val_main_v41 (F := Ideal) Q K f (ix4 b h q k)
      = (((if k.val ≤ q.val then Real.exp (scoreR Q K f b.val h.val q.val k.val - (ρ - cell4 f b.val h.val q.val)) else 0)
          / wsum (scoreR Q K f b.val h.val q.val) q.val 4096 (ρ - cell4 f b.val h.val q.val) : ℝ) : EReal) := by
  have hpos := wsum_pos (scoreR Q K f b.val h.val q.val) q.val 4096 (ρ - cell4 f b.val h.val q.val) q.isLt
  have e39 : val_main_v39 (F := Ideal) Q K f (ix4 b h q 0)
      = ((wsum (scoreR Q K f b.val h.val q.val) q.val 4096 (ρ - cell4 f b.val h.val q.val) : ℝ) : EReal) := by
    rw [val_main_v39_apply, val_main_v38_apply, sum_at hQ hK hf b h q ρ hρ, val_main_v37_apply, val_main_cst_5_apply]
    generalize wsum (scoreR Q K f b.val h.val q.val) q.val 4096 (ρ - cell4 f b.val h.val q.val) = w at hpos
    have e : FloatOps.cmpf (F := Ideal) (φ := .f32) .ogt (w : EReal) (FloatOps.ofBits .f32 0x00000000#32) = BitVec.ofBool (decide True) := by
      show BitVec.ofBool (decide (Ideal.ofBits .f32 0x00000000#32 < (w : EReal))) = _
      refine congrArg BitVec.ofBool (decide_eq_decide.2 (iff_true_intro ?_))
      rw [Ideal.ofBits_zero_f32]
      exact_mod_cast hpos
    refine (congrArg (fun z => Scalar.select z _ _) e).trans ?_
    rw [select_of, if_pos trivial]
  have e40 : val_main_v40 (F := Ideal) Q K f (ix4 b h q k)
      = ((wsum (scoreR Q K f b.val h.val q.val) q.val 4096 (ρ - cell4 f b.val h.val q.val) : ℝ) : EReal) := by
    rw [val_main_v40_apply, ← e39]
    refine congrArg _ (funext fun a => ?_)
    match a with
    | ⟨0, _⟩ => rfl
    | ⟨1, _⟩ => rfl
    | ⟨2, _⟩ => rfl
    | ⟨3, _⟩ => rfl
  rw [val_main_v41_apply, e40, weight_at hQ hK hf b h q ρ hρ k]
  show Ideal.div _ _ = _
  rw [Ideal.div, if_neg (by exact_mod_cast hpos.ne'), ← EReal.coe_inv, ← EReal.coe_mul, ← div_eq_mul_inv]

/-- The attention of a row, lane by lane. -/
theorem mix_at (hQ : AllReal Q) (hK : AllReal K) (hV : AllReal V) (hf : AllReal f) (b : Fin 4) (h : Fin 16) (d : Fin 128) (q : Fin 4096) :
    val_main_v42 (F := Ideal) Q K V f (ix4 b h d q)
      = ((attn (scoreR Q K f b.val h.val q.val) (fun k => valueR V b.val h.val k d) q.val : ℝ) : EReal) := by
  obtain ⟨ρ, hρ⟩ := top_at hQ hK hf (ix3 b h q)
  rw [val_main_v42_apply, ← quotient_eq_attn _ _ q.val 4096 (ρ - cell4 f b.val h.val q.val) q.isLt le_rfl, vsum, Finset.sum_range, Finset.sum_div, coe_sum]
  refine Finset.sum_congr rfl fun k _ => ?_
  have e : ridx_main_v42 (ix4 b h d q) k = ix4 b h q k := funext fun a => by
    match a with
    | ⟨0, _⟩ => rfl
    | ⟨1, _⟩ => rfl
    | ⟨2, _⟩ => rfl
    | ⟨3, _⟩ => rfl
  rw [v_at hV, e, share_at hQ hK hf b h q ρ hρ k, ← EReal.coe_mul]
  refine congrArg _ ?_
  show valueR V b.val h.val k.val d * _ = _
  split
  · rw [mul_div_assoc', mul_comm (valueR V b.val h.val k.val d)]
  · rw [zero_div, mul_zero]

/-- The reference's result. -/
theorem ref_at (hQ : AllReal Q) (hK : AllReal K) (hV : AllReal V) (hf : AllReal f) (i : S16384x2048.Idx) :
    val_main_v45 (F := Ideal) Q K V f i = result Q K V f (i 0).val (i 1).val := by
  have h0 : (i 0).val < 16384 := (i 0).isLt
  have h1 : (i 1).val < 2048 := (i 1).isLt
  rw [val_main_v45_apply, val_main_v44_apply, val_main_v43_apply]
  refine (congrArg (val_main_v42 (F := Ideal) Q K V f) (funext fun a => Fin.ext ?_)).trans
    (mix_at hQ hK hV hf ⟨(i 0).val / 4096, by omega⟩ ⟨(i 1).val / 128, by omega⟩ ⟨(i 1).val % 128, by omega⟩ ⟨(i 0).val % 4096, by omega⟩)
  match a with
  | ⟨0, _⟩ => show ((i 0).val * 2048 + (i 1).val) / 8388608 = (i 0).val / 4096; omega
  | ⟨1, _⟩ => show ((i 0).val * 2048 + (i 1).val) / 128 % 16 = (i 1).val / 128; omega
  | ⟨2, _⟩ => show ((i 0).val * 2048 + (i 1).val) % 128 = (i 1).val % 128; omega
  | ⟨3, _⟩ => show ((i 0).val * 2048 + (i 1).val) / 2048 % 4096 = (i 0).val % 4096; omega

end Cert.ReferenceIdeal.Fox

end
-- ==== Proof.Pre.lean ====
module

public import proofs.«01_k».proof.Defs
public import proofs.«01_k».proof.Proof.Tiles
public import Idealize.ShloMosaic.Lib.ReduceAll

/-!
# What the precondition says

Every entry of every argument lies strictly below infinity in absolute value, so no entry is infinite.
-/

@[expose] public section

noncomputable section

namespace Cert.Pre_finite_inputs

open Idealize.ShloMosaic
open Cert.KernelIdeal.Fox (AllReal Finite)

theorem bits_top : Ideal.ofBits .f32 0x7F800000#32 = ⊤ := by simp [Ideal.ofBits, Ideal.ieee]

instance : Subsingleton S_.Idx := ⟨fun a b => funext fun i => i.elim0⟩

/-- Below infinity in absolute value: neither infinity. -/
theorem real_of_below (x : EReal) (h : BitVec.ofBool (decide (max x (-x) < Ideal.ofBits .f32 0x7F800000#32)) = 1#1) : x ≠ ⊤ ∧ x ≠ ⊥ := by
  rw [bits_top] at h
  have h' : max x (-x) < ⊤ := by
    by_contra hn
    rw [decide_eq_false hn] at h
    exact absurd h (by decide)
  rw [max_lt_iff] at h'
  refine ⟨h'.1.ne, fun hb => ?_⟩
  rw [hb] at h'
  exact absurd h'.2 (by simp)

theorem both_of_and {a b : BitVec 1} (h : IntOp.andi a b = 1#1) : a = 1#1 ∧ b = 1#1 := by revert a b; decide

variable [Facts]
open Facts

/-- The precondition holds of arrays without infinities only. -/
theorem real_of_fn (x0 x1 x2 : FVec Ideal S16384x10240 .bf16) (x3 : FVec Ideal S4x16x1x4096 .f32)
    (h : fn (F := Ideal) x0 x1 x2 x3 = fun _ => 1#1) :
    AllReal (s := S16384x10240) x0 ∧ AllReal (s := S16384x10240) x1 ∧ AllReal (s := S16384x10240) x2 ∧ AllReal (s := S4x16x1x4096) x3 := by
  have e := congrFun h (Shape.Idx.first h_S_)
  obtain ⟨e', e3⟩ := both_of_and e
  obtain ⟨e'', e2⟩ := both_of_and e'
  obtain ⟨e0, e1⟩ := both_of_and e''
  exact ⟨fun j => real_of_below _ (Host.reduce_andi_all _ _ _ _ _ e0 j), fun j => real_of_below _ (Host.reduce_andi_all _ _ _ _ _ e1 j),
    fun j => real_of_below _ (Host.reduce_andi_all _ _ _ _ _ e2 j), fun j => real_of_below _ (Host.reduce_andi_all _ _ _ _ _ e3 j)⟩

end Cert.Pre_finite_inputs

end
-- ==== Proof.Product.lean ====
module

public import Idealize.ShloMosaic.Lib.Pointwise
public import Idealize.ShloMosaic.Lib.Pipeline.ValueKit

/-!
# An entry of a product with one matrix of a stack

The weights of several layers lie below one another in one array. The product of a row with a column of the matrix that
starts at a given row of the array is a sum over the rows of that matrix; every call and every reference below is read as
this sum.
-/

@[expose] public section

noncomputable section

namespace Cert.Product

open Idealize.ShloMosaic

variable {R K S C : ℕ}

/-- Row `r` of `x` times column `c` of the matrix of `K` rows that starts at row `o` of `w`. -/
def entry (x : (⟨2, ![R, K]⟩ : Shape).Idx → EReal) (w : (⟨2, ![S, C]⟩ : Shape).Idx → EReal) (o : ℕ) (h : o + K ≤ S) (r : Fin R) (c : Fin C) : EReal :=
  ∑ k : Fin K, x (ix2 r k) * w (ix2 ⟨o + k.val, by have := k.isLt; omega⟩ c)

/-- A sum of products of entries of `x` along the row and of `w` down the column is the entry. -/
theorem sum_eq_entry {x : (⟨2, ![R, K]⟩ : Shape).Idx → EReal} {w : (⟨2, ![S, C]⟩ : Shape).Idx → EReal} {o : ℕ} (h : o + K ≤ S) {r : Fin R} {c : Fin C}
    {a b : Fin K → EReal} (f : Fin K → (⟨2, ![R, K]⟩ : Shape).Idx) (g : Fin K → (⟨2, ![S, C]⟩ : Shape).Idx)
    (ha : ∀ k, a k = x (f k)) (hb : ∀ k, b k = w (g k))
    (hf : ∀ k, (f k 0).val = r.val ∧ (f k 1).val = k.val) (hg : ∀ k, (g k 0).val = o + k.val ∧ (g k 1).val = c.val) :
    ∑ k : Fin K, a k * b k = entry x w o h r c := by
  refine Finset.sum_congr rfl fun k _ => ?_
  rw [ha, hb]
  refine congrArg₂ (fun p q : EReal => p * q) (congrArg x ?_) (congrArg w ?_) <;> funext i <;> refine Fin.ext ?_
  · fin_cases i
    · exact (hf k).1
    · exact (hf k).2
  · fin_cases i
    · exact (hg k).1
    · exact (hg k).2

/-- The matrices of a stack written below one another. -/
def flat {L : ℕ} (w : (⟨3, ![L, K, C]⟩ : Shape).Idx → EReal) : (⟨2, ![S, C]⟩ : Shape).Idx → EReal := fun i =>
  if h : 0 < K ∧ (i 0).val / K < L then w (ix3 ⟨(i 0).val / K, h.2⟩ ⟨(i 0).val % K, Nat.mod_lt _ h.1⟩ (i 1)) else 0

/-- An entry of the matrices below one another, by the matrix, the row and the column. -/
theorem flat_eq {L : ℕ} (w : (⟨3, ![L, K, C]⟩ : Shape).Idx → EReal) (i : (⟨2, ![S, C]⟩ : Shape).Idx) (j : (⟨3, ![L, K, C]⟩ : Shape).Idx)
    (h : (i 0).val = (j 0).val * K + (j 1).val) (hc : (i 1).val = (j 2).val) : flat w i = w j := by
  have h0 : (j 0).val < L := (j 0).isLt
  have h1 : (j 1).val < K := (j 1).isLt
  have hk : 0 < K := by omega
  have hd : (i 0).val / K = (j 0).val := by
    rw [h, Nat.mul_comm, Nat.mul_add_div hk, Nat.div_eq_of_lt h1, Nat.add_zero]
  have hm : (i 0).val % K = (j 1).val := by
    rw [h, Nat.mul_comm, Nat.mul_add_mod, Nat.mod_eq_of_lt h1]
  unfold flat
  rw [dif_pos ⟨hk, by omega⟩]
  refine congrArg w ?_
  funext a
  refine Fin.ext ?_
  fin_cases a
  · exact hd
  · exact hm
  · exact hc

/-- A sum of products of entries of `x` along the row and of one matrix of the stack down the column is the entry. -/
theorem sum_eq_entry_flat {L : ℕ} {x : (⟨2, ![R, K]⟩ : Shape).Idx → EReal} {w : (⟨3, ![L, K, C]⟩ : Shape).Idx → EReal} {o l : ℕ} (h : o + K ≤ S)
    (hl : o = l * K) {r : Fin R} {c : Fin C} {a b : Fin K → EReal} (f : Fin K → (⟨2, ![R, K]⟩ : Shape).Idx) (g : Fin K → (⟨3, ![L, K, C]⟩ : Shape).Idx)
    (ha : ∀ k, a k = x (f k)) (hb : ∀ k, b k = w (g k)) (hf : ∀ k, (f k 0).val = r.val ∧ (f k 1).val = k.val)
    (hg : ∀ k, (g k 0).val = l ∧ (g k 1).val = k.val ∧ (g k 2).val = c.val) :
    ∑ k : Fin K, a k * b k = entry x (flat w : (⟨2, ![S, C]⟩ : Shape).Idx → EReal) o h r c := by
  refine sum_eq_entry h f (fun k => ix2 ⟨o + k.val, by have := k.isLt; omega⟩ c) ha (fun k => ?_) hf fun k => ⟨rfl, rfl⟩
  refine (hb k).trans (flat_eq w _ (g k) ?_ ?_).symm
  · rw [(hg k).1, (hg k).2.1, ← hl]
    rfl
  · exact (hg k).2.2.symm

end Cert.Product

end
-- ==== Proof.Ffn.lean ====
module

public import proofs.«01_k».proof.Proof.Product
public import proofs.«01_k».proof.Proof.Gen.FfnIdeal.Frame
public import proofs.«01_k».proof.Proof.Gen.FfnReferenceIdeal.Run
public import proofs.«01_k».proof.Proof.Gen.FfnReferenceIdeal.Read

/-!
# The feed-forward block

Three calls narrow the gate, up and down matrices of both layers, each into one array of rows. The fourth call forms tiles of
1024 rows and 256 columns: the product with the gate matrix, times its logistic, times the product with the up matrix. The
fifth forms tiles of 512 rows and 512 columns, each the whole product of its hidden rows and its columns of the down matrix.
-/

@[expose] public section

set_option maxRecDepth 16384
set_option Elab.async false

noncomputable section

namespace Cert.FfnIdeal.Layer

open Cert.FfnIdeal Cert.FfnIdeal.Gen
open Idealize.ShloMosaic
open Idealize.ShloMosaic.TcCoe
open Cert.Product

/-- The gate times its logistic, times the other factor. -/
def gated (a b : EReal) : EReal := a * Ideal.logistic a * b

/-- An entry of a narrowed tile of the gate matrices. -/
theorem cast0_at (w : Vec Ideal S1x256x11008 .f32) (y : S256x11008.Idx) : k0_pay1 w y = w (ix3 0 (y 0) (y 1)) := by
  pointwise [k0_pay1]

/-- An entry of a narrowed tile of the up matrices. -/
theorem cast1_at (w : Vec Ideal S1x256x11008 .f32) (y : S256x11008.Idx) : k1_pay1 w y = w (ix3 0 (y 0) (y 1)) := cast0_at w y

/-- An entry of a narrowed tile of the down matrices. -/
theorem cast2_at (w : Vec Ideal S1x256x4096 .f32) (y : S256x4096.Idx) : k2_pay1 w y = w (ix3 0 (y 0) (y 1)) := by
  pointwise [k2_pay1]

/-- An entry of a tile of the hidden layer. -/
theorem hidden_at (x : Vec Ideal S1024x4096 .bf16) (g u : Vec Ideal S4096x256 .bf16) (y : S1024x256.Idx) :
    k3_pay1 x g u y = gated (∑ k : Fin 4096, x (ix2 (y 0) k) * g (ix2 k (y 1))) (∑ k : Fin 4096, x (ix2 (y 0) k) * u (ix2 k (y 1))) := by
  unfold gated
  pointwise [k3_pay1]

/-- An entry of a tile of the result. -/
theorem down_at (x : Vec Ideal S512x11008 .bf16) (w : Vec Ideal S11008x512 .bf16) (y : S512x512.Idx) :
    k4_pay1 x w y = ∑ k : Fin 11008, x (ix2 (y 0) k) * w (ix2 k (y 1)) := by
  pointwise [k4_pay1]

/-- The hidden layer: the gated product of the rows with the second layer's two matrices. -/
def hidden (x : S16384x4096.Idx → EReal) (g u : S8192x11008.Idx → EReal) : S16384x11008.Idx → EReal := fun i =>
  gated (entry x g 4096 (by norm_num) (i 0) (i 1)) (entry x u 4096 (by norm_num) (i 0) (i 1))

/-- The hidden rows times the second layer's matrix. -/
def down (x : S16384x11008.Idx → EReal) (w : S22016x4096.Idx → EReal) : S16384x4096.Idx → EReal := fun i =>
  entry x w 11008 (by norm_num) (i 0) (i 1)

/-- The result, from the matrices as given. -/
def model (x : S16384x4096.Idx → EReal) (g u : S2x4096x11008.Idx → EReal) (d : S2x11008x4096.Idx → EReal) : S16384x4096.Idx → EReal :=
  down (hidden x (flat g) (flat u)) (flat d)

/-- Which blocks a grid point of the first call takes and leaves. -/
theorem places0 : ∀ t : Fin cfg0.N, win0_0.index t = ![(grid0.coords t 0).val, (grid0.coords t 1).val, 0]
    ∧ win0_1.index t = ![16 * (grid0.coords t 0).val + (grid0.coords t 1).val, 0] :=
  (by decide +kernel : ∀ t : Fin grid0.N, _)

/-- Which blocks a grid point of the second call takes and leaves. -/
theorem places1 : ∀ t : Fin cfg1.N, win1_0.index t = ![(grid1.coords t 0).val, (grid1.coords t 1).val, 0]
    ∧ win1_1.index t = ![16 * (grid1.coords t 0).val + (grid1.coords t 1).val, 0] :=
  (by decide +kernel : ∀ t : Fin grid1.N, _)

/-- Which blocks a grid point of the third call takes and leaves. -/
theorem places2 : ∀ t : Fin cfg2.N, win2_0.index t = ![(grid2.coords t 0).val, (grid2.coords t 1).val, 0]
    ∧ win2_1.index t = ![43 * (grid2.coords t 0).val + (grid2.coords t 1).val, 0] :=
  (by decide +kernel : ∀ t : Fin grid2.N, _)

/-- Which blocks a grid point of the fourth call takes and leaves. -/
theorem places3 : ∀ t : Fin cfg3.N, win3_0.index t = ![(grid3.coords t 0).val, 0] ∧ win3_1.index t = ![1, (grid3.coords t 1).val]
    ∧ win3_2.index t = ![1, (grid3.coords t 1).val] ∧ win3_3.index t = ![(grid3.coords t 0).val, (grid3.coords t 1).val] :=
  (by decide +kernel : ∀ t : Fin grid3.N, _)

/-- Which blocks a grid point of the fifth call takes and leaves. -/
theorem places4 : ∀ t : Fin cfg4.N, win4_0.index t = ![(grid4.coords t 0).val, 0] ∧ win4_1.index t = ![1, (grid4.coords t 1).val]
    ∧ win4_2.index t = ![(grid4.coords t 0).val, (grid4.coords t 1).val] :=
  (by decide +kernel : ∀ t : Fin grid4.N, _)

/-- The blocks left cover the array the first call leaves. -/
theorem covers0 : (cfg0.win 1).Covers := by decide +kernel

/-- The blocks left cover the array the second call leaves. -/
theorem covers1 : (cfg1.win 1).Covers := by decide +kernel

/-- The blocks left cover the array the third call leaves. -/
theorem covers2 : (cfg2.win 1).Covers := by decide +kernel

/-- The blocks left cover the hidden layer. -/
theorem covers3 : (cfg3.win 3).Covers := by decide +kernel

/-- The blocks left cover the result. -/
theorem covers4 : (cfg4.win 2).Covers := by decide +kernel

section Calls

variable (V : (c : Dev nD) → (b : Ref sig .tc) → Buf (Elt Ideal) ((c : Thread nD τ).loc b))

/-- The first call leaves the gate matrices as rows. -/
theorem gate_eq (c : Dev nD) : (dat0 V c).arrAt 1 cfg0.N = flat (V c main_arg1) := by
  refine (dat0 V c).arrAt_eq_of_covers 1 _ covers0 fun t _ y => ?_
  obtain ⟨e0, e1⟩ := places0 t
  blk_simp
  rw [after0_1]
  frame_out
  refine (cast0_at _ y).trans (.trans ?_ (flat_eq (V c main_arg1) _ ((win0_0.blk t).view.emb (ix3 0 (y 0) (y 1))) ?_ ?_).symm)
  · blk_simp [iblk0]
  · blk_simp [e0, e1]
    simp
    omega
  · blk_simp [e0, e1]

/-- The second call leaves the up matrices as rows. -/
theorem up_eq (c : Dev nD) : (dat1 V c).arrAt 1 cfg1.N = flat (V c main_arg2) := by
  refine (dat1 V c).arrAt_eq_of_covers 1 _ covers1 fun t _ y => ?_
  obtain ⟨e0, e1⟩ := places1 t
  blk_simp
  rw [after1_1]
  frame_out
  refine (cast1_at _ y).trans (.trans ?_ (flat_eq (V c main_arg2) _ ((win1_0.blk t).view.emb (ix3 0 (y 0) (y 1))) ?_ ?_).symm)
  · blk_simp [iblk1]
  · blk_simp [e0, e1]
    simp
    omega
  · blk_simp [e0, e1]

/-- The third call leaves the down matrices as rows. -/
theorem down_eq (c : Dev nD) : (dat2 V c).arrAt 1 cfg2.N = flat (V c main_arg3) := by
  refine (dat2 V c).arrAt_eq_of_covers 1 _ covers2 fun t _ y => ?_
  obtain ⟨e0, e1⟩ := places2 t
  blk_simp
  rw [after2_1]
  frame_out
  refine (cast2_at _ y).trans (.trans ?_ (flat_eq (V c main_arg3) _ ((win2_0.blk t).view.emb (ix3 0 (y 0) (y 1))) ?_ ?_).symm)
  · blk_simp [iblk2]
  · blk_simp [e0, e1]
    simp
    omega
  · blk_simp [e0, e1]

/-- The fourth call leaves the hidden layer. -/
theorem hidden_eq (c : Dev nD) : (dat3 V c).arrAt 3 cfg3.N = hidden (V c main_arg0) (V c main_v0) (V c main_v1) := by
  refine (dat3 V c).arrAt_eq_of_covers 3 _ covers3 fun t _ y => ?_
  obtain ⟨e0, e1, e2, e3⟩ := places3 t
  blk_simp
  rw [after3_3]
  frame_out
  refine (hidden_at _ _ _ y).trans (congrArg₂ gated ?_ ?_)
  · refine sum_eq_entry _ (fun k => (win3_0.blk t).view.emb (ix2 (y 0) k)) (fun k => (win3_1.blk t).view.emb (ix2 k (y 1))) (fun k => by blk_simp [iblk3])
      (fun k => by blk_simp [iblk3]) (fun k => ?_) fun k => ?_
    · constructor <;> blk_simp [e0, e3] <;> simp
    · constructor <;> blk_simp [e1, e3] <;> simp
  · refine sum_eq_entry _ (fun k => (win3_0.blk t).view.emb (ix2 (y 0) k)) (fun k => (win3_2.blk t).view.emb (ix2 k (y 1))) (fun k => by blk_simp [iblk3])
      (fun k => by blk_simp [iblk3]) (fun k => ?_) fun k => ?_
    · constructor <;> blk_simp [e0, e3] <;> simp
    · constructor <;> blk_simp [e2, e3] <;> simp

/-- The fifth call leaves the product with the down matrix. -/
theorem product_eq (c : Dev nD) : (dat4 V c).arrAt 2 cfg4.N = down (V c main_v3) (V c main_v2) := by
  refine (dat4 V c).arrAt_eq_of_covers 2 _ covers4 fun t _ y => ?_
  obtain ⟨e0, e1, e2⟩ := places4 t
  blk_simp
  rw [after4_2]
  frame_out
  refine (down_at _ _ y).trans ?_
  refine sum_eq_entry _ (fun k => (win4_0.blk t).view.emb (ix2 (y 0) k)) (fun k => (win4_1.blk t).view.emb (ix2 k (y 1))) (fun k => by blk_simp [iblk4])
    (fun k => by blk_simp [iblk4]) (fun k => ?_) fun k => ?_
  · constructor <;> blk_simp [e0, e2] <;> simp
  · constructor <;> blk_simp [e1, e2] <;> simp

end Calls

/-- The result array ends as the block's result on the matrices as given. -/
theorem arr_eq (m : (ℓ : Loc nD τ sig) → Buf (Elt Ideal) ℓ) (ρ : Dev nD → PrngReg) (c : Dev nD) :
    W5 m ρ c (Proc.devRef .tc main_v4)
      = model (m ((c : Thread nD τ).loc main_arg0)) (m ((c : Thread nD τ).loc main_arg1)) (m ((c : Thread nD τ).loc main_arg2))
        (m ((c : Thread nD τ).loc main_arg3)) := by
  have hx : V3 m ρ c main_arg0 = m ((c : Thread nD τ).loc main_arg0) := W3_args m ρ c main_arg0 (by decide)
  have hg : V3 m ρ c main_v0 = flat (m ((c : Thread nD τ).loc main_arg1)) :=
    (W3_of m ρ c main_v0 (by decide)).trans ((W2_of m ρ c main_v0 (by decide)).trans ((W1_arr m ρ c 1).trans (gate_eq (V0 m ρ) c)))
  have au : V1 m ρ c main_arg2 = m ((c : Thread nD τ).loc main_arg2) := W1_args m ρ c main_arg2 (by decide)
  have hu : V3 m ρ c main_v1 = flat (m ((c : Thread nD τ).loc main_arg2)) :=
    (W3_of m ρ c main_v1 (by decide)).trans ((W2_arr m ρ c 1).trans ((up_eq (V1 m ρ) c).trans (congrArg flat au)))
  have ad : V2 m ρ c main_arg3 = m ((c : Thread nD τ).loc main_arg3) := W2_args m ρ c main_arg3 (by decide)
  have hd : V4 m ρ c main_v2 = flat (m ((c : Thread nD τ).loc main_arg3)) :=
    (W4_of m ρ c main_v2 (by decide)).trans ((W3_arr m ρ c 1).trans ((down_eq (V2 m ρ) c).trans (congrArg flat ad)))
  have hh : V4 m ρ c main_v3 = hidden (m ((c : Thread nD τ).loc main_arg0)) (flat (m ((c : Thread nD τ).loc main_arg1))) (flat (m ((c : Thread nD τ).loc main_arg2))) := by
    refine (W4_arr m ρ c 3).trans ((hidden_eq (V3 m ρ) c).trans ?_)
    rw [hx, hg, hu]
  refine (W5_arr m ρ c 2).trans ((product_eq (V4 m ρ) c).trans ?_)
  rw [hh, hd]
  rfl

section Run

open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.Rounds
open Idealize.ShloMosaic.Pipeline (Dat Cfg Window BodyObligation cellOf)

local notation "𝕄" => MT nD τ sig Unit (Elt Ideal) ℕ (UR sig nD τ) ℕ

set_option backward.isDefEq.respectTransparency.types false in
/-- The calls one after another: every array that outlives them ends as the last call that writes it leaves it. -/
theorem run_arrays (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

end Run
/-- The run ends with the block's result, and with the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v4) = model (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c _ (mem_uc main_v4 (by decide))).trans (arr_eq m ρ c),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c)⟩)
    (run_arrays m ρ)

open Cert.FfnReferenceIdeal.Read

/-- An entry of the first product of the reference. -/
theorem gate_at (x : S16384x4096.Idx → EReal) (g : S2x4096x11008.Idx → EReal) (i : S16384x11008.Idx) :
    val_main_v3 (F := Ideal) x g i = entry x (flat g : S8192x11008.Idx → EReal) 4096 (by norm_num) (i 0) (i 1) := by
  have weight (j : FfnReferenceIdeal.S4096x11008.Idx) : val_main_v2 (F := Ideal) g j = g (idx_main_v1 (idx_main_v2 j)) := by
    rw [val_main_v2_apply, val_main_v1_apply]
  rw [val_main_v3_apply]
  refine sum_eq_entry_flat _ (l := 1) rfl _ _ (fun k => rfl) (fun k => weight _) (fun k => ⟨rfl, rfl⟩) fun k => ?_
  have := k.isLt
  have : (i 1).val < 11008 := (i 1).isLt
  refine ⟨?_, ?_, ?_⟩ <;> dsimp <;> omega

/-- The reference's second product is the first one of the other matrix. -/
theorem up_at (x : S16384x4096.Idx → EReal) (u : S2x4096x11008.Idx → EReal) (i : S16384x11008.Idx) :
    val_main_v7 (F := Ideal) x u i = entry x (flat u : S8192x11008.Idx → EReal) 4096 (by norm_num) (i 0) (i 1) := gate_at x u i

/-- The reference's hidden layer. -/
theorem ref_hidden (x : S16384x4096.Idx → EReal) (g u : S2x4096x11008.Idx → EReal) :
    val_main_v8 (F := Ideal) x g u = hidden x (flat g) (flat u) := by
  funext i
  unfold hidden
  rw [← gate_at, ← up_at]
  simp only [val_main_v8_apply, val_main_v4_apply, val_main_call0_v5_apply, val_main_call0_v4_apply, val_main_call0_v3_apply,
    val_main_call0_v2_apply, val_main_call0_v1_apply, val_main_call0_v0_apply, val_main_call0_cst_apply, val_main_call0_cst_0_apply]
  unfold gated Ideal.logistic
  pointwise

/-- The reference computes the block's result. -/
theorem ref_eq (x : S16384x4096.Idx → EReal) (g u : S2x4096x11008.Idx → EReal) (d : S2x11008x4096.Idx → EReal) :
    val_main_v12 (F := Ideal) x g u d = model x g u d := by
  have weight (j : FfnReferenceIdeal.S11008x4096.Idx) : val_main_v10 (F := Ideal) d j = d (idx_main_v9 (idx_main_v10 j)) := by
    rw [val_main_v10_apply, val_main_v9_apply]
  funext i
  rw [val_main_v12_apply, val_main_v11_apply, ref_hidden]
  refine sum_eq_entry_flat (o := 11008) (S := 22016) (by norm_num) (l := 1) rfl _ _ (fun k => rfl) (fun k => weight _) (fun k => ⟨rfl, rfl⟩) fun k => ?_
  have := k.isLt
  have : (i 1).val < 4096 := (i 1).isLt
  refine ⟨?_, ?_, ?_⟩ <;> dsimp <;> omega

end Cert.FfnIdeal.Layer

end
-- ==== Proof.Columns.lean ====
module

public import Idealize.ShloMosaic.Lib.Pointwise
public import Idealize.ShloMosaic.Lib.Pipeline.ValueKit

/-!
# A tile written as groups of columns

A store of some columns of a tile, each over all its rows, is read at an entry: the stored value in those columns, and what
the earlier stores left in the others.
-/

@[expose] public section

noncomputable section

namespace Cert.Columns

open Idealize.ShloMosaic

variable {R C n o : ℕ} {e : EltTy} {Val : EltTy → Type} [∀ e, Nonempty (Val e)]

/-- In the columns of the last store the tile holds what it stored. -/
theorem inside {inb : ∀ a, ![0, o] a + ![R, n] a ≤ (⟨2, ![R, C]⟩ : Shape).size a} (w : (⟨2, ![R, n]⟩ : Shape).Idx → Val e)
    (L : List (View.Piece Val ⟨2, ![R, C]⟩ e)) (y : (⟨2, ![R, C]⟩ : Shape).Idx) (h : o ≤ (y 1).val ∧ (y 1).val < o + n) :
    View.canon (⟨Rect.unit (s := ⟨2, ![R, C]⟩) ![0, o] ![R, n] inb, w⟩ :: L) y = w (ix2 (y 0) ⟨(y 1).val - o, by omega⟩) := by
  have hy : y = (Rect.unit (s := ⟨2, ![R, C]⟩) ![0, o] ![R, n] inb).emb (ix2 (y 0) ⟨(y 1).val - o, by omega⟩) := by
    funext a
    refine Fin.ext ?_
    rw [Rect.emb_apply]
    fin_cases a
    · show (y 0).val = 0 + 1 * (y 0).val
      omega
    · show (y 1).val = o + 1 * ((y 1).val - o)
      omega
  conv_lhs => rw [hy]
  exact View.canon_cons_emb _ _ _ _

/-- In the other columns it holds what the earlier stores left. -/
theorem outside {inb : ∀ a, ![0, o] a + ![R, n] a ≤ (⟨2, ![R, C]⟩ : Shape).size a} (w : (⟨2, ![R, n]⟩ : Shape).Idx → Val e)
    (L : List (View.Piece Val ⟨2, ![R, C]⟩ e)) (y : (⟨2, ![R, C]⟩ : Shape).Idx) (h : ¬ (o ≤ (y 1).val ∧ (y 1).val < o + n)) :
    View.canon (⟨Rect.unit (s := ⟨2, ![R, C]⟩) ![0, o] ![R, n] inb, w⟩ :: L) y = View.canon L y :=
  View.canon_cons_of_not_mem _ _ fun hm => h ((Rect.mem_set_unit (inb := inb)).mp hm 1)

end Cert.Columns

end
-- ==== Proof.PackEven.lean ====
module

public import proofs.«01_k».proof.Proof.Columns
public import proofs.«01_k».proof.Proof.Product
public import proofs.«01_k».proof.Proof.Gen.PackEvenIdeal.Value
public import proofs.«01_k».proof.Proof.Gen.PackEvenReferenceIdeal.Run
public import proofs.«01_k».proof.Proof.Gen.PackEvenReferenceIdeal.Read

/-!
# The packing of the input weights of the even layers

Tiles of 256 rows of one layer's matrix: the columns of the wide parts first, then the 48 and the 32 columns of the gates, then 48 columns of zeros.
-/

@[expose] public section

set_option maxRecDepth 16384
set_option Elab.async false

noncomputable section

namespace Cert.PackEvenIdeal.Layer

open Cert.PackEvenIdeal Cert.PackEvenIdeal.Gen
open Idealize.ShloMosaic
open Idealize.ShloMosaic.TcCoe
open Cert.Product

/-- What a packed column of a row takes from the row. -/
def pick (f : Fin 11344 → EReal) (c : ℕ) : EReal :=
  if h : c < 5120 then f ⟨c, by omega⟩
  else if h : c < 11264 then f ⟨c + 48, by omega⟩
  else if h : c < 11312 then f ⟨c - 6144, by omega⟩
  else if h : c < 11344 then f ⟨c, by omega⟩
  else 0

/-- A packed column that takes column `k`. -/
theorem pick_eq (f : Fin 11344 → EReal) {c : ℕ} {k : Fin 11344} (h : c < 5120 ∧ k.val = c ∨ 5120 ≤ c ∧ c < 11264 ∧ k.val = c + 48 ∨
    11264 ≤ c ∧ c < 11312 ∧ k.val = c - 6144 ∨ 11312 ≤ c ∧ c < 11344 ∧ k.val = c) :
    pick f c = f k := by
  unfold pick
  split_ifs <;> first | exact congrArg f (Fin.ext (by dsimp only; omega)) | omega

/-- A packed column past all of them. -/
theorem pick_zero (f : Fin 11344 → EReal) {c : ℕ} (h : 11344 ≤ c) : pick f c = 0 := by
  unfold pick
  split_ifs <;> first | rfl | omega

/-- The matrices with their columns in the packed order. -/
def packed (w : S2x4096x11344.Idx → EReal) : (⟨3, ![2, 4096, 11392]⟩ : Shape).Idx → EReal := fun j =>
  pick (fun k => w (ix3 (j 0) (j 1) k)) (j 2).val

/-- The result: the packed matrices below one another. -/
def model (w : S2x4096x11344.Idx → EReal) : S8192x11392.Idx → EReal := flat (packed w)

/-- The tile a grid point leaves. -/
theorem tile_eq (c : Dev nD) (t : Fin cfg0.N) (x : Vec Ideal S1x256x11344 .f32) (y : S256x11392.Idx) :
    out0_A_1 (F := Ideal) c (grid0.coords t) (ms0_0 t) (hs0_0 t) (ms0_1 t) (hs0_1 t) x y = pick (fun k => x (ix3 0 (y 0) k)) (y 1).val := by
  have hy : (y 1).val < 11392 := (y 1).isLt
  unfold out0_A_1
  frame_out
  rcases Nat.lt_or_ge (y 1).val 11344 with h | h
  · rcases Nat.lt_or_ge (y 1).val 11312 with h3 | h3
    · rcases Nat.lt_or_ge (y 1).val 11264 with h2 | h2
      · rcases Nat.lt_or_ge (y 1).val 5120 with h1 | h1
        · rw [Columns.outside _ _ _ (by omega), Columns.outside _ _ _ (by omega), Columns.outside _ _ _ (by omega), Columns.inside _ _ _ (by omega)]
          refine .trans ?_ (pick_eq _ (k := ⟨(y 1).val, by omega⟩) (by dsimp only; omega)).symm
          pointwise [k0_pay2]
        · rw [Columns.outside _ _ _ (by omega), Columns.outside _ _ _ (by omega), Columns.inside _ _ _ (by omega)]
          refine .trans ?_ (pick_eq _ (k := ⟨5168 + ((y 1).val - 5120), by omega⟩) (by dsimp only; omega)).symm
          pointwise [k0_pay3]
      · rw [Columns.outside _ _ _ (by omega), Columns.inside _ _ _ (by omega)]
        refine .trans ?_ (pick_eq _ (k := ⟨5120 + ((y 1).val - 11264), by omega⟩) (by dsimp only; omega)).symm
        pointwise [k0_pay4]
    · rw [Columns.inside _ _ _ (by omega)]
      refine .trans ?_ (pick_eq _ (k := ⟨11312 + ((y 1).val - 11312), by omega⟩) (by dsimp only; omega)).symm
      pointwise [k0_pay5]
  · rw [Columns.outside _ _ _ (by omega), Columns.outside _ _ _ (by omega), Columns.outside _ _ _ (by omega), Columns.outside _ _ _ (by omega),
      Columns.inside _ _ _ (by omega)]
    refine .trans ?_ (pick_zero _ (by omega)).symm
    pointwise [k0_pay1]

/-- Which blocks a grid point takes and leaves. -/
theorem places : ∀ t : Fin cfg0.N, win0_0.index t = ![(grid0.coords t 0).val, (grid0.coords t 1).val, 0]
    ∧ win0_1.index t = ![16 * (grid0.coords t 0).val + (grid0.coords t 1).val, 0] :=
  (by decide +kernel : ∀ t : Fin grid0.N, _)

/-- The blocks left cover the result. -/
theorem covers : (cfg0.win 1).Covers := by decide +kernel

/-- The result array ends as the packed matrices. -/
theorem arr_eq (m : (ℓ : Loc nD τ sig) → Buf (Elt Ideal) ℓ) (c : Dev nD) :
    (dats m 0 c).arrAt 1 cfg0.N = model (m ((c : Thread nD τ).loc main_arg0)) := by
  refine (dats m 0 c).arrAt_eq_of_covers 1 _ covers fun t _ y => ?_
  obtain ⟨e0, e1⟩ := places t
  blk_simp
  rw [after0_1]
  unfold outsAt0
  rw [tile_eq]
  let j := (win0_0.blk t).view.emb (ix3 0 (y 0) 0)
  refine .trans ?_ (flat_eq (packed (m ((c : Thread nD τ).loc main_arg0))) _ (ix3 (j 0) (j 1) (y 1)) ?_ ?_).symm
  · refine congrArg (fun f => pick f (y 1).val) (funext fun k => ?_)
    blk_simp [iblk]
    refine congrArg (V m c main_arg0) (funext fun a => Fin.ext ?_)
    fin_cases a
    · rfl
    · rfl
    · blk_simp [e0]
      rfl
  · blk_simp [j, e0, e1]
    simp
    omega
  · blk_simp [j, e0, e1]

open Cert.PackEvenReferenceIdeal.Read in
/-- The reference's columns. -/
theorem ref_columns (w : S2x4096x11344.Idx → EReal) : val_main_v5 (F := Ideal) w = packed w := by
  funext j
  have hj : (j 2).val < 11392 := (j 2).isLt
  have at_ (i : S2x4096x11344.Idx) (h0 : (i 0).val = (j 0).val) (h1 : (i 1).val = (j 1).val) (h2 : _) : w i = packed w j :=
    (congrArg w (funext fun a => Fin.ext (by fin_cases a; exacts [h0, h1, rfl]))).trans
      (pick_eq (fun k => w (ix3 (j 0) (j 1) k)) (k := i 2) h2).symm
  unfold val_main_v5
  pointwise
  split_ifs <;> try omega
  · rw [val_main_v1_apply]
    refine at_ _ rfl rfl ?_
    dsimp
    omega
  · rw [val_main_v2_apply]
    refine at_ _ rfl rfl ?_
    dsimp
    omega
  · rw [val_main_v3_apply]
    refine at_ _ rfl rfl ?_
    dsimp
    omega
  · rw [val_main_v4_apply]
    refine at_ _ rfl rfl ?_
    dsimp
    omega
  · refine .trans ?_ (pick_zero _ (by omega)).symm
    refine (val_main_v0_apply _).trans ((val_main_cst_apply _).trans ?_)
    pointwise

open Cert.PackEvenReferenceIdeal.Read in
/-- The reference packs the matrices alike. -/
theorem ref_eq (w : S2x4096x11344.Idx → EReal) : val_main_v7 (F := Ideal) w = model w := by
  funext i
  rw [val_main_v7_apply, val_main_v6_apply, ref_columns]
  refine (flat_eq (packed w) i _ ?_ ?_).symm
  · dsimp [idx_main_v6]
    omega
  · dsimp [idx_main_v6]
    omega

end Cert.PackEvenIdeal.Layer

end
-- ==== Proof.PackOdd.lean ====
module

public import proofs.«01_k».proof.Proof.Columns
public import proofs.«01_k».proof.Proof.Product
public import proofs.«01_k».proof.Proof.Gen.PackOddIdeal.Value
public import proofs.«01_k».proof.Proof.Gen.PackOddReferenceIdeal.Run
public import proofs.«01_k».proof.Proof.Gen.PackOddReferenceIdeal.Read

/-!
# The packing of the input weights of the odd layers

Tiles of 256 rows of one layer's matrix: the columns of the wide parts first, then the 16 columns of the gates, then 112 columns of zeros.
-/

@[expose] public section

set_option maxRecDepth 16384
set_option Elab.async false

noncomputable section

namespace Cert.PackOddIdeal.Layer

open Cert.PackOddIdeal Cert.PackOddIdeal.Gen
open Idealize.ShloMosaic
open Idealize.ShloMosaic.TcCoe
open Cert.Product

/-- What a packed column of a row takes from the row. -/
def pick (f : Fin 10256 → EReal) (c : ℕ) : EReal :=
  if h : c < 6144 then f ⟨c, by omega⟩
  else if h : c < 10240 then f ⟨c + 16, by omega⟩
  else if h : c < 10256 then f ⟨c - 4096, by omega⟩
  else 0

/-- A packed column that takes column `k`. -/
theorem pick_eq (f : Fin 10256 → EReal) {c : ℕ} {k : Fin 10256} (h : c < 6144 ∧ k.val = c ∨ 6144 ≤ c ∧ c < 10240 ∧ k.val = c + 16 ∨
    10240 ≤ c ∧ c < 10256 ∧ k.val = c - 4096) :
    pick f c = f k := by
  unfold pick
  split_ifs <;> first | exact congrArg f (Fin.ext (by dsimp only; omega)) | omega

/-- A packed column past all of them. -/
theorem pick_zero (f : Fin 10256 → EReal) {c : ℕ} (h : 10256 ≤ c) : pick f c = 0 := by
  unfold pick
  split_ifs <;> first | rfl | omega

/-- The matrices with their columns in the packed order. -/
def packed (w : S2x4096x10256.Idx → EReal) : (⟨3, ![2, 4096, 10368]⟩ : Shape).Idx → EReal := fun j =>
  pick (fun k => w (ix3 (j 0) (j 1) k)) (j 2).val

/-- The result: the packed matrices below one another. -/
def model (w : S2x4096x10256.Idx → EReal) : S8192x10368.Idx → EReal := flat (packed w)

/-- The tile a grid point leaves. -/
theorem tile_eq (c : Dev nD) (t : Fin cfg0.N) (x : Vec Ideal S1x256x10256 .f32) (y : S256x10368.Idx) :
    out0_A_1 (F := Ideal) c (grid0.coords t) (ms0_0 t) (hs0_0 t) (ms0_1 t) (hs0_1 t) x y = pick (fun k => x (ix3 0 (y 0) k)) (y 1).val := by
  have hy : (y 1).val < 10368 := (y 1).isLt
  unfold out0_A_1
  frame_out
  rcases Nat.lt_or_ge (y 1).val 10256 with h | h
  · rcases Nat.lt_or_ge (y 1).val 10240 with h2 | h2
    · rcases Nat.lt_or_ge (y 1).val 6144 with h1 | h1
      · rw [Columns.outside _ _ _ (by omega), Columns.outside _ _ _ (by omega), Columns.inside _ _ _ (by omega)]
        refine .trans ?_ (pick_eq _ (k := ⟨(y 1).val, by omega⟩) (by dsimp only; omega)).symm
        pointwise [k0_pay2]
      · rw [Columns.outside _ _ _ (by omega), Columns.inside _ _ _ (by omega)]
        refine .trans ?_ (pick_eq _ (k := ⟨6160 + ((y 1).val - 6144), by omega⟩) (by dsimp only; omega)).symm
        pointwise [k0_pay3]
    · rw [Columns.inside _ _ _ (by omega)]
      refine .trans ?_ (pick_eq _ (k := ⟨6144 + ((y 1).val - 10240), by omega⟩) (by dsimp only; omega)).symm
      pointwise [k0_pay4]
  · rw [Columns.outside _ _ _ (by omega), Columns.outside _ _ _ (by omega), Columns.outside _ _ _ (by omega), Columns.inside _ _ _ (by omega)]
    refine .trans ?_ (pick_zero _ (by omega)).symm
    pointwise [k0_pay1]

/-- Which blocks a grid point takes and leaves. -/
theorem places : ∀ t : Fin cfg0.N, win0_0.index t = ![(grid0.coords t 0).val, (grid0.coords t 1).val, 0]
    ∧ win0_1.index t = ![16 * (grid0.coords t 0).val + (grid0.coords t 1).val, 0] :=
  (by decide +kernel : ∀ t : Fin grid0.N, _)

/-- The blocks left cover the result. -/
theorem covers : (cfg0.win 1).Covers := by decide +kernel

/-- The result array ends as the packed matrices. -/
theorem arr_eq (m : (ℓ : Loc nD τ sig) → Buf (Elt Ideal) ℓ) (c : Dev nD) :
    (dats m 0 c).arrAt 1 cfg0.N = model (m ((c : Thread nD τ).loc main_arg0)) := by
  refine (dats m 0 c).arrAt_eq_of_covers 1 _ covers fun t _ y => ?_
  obtain ⟨e0, e1⟩ := places t
  blk_simp
  rw [after0_1]
  unfold outsAt0
  rw [tile_eq]
  let j := (win0_0.blk t).view.emb (ix3 0 (y 0) 0)
  refine .trans ?_ (flat_eq (packed (m ((c : Thread nD τ).loc main_arg0))) _ (ix3 (j 0) (j 1) (y 1)) ?_ ?_).symm
  · refine congrArg (fun f => pick f (y 1).val) (funext fun k => ?_)
    blk_simp [iblk]
    refine congrArg (V m c main_arg0) (funext fun a => Fin.ext ?_)
    fin_cases a
    · rfl
    · rfl
    · blk_simp [e0]
      rfl
  · blk_simp [j, e0, e1]
    simp
    omega
  · blk_simp [j, e0, e1]

open Cert.PackOddReferenceIdeal.Read in
/-- The reference's columns. -/
theorem ref_columns (w : S2x4096x10256.Idx → EReal) : val_main_v4 (F := Ideal) w = packed w := by
  funext j
  have hj : (j 2).val < 10368 := (j 2).isLt
  have at_ (i : S2x4096x10256.Idx) (h0 : (i 0).val = (j 0).val) (h1 : (i 1).val = (j 1).val) (h2 : _) : w i = packed w j :=
    (congrArg w (funext fun a => Fin.ext (by fin_cases a; exacts [h0, h1, rfl]))).trans
      (pick_eq (fun k => w (ix3 (j 0) (j 1) k)) (k := i 2) h2).symm
  unfold val_main_v4
  pointwise
  split_ifs <;> try omega
  · rw [val_main_v1_apply]
    refine at_ _ rfl rfl ?_
    dsimp
    omega
  · rw [val_main_v2_apply]
    refine at_ _ rfl rfl ?_
    dsimp
    omega
  · rw [val_main_v3_apply]
    refine at_ _ rfl rfl ?_
    dsimp
    omega
  · refine .trans ?_ (pick_zero _ (by omega)).symm
    refine (val_main_v0_apply _).trans ((val_main_cst_apply _).trans ?_)
    pointwise

open Cert.PackOddReferenceIdeal.Read in
/-- The reference packs the matrices alike. -/
theorem ref_eq (w : S2x4096x10256.Idx → EReal) : val_main_v6 (F := Ideal) w = model w := by
  funext i
  rw [val_main_v6_apply, val_main_v5_apply, ref_columns]
  refine (flat_eq (packed w) i _ ?_ ?_).symm
  · dsimp [idx_main_v5]
    omega
  · dsimp [idx_main_v5]
    omega

end Cert.PackOddIdeal.Layer

end
-- ==== Proof.InEven.lean ====
module

public import proofs.«01_k».proof.Proof.Product
public import proofs.«01_k».proof.Proof.Gen.InEvenIdeal.Value
public import proofs.«01_k».proof.Proof.Gen.InEvenReferenceIdeal.Run
public import proofs.«01_k».proof.Proof.Gen.InEvenReferenceIdeal.Read

/-!
# The input projection of the even layers

Tiles of 512 rows and 1024 columns, each the whole product of its rows and columns.
-/

@[expose] public section

set_option maxRecDepth 16384
set_option Elab.async false

noncomputable section

namespace Cert.InEvenIdeal.Layer

open Cert.InEvenIdeal Cert.InEvenIdeal.Gen
open Idealize.ShloMosaic
open Idealize.ShloMosaic.TcCoe
open Cert.Product

/-- An entry of a tile. -/
theorem pay_at (x : Vec Ideal S512x4096 .bf16) (w : Vec Ideal S4096x1024 .bf16) (y : S512x1024.Idx) :
    k0_pay1 x w y = ∑ k : Fin 4096, x (ix2 (y 0) k) * w (ix2 k (y 1)) := by
  pointwise [k0_pay1]

/-- The tile a grid point leaves. -/
theorem tile_eq (c : Dev nD) (t : Fin cfg0.N) (x : Vec Ideal S512x4096 .bf16) (w : Vec Ideal S4096x1024 .bf16) :
    out0_A_2 (F := Ideal) c (grid0.coords t) (ms0_0 t) (hs0_0 t) (ms0_1 t) (hs0_1 t) (ms0_2 t) (hs0_2 t) x w = k0_pay1 x w := by
  unfold out0_A_2
  frame_out

/-- The result: the rows times the second layer's matrix. -/
def model (x : S16384x4096.Idx → EReal) (w : S8192x11392.Idx → EReal) : S16384x11264.Idx → EReal := fun i =>
  entry x w 4096 (by norm_num) (i 0) ⟨(i 1).val, by have : (i 1).val < 11264 := (i 1).isLt; omega⟩

/-- Which blocks a grid point takes and leaves. -/
theorem places : ∀ t : Fin cfg0.N, win0_0.index t = ![(grid0.coords t 1).val, 0] ∧ win0_1.index t = ![1, (grid0.coords t 0).val]
    ∧ win0_2.index t = ![(grid0.coords t 1).val, (grid0.coords t 0).val] :=
  (by decide +kernel : ∀ t : Fin grid0.N, _)

/-- The blocks left cover the result. -/
theorem covers : (cfg0.win 2).Covers := by decide +kernel

/-- A row and a column of the block of weights taken at a grid point. -/
def spot (t : Fin cfg0.N) (k : Fin 4096) (j : Fin 1024) : (win0_1.xblock (grid0.coords t)).Idx := fun a =>
  ⟨(ix2 k j a).val, ((cfg0.win 1).moved_iff _ _).mp (moved0_1 t (ix2 k j)) a⟩

/-- The weights a grid point works on are its block: no block reaches past the array. -/
theorem weights_at (m : (ℓ : Loc nD τ sig) → Buf (Elt Ideal) ℓ) (c : Dev nD) (t : Fin cfg0.N) (k : Fin 4096) (j : Fin 1024) :
    X0_1 m c t (ix2 k j) = iblk m c 1 t (spot t k j) := by
  unfold X0_1 Pipeline.Window.fill
  rw [dif_pos (moved0_1 t (ix2 k j))]
  rfl

/-- The result array ends as the product. -/
theorem arr_eq (m : (ℓ : Loc nD τ sig) → Buf (Elt Ideal) ℓ) (c : Dev nD) :
    (dats m 0 c).arrAt 2 cfg0.N = model (m ((c : Thread nD τ).loc main_arg0)) (m ((c : Thread nD τ).loc main_arg1)) := by
  refine (dats m 0 c).arrAt_eq_of_covers 2 _ covers fun t _ y => ?_
  obtain ⟨e0, e1, e2⟩ := places t
  blk_simp
  rw [after0_2]
  unfold outsAt0
  rw [tile_eq]
  refine (pay_at _ _ y).trans ?_
  refine sum_eq_entry _ (fun k => (win0_0.blk t).view.emb (ix2 (y 0) k)) (fun k => (win0_1.blk t).view.emb (spot t k (y 1))) (fun k => by blk_simp [iblk])
    (fun k => by refine (weights_at m c t k (y 1)).trans ?_; blk_simp [iblk]) (fun k => ?_) fun k => ?_
  · constructor <;> blk_simp [e0, e2] <;> simp
  · constructor <;> blk_simp [e1, e2] <;> simp [spot]

open Cert.InEvenReferenceIdeal.Read in
/-- An entry of the matrix as the reference cuts it out. -/
theorem weight_at (w : S8192x11392.Idx → EReal) (j : InEvenReferenceIdeal.S4096x11264.Idx) :
    val_main_v3 (F := Ideal) w j = w (idx_main_v0 (idx_main_v1 (idx_main_v2 j))) := by
  rw [val_main_v3_apply, val_main_v2_apply, val_main_v1_apply, val_main_v0_apply]
  rfl

open Cert.InEvenReferenceIdeal.Read in
/-- The reference computes the product. -/
theorem ref_eq (x : S16384x4096.Idx → EReal) (w : S8192x11392.Idx → EReal) : val_main_v6 (F := Ideal) x w = model x w := by
  funext i
  rw [val_main_v6_apply, val_main_v5_apply]
  refine sum_eq_entry _ _ _ (fun k => rfl) (fun k => weight_at w _) (fun k => ⟨rfl, rfl⟩) fun k => ?_
  have := k.isLt
  have : (i 1).val < 11264 := (i 1).isLt
  constructor <;> dsimp <;> omega

end Cert.InEvenIdeal.Layer

end
-- ==== Proof.InOdd.lean ====
module

public import proofs.«01_k».proof.Proof.Product
public import proofs.«01_k».proof.Proof.Gen.InOddIdeal.Value
public import proofs.«01_k».proof.Proof.Gen.InOddReferenceIdeal.Run
public import proofs.«01_k».proof.Proof.Gen.InOddReferenceIdeal.Read

/-!
# The input projection of the odd layers

Tiles of 512 rows and 1024 columns, each the whole product of its rows and columns.
-/

@[expose] public section

set_option maxRecDepth 16384
set_option Elab.async false

noncomputable section

namespace Cert.InOddIdeal.Layer

open Cert.InOddIdeal Cert.InOddIdeal.Gen
open Idealize.ShloMosaic
open Idealize.ShloMosaic.TcCoe
open Cert.Product

/-- An entry of a tile. -/
theorem pay_at (x : Vec Ideal S512x4096 .bf16) (w : Vec Ideal S4096x1024 .bf16) (y : S512x1024.Idx) :
    k0_pay1 x w y = ∑ k : Fin 4096, x (ix2 (y 0) k) * w (ix2 k (y 1)) := by
  pointwise [k0_pay1]

/-- The tile a grid point leaves. -/
theorem tile_eq (c : Dev nD) (t : Fin cfg0.N) (x : Vec Ideal S512x4096 .bf16) (w : Vec Ideal S4096x1024 .bf16) :
    out0_A_2 (F := Ideal) c (grid0.coords t) (ms0_0 t) (hs0_0 t) (ms0_1 t) (hs0_1 t) (ms0_2 t) (hs0_2 t) x w = k0_pay1 x w := by
  unfold out0_A_2
  frame_out

/-- The result: the rows times the second layer's matrix. -/
def model (x : S16384x4096.Idx → EReal) (w : S8192x10368.Idx → EReal) : S16384x10240.Idx → EReal := fun i =>
  entry x w 4096 (by norm_num) (i 0) ⟨(i 1).val, by have : (i 1).val < 10240 := (i 1).isLt; omega⟩

/-- Which blocks a grid point takes and leaves. -/
theorem places : ∀ t : Fin cfg0.N, win0_0.index t = ![(grid0.coords t 1).val, 0] ∧ win0_1.index t = ![1, (grid0.coords t 0).val]
    ∧ win0_2.index t = ![(grid0.coords t 1).val, (grid0.coords t 0).val] :=
  (by decide +kernel : ∀ t : Fin grid0.N, _)

/-- The blocks left cover the result. -/
theorem covers : (cfg0.win 2).Covers := by decide +kernel

/-- A row and a column of the block of weights taken at a grid point. -/
def spot (t : Fin cfg0.N) (k : Fin 4096) (j : Fin 1024) : (win0_1.xblock (grid0.coords t)).Idx := fun a =>
  ⟨(ix2 k j a).val, ((cfg0.win 1).moved_iff _ _).mp (moved0_1 t (ix2 k j)) a⟩

/-- The weights a grid point works on are its block: no block reaches past the array. -/
theorem weights_at (m : (ℓ : Loc nD τ sig) → Buf (Elt Ideal) ℓ) (c : Dev nD) (t : Fin cfg0.N) (k : Fin 4096) (j : Fin 1024) :
    X0_1 m c t (ix2 k j) = iblk m c 1 t (spot t k j) := by
  unfold X0_1 Pipeline.Window.fill
  rw [dif_pos (moved0_1 t (ix2 k j))]
  rfl

/-- The result array ends as the product. -/
theorem arr_eq (m : (ℓ : Loc nD τ sig) → Buf (Elt Ideal) ℓ) (c : Dev nD) :
    (dats m 0 c).arrAt 2 cfg0.N = model (m ((c : Thread nD τ).loc main_arg0)) (m ((c : Thread nD τ).loc main_arg1)) := by
  refine (dats m 0 c).arrAt_eq_of_covers 2 _ covers fun t _ y => ?_
  obtain ⟨e0, e1, e2⟩ := places t
  blk_simp
  rw [after0_2]
  unfold outsAt0
  rw [tile_eq]
  refine (pay_at _ _ y).trans ?_
  refine sum_eq_entry _ (fun k => (win0_0.blk t).view.emb (ix2 (y 0) k)) (fun k => (win0_1.blk t).view.emb (spot t k (y 1))) (fun k => by blk_simp [iblk])
    (fun k => by refine (weights_at m c t k (y 1)).trans ?_; blk_simp [iblk]) (fun k => ?_) fun k => ?_
  · constructor <;> blk_simp [e0, e2] <;> simp
  · constructor <;> blk_simp [e1, e2] <;> simp [spot]

open Cert.InOddReferenceIdeal.Read in
/-- An entry of the matrix as the reference cuts it out. -/
theorem weight_at (w : S8192x10368.Idx → EReal) (j : InOddReferenceIdeal.S4096x10240.Idx) :
    val_main_v3 (F := Ideal) w j = w (idx_main_v0 (idx_main_v1 (idx_main_v2 j))) := by
  rw [val_main_v3_apply, val_main_v2_apply, val_main_v1_apply, val_main_v0_apply]
  rfl

open Cert.InOddReferenceIdeal.Read in
/-- The reference computes the product. -/
theorem ref_eq (x : S16384x4096.Idx → EReal) (w : S8192x10368.Idx → EReal) : val_main_v6 (F := Ideal) x w = model x w := by
  funext i
  rw [val_main_v6_apply, val_main_v5_apply]
  refine sum_eq_entry _ _ _ (fun k => rfl) (fun k => weight_at w _) (fun k => ⟨rfl, rfl⟩) fun k => ?_
  have := k.isLt
  have : (i 1).val < 10240 := (i 1).isLt
  constructor <;> dsimp <;> omega

end Cert.InOddIdeal.Layer

end
-- ==== Proof.SmallEven.lean ====
module

public import proofs.«01_k».proof.Proof.Product
public import proofs.«01_k».proof.Proof.Gen.SmallEvenIdeal.Value
public import proofs.«01_k».proof.Proof.Gen.SmallEvenReferenceIdeal.Run
public import proofs.«01_k».proof.Proof.Gen.SmallEvenReferenceIdeal.Read

/-!
# The gate columns of the input projection of the even layers

Tiles of 512 rows and the 128 last columns, each the whole product of its rows and columns.
-/

@[expose] public section

set_option maxRecDepth 16384
set_option Elab.async false

noncomputable section

namespace Cert.SmallEvenIdeal.Layer

open Cert.SmallEvenIdeal Cert.SmallEvenIdeal.Gen
open Idealize.ShloMosaic
open Idealize.ShloMosaic.TcCoe
open Cert.Product

/-- An entry of a tile. -/
theorem pay_at (x : Vec Ideal S512x4096 .bf16) (w : Vec Ideal S4096x128 .bf16) (y : S512x128.Idx) :
    k0_pay1 x w y = ∑ k : Fin 4096, x (ix2 (y 0) k) * w (ix2 k (y 1)) := by
  pointwise [k0_pay1]

/-- The column of the packed matrix that a column of the result takes. -/
def column (c : Fin 128) : Fin 11392 := ⟨11264 + c.val, by omega⟩

/-- The result: the rows times the last 128 columns of the second layer's matrix. -/
def model (x : S16384x4096.Idx → EReal) (w : S8192x11392.Idx → EReal) : S16384x128.Idx → EReal := fun i =>
  entry x w 4096 (by norm_num) (i 0) (column (i 1))

/-- Which blocks a grid point takes and leaves. -/
theorem places : ∀ t : Fin cfg0.N, win0_0.index t = ![(grid0.coords t 1).val, 0] ∧ win0_1.index t = ![1, 88 + (grid0.coords t 0).val]
    ∧ win0_2.index t = ![(grid0.coords t 1).val, (grid0.coords t 0).val] :=
  (by decide +kernel : ∀ t : Fin grid0.N, _)

/-- The blocks left cover the result. -/
theorem covers : (cfg0.win 2).Covers := by decide +kernel

/-- The result array ends as the product. -/
theorem arr_eq (m : (ℓ : Loc nD τ sig) → Buf (Elt Ideal) ℓ) (c : Dev nD) :
    (dats m 0 c).arrAt 2 cfg0.N = model (m ((c : Thread nD τ).loc main_arg0)) (m ((c : Thread nD τ).loc main_arg1)) := by
  refine (dats m 0 c).arrAt_eq_of_covers 2 _ covers fun t _ y => ?_
  obtain ⟨e0, e1, e2⟩ := places t
  blk_simp
  rw [after0_2]
  frame_out
  refine (pay_at _ _ y).trans ?_
  refine sum_eq_entry _ (fun k => (win0_0.blk t).view.emb (ix2 (y 0) k)) (fun k => (win0_1.blk t).view.emb (ix2 k (y 1))) (fun k => by blk_simp [iblk])
    (fun k => by blk_simp [iblk]) (fun k => ?_) fun k => ?_
  · constructor <;> blk_simp [e0, e2] <;> simp
  · constructor <;> blk_simp [e1, e2, column] <;> simp <;> omega

open Cert.SmallEvenReferenceIdeal.Read in
/-- An entry of the matrix as the reference cuts it out. -/
theorem weight_at (w : S8192x11392.Idx → EReal) (j : SmallEvenReferenceIdeal.S4096x128.Idx) :
    val_main_v3 (F := Ideal) w j = w (idx_main_v0 (idx_main_v1 (idx_main_v2 j))) := by
  rw [val_main_v3_apply, val_main_v2_apply, val_main_v1_apply, val_main_v0_apply]
  rfl

open Cert.SmallEvenReferenceIdeal.Read in
/-- The reference computes the product. -/
theorem ref_eq (x : S16384x4096.Idx → EReal) (w : S8192x11392.Idx → EReal) : val_main_v5 (F := Ideal) x w = model x w := by
  funext i
  rw [val_main_v5_apply]
  refine sum_eq_entry _ _ _ (fun k => rfl) (fun k => weight_at w _) (fun k => ⟨rfl, rfl⟩) fun k => ?_
  have := k.isLt
  have : (i 1).val < 128 := (i 1).isLt
  constructor <;> dsimp [column] <;> omega

end Cert.SmallEvenIdeal.Layer

end
-- ==== Proof.SmallOdd.lean ====
module

public import proofs.«01_k».proof.Proof.Product
public import proofs.«01_k».proof.Proof.Gen.SmallOddIdeal.Value
public import proofs.«01_k».proof.Proof.Gen.SmallOddReferenceIdeal.Run
public import proofs.«01_k».proof.Proof.Gen.SmallOddReferenceIdeal.Read

/-!
# The gate columns of the input projection of the odd layers

Tiles of 512 rows and the 128 last columns, each the whole product of its rows and columns.
-/

@[expose] public section

set_option maxRecDepth 16384
set_option Elab.async false

noncomputable section

namespace Cert.SmallOddIdeal.Layer

open Cert.SmallOddIdeal Cert.SmallOddIdeal.Gen
open Idealize.ShloMosaic
open Idealize.ShloMosaic.TcCoe
open Cert.Product

/-- An entry of a tile. -/
theorem pay_at (x : Vec Ideal S512x4096 .bf16) (w : Vec Ideal S4096x128 .bf16) (y : S512x128.Idx) :
    k0_pay1 x w y = ∑ k : Fin 4096, x (ix2 (y 0) k) * w (ix2 k (y 1)) := by
  pointwise [k0_pay1]

/-- The column of the packed matrix that a column of the result takes. -/
def column (c : Fin 128) : Fin 10368 := ⟨10240 + c.val, by omega⟩

/-- The result: the rows times the last 128 columns of the second layer's matrix. -/
def model (x : S16384x4096.Idx → EReal) (w : S8192x10368.Idx → EReal) : S16384x128.Idx → EReal := fun i =>
  entry x w 4096 (by norm_num) (i 0) (column (i 1))

/-- Which blocks a grid point takes and leaves. -/
theorem places : ∀ t : Fin cfg0.N, win0_0.index t = ![(grid0.coords t 1).val, 0] ∧ win0_1.index t = ![1, 80 + (grid0.coords t 0).val]
    ∧ win0_2.index t = ![(grid0.coords t 1).val, (grid0.coords t 0).val] :=
  (by decide +kernel : ∀ t : Fin grid0.N, _)

/-- The blocks left cover the result. -/
theorem covers : (cfg0.win 2).Covers := by decide +kernel

/-- The result array ends as the product. -/
theorem arr_eq (m : (ℓ : Loc nD τ sig) → Buf (Elt Ideal) ℓ) (c : Dev nD) :
    (dats m 0 c).arrAt 2 cfg0.N = model (m ((c : Thread nD τ).loc main_arg0)) (m ((c : Thread nD τ).loc main_arg1)) := by
  refine (dats m 0 c).arrAt_eq_of_covers 2 _ covers fun t _ y => ?_
  obtain ⟨e0, e1, e2⟩ := places t
  blk_simp
  rw [after0_2]
  frame_out
  refine (pay_at _ _ y).trans ?_
  refine sum_eq_entry _ (fun k => (win0_0.blk t).view.emb (ix2 (y 0) k)) (fun k => (win0_1.blk t).view.emb (ix2 k (y 1))) (fun k => by blk_simp [iblk])
    (fun k => by blk_simp [iblk]) (fun k => ?_) fun k => ?_
  · constructor <;> blk_simp [e0, e2] <;> simp
  · constructor <;> blk_simp [e1, e2, column] <;> simp <;> omega

open Cert.SmallOddReferenceIdeal.Read in
/-- An entry of the matrix as the reference cuts it out. -/
theorem weight_at (w : S8192x10368.Idx → EReal) (j : SmallOddReferenceIdeal.S4096x128.Idx) :
    val_main_v3 (F := Ideal) w j = w (idx_main_v0 (idx_main_v1 (idx_main_v2 j))) := by
  rw [val_main_v3_apply, val_main_v2_apply, val_main_v1_apply, val_main_v0_apply]
  rfl

open Cert.SmallOddReferenceIdeal.Read in
/-- The reference computes the product. -/
theorem ref_eq (x : S16384x4096.Idx → EReal) (w : S8192x10368.Idx → EReal) : val_main_v5 (F := Ideal) x w = model x w := by
  funext i
  rw [val_main_v5_apply]
  refine sum_eq_entry _ _ _ (fun k => rfl) (fun k => weight_at w _) (fun k => ⟨rfl, rfl⟩) fun k => ?_
  have := k.isLt
  have : (i 1).val < 128 := (i 1).isLt
  constructor <;> dsimp [column] <;> omega

end Cert.SmallOddIdeal.Layer

end
-- ==== Proof.Out.lean ====
module

public import proofs.«01_k».proof.Proof.Product
public import proofs.«01_k».proof.Proof.Gen.OutIdeal.Frame
public import proofs.«01_k».proof.Proof.Gen.OutReferenceIdeal.Run
public import proofs.«01_k».proof.Proof.Gen.OutReferenceIdeal.Read

/-!
# The output projection of the attention blocks

The first call narrows the weights of both layers into one array of rows. The second call forms tiles of 512 rows and 1024
columns, each the whole product of its rows and columns.
-/

@[expose] public section

set_option maxRecDepth 16384
set_option Elab.async false

noncomputable section

namespace Cert.OutIdeal.Layer

open Cert.OutIdeal Cert.OutIdeal.Gen
open Idealize.ShloMosaic
open Idealize.ShloMosaic.TcCoe
open Cert.Product

/-- An entry of a narrowed tile. -/
theorem cast_at (w : Vec Ideal S1x256x4096 .f32) (y : S256x4096.Idx) : k0_pay1 w y = w (ix3 0 (y 0) (y 1)) := by
  pointwise [k0_pay1]

/-- An entry of a tile. -/
theorem pay_at (x : Vec Ideal S512x4096 .bf16) (w : Vec Ideal S4096x1024 .bf16) (y : S512x1024.Idx) :
    k1_pay1 x w y = ∑ k : Fin 4096, x (ix2 (y 0) k) * w (ix2 k (y 1)) := by
  pointwise [k1_pay1]

/-- The result: the mixed rows times the second layer's matrix. -/
def model (x : S16384x4096.Idx → EReal) (w : S2x4096x4096.Idx → EReal) : S16384x4096.Idx → EReal := fun i =>
  entry x (flat w : S8192x4096.Idx → EReal) 4096 (by norm_num) (i 0) (i 1)

/-- Which blocks a grid point of the first call takes and leaves. -/
theorem places0 : ∀ t : Fin cfg0.N, win0_0.index t = ![(grid0.coords t 0).val, (grid0.coords t 1).val, 0]
    ∧ win0_1.index t = ![16 * (grid0.coords t 0).val + (grid0.coords t 1).val, 0] :=
  (by decide +kernel : ∀ t : Fin grid0.N, _)

/-- Which blocks a grid point of the second call takes and leaves. -/
theorem places1 : ∀ t : Fin cfg1.N, win1_0.index t = ![(grid1.coords t 1).val, 0] ∧ win1_1.index t = ![1, (grid1.coords t 0).val]
    ∧ win1_2.index t = ![(grid1.coords t 1).val, (grid1.coords t 0).val] :=
  (by decide +kernel : ∀ t : Fin grid1.N, _)

/-- The blocks left cover the narrowed array. -/
theorem covers0 : (cfg0.win 1).Covers := by decide +kernel

/-- The blocks left cover the result. -/
theorem covers1 : (cfg1.win 2).Covers := by decide +kernel

section Calls

variable (V : (c : Dev nD) → (b : Ref sig .tc) → Buf (Elt Ideal) ((c : Thread nD τ).loc b))

/-- The first call leaves the weights as rows. -/
theorem cast_eq (c : Dev nD) : (dat0 V c).arrAt 1 cfg0.N = flat (V c main_arg1) := by
  refine (dat0 V c).arrAt_eq_of_covers 1 _ covers0 fun t _ y => ?_
  obtain ⟨e0, e1⟩ := places0 t
  blk_simp
  rw [after0_1]
  frame_out
  refine (cast_at _ y).trans (.trans ?_ (flat_eq (V c main_arg1) _ ((win0_0.blk t).view.emb (ix3 0 (y 0) (y 1))) ?_ ?_).symm)
  · blk_simp [iblk0]
  · blk_simp [e0, e1]
    simp
    omega
  · blk_simp [e0, e1]

/-- The second call leaves the product. -/
theorem product_eq (c : Dev nD) : (dat1 V c).arrAt 2 cfg1.N = fun i => entry (V c main_arg0) (V c main_v0) 4096 (by norm_num) (i 0) (i 1) := by
  refine (dat1 V c).arrAt_eq_of_covers 2 _ covers1 fun t _ y => ?_
  obtain ⟨e0, e1, e2⟩ := places1 t
  blk_simp
  rw [after1_2]
  frame_out
  refine (pay_at _ _ y).trans ?_
  refine sum_eq_entry _ (fun k => (win1_0.blk t).view.emb (ix2 (y 0) k)) (fun k => (win1_1.blk t).view.emb (ix2 k (y 1))) (fun k => by blk_simp [iblk1])
    (fun k => by blk_simp [iblk1]) (fun k => ?_) fun k => ?_
  · constructor <;> blk_simp [e0, e2] <;> simp
  · constructor <;> blk_simp [e1, e2] <;> simp

end Calls

/-- The result array ends as the product with the weights as given. -/
theorem arr_eq (m : (ℓ : Loc nD τ sig) → Buf (Elt Ideal) ℓ) (ρ : Dev nD → PrngReg) (c : Dev nD) :
    W2 m ρ c (Proc.devRef .tc main_v1) = model (m ((c : Thread nD τ).loc main_arg0)) (m ((c : Thread nD τ).loc main_arg1)) := by
  refine (W2_arr m ρ c 2).trans ((product_eq (V1 m ρ) c).trans ?_)
  have hx : V1 m ρ c main_arg0 = m ((c : Thread nD τ).loc main_arg0) := W1_args m ρ c main_arg0 (by decide)
  have hw : V1 m ρ c main_v0 = flat (m ((c : Thread nD τ).loc main_arg1)) := (W1_arr m ρ c 1).trans (cast_eq (V0 m ρ) c)
  rw [hx, hw]
  rfl

section Run

open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.Rounds
open Idealize.ShloMosaic.Pipeline (Dat Cfg Window BodyObligation cellOf)

local notation "𝕄" => MT nD τ sig Unit (Elt Ideal) ℕ (UR sig nD τ) ℕ

set_option backward.isDefEq.respectTransparency.types false in
/-- Both calls one after the other: every array that outlives them ends as the second call leaves it. -/
theorem run_arrays (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      ∀ b ∈ Pipeline.ucRefs τ sig, r.2.mem (((c : Thread nD τ)).1, b) = W2 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => h)

end Run

/-- The run ends with the product in the result, and with the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v1) = model (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c _ (mem_uc main_v1 (by decide))).trans (arr_eq m ρ c),
      (h c _ (mem_uc main_arg0 (by decide))).trans (W2_main_arg0 m ρ c),
      (h c _ (mem_uc main_arg1 (by decide))).trans (W2_main_arg1 m ρ c)⟩)
    (run_arrays m ρ)

open Cert.OutReferenceIdeal.Read in
/-- An entry of the matrix as the reference cuts it out. -/
theorem weight_at (w : S2x4096x4096.Idx → EReal) (j : OutReferenceIdeal.S4096x4096.Idx) :
    val_main_v2 (F := Ideal) w j = w (idx_main_v1 (idx_main_v2 j)) := by
  rw [val_main_v2_apply, val_main_v1_apply]

open Cert.OutReferenceIdeal.Read in
/-- The reference computes the product. -/
theorem ref_eq (x : S16384x4096.Idx → EReal) (w : S2x4096x4096.Idx → EReal) : val_main_v4 (F := Ideal) x w = model x w := by
  funext i
  rw [val_main_v4_apply, val_main_v3_apply]
  refine sum_eq_entry_flat _ (l := 1) rfl _ _ (fun k => rfl) (fun k => weight_at w _) (fun k => ⟨rfl, rfl⟩) fun k => ?_
  have := k.isLt
  have : (i 1).val < 4096 := (i 1).isLt
  refine ⟨?_, ?_, ?_⟩ <;> dsimp <;> omega

end Cert.OutIdeal.Layer

end
-- ==== Proof.ExpertsFrame.lean ====
module

public import proofs.«01_k».proof.Proof.Gen.ExpertsIdeal
public import proofs.«01_k».proof.Proof.Gen.ExpertsIdeal.Skeleton
public import proofs.«01_k».proof.Proof.Gen.ExpertsIdeal.Launch
public import Idealize.ShloMosaic.Lib.Pipeline.TableIdle
public import Idealize.ShloMosaic.Lib.Pipeline.Frame
public import Idealize.ShloMosaic.Lib.Pipeline.ValueKit
public import Idealize.ShloMosaic.Lib.Exec
public import Idealize.ShloMosaic.Lib.Affine
public import Idealize.ShloMosaic.Lib.VecWindow

/-!
# The run of the experts' down projection

The call reads two tables from the memory it starts in: the expert of every tile of rows, and how many tiles hold rows. The
run is followed at any tables whose experts lie in range: a tile in use gets the product with its expert's matrix, a tile
beyond gets zeros.
-/

@[expose] public section

set_option maxRecDepth 16384
set_option Elab.async false

noncomputable section

namespace Cert.ExpertsIdeal.Down

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The table of the experts, and the table holding the number of tiles in use. -/
abbrev tbE : Memref sig .tc .smem S136 .i32 := Memref.whole main_arg2
abbrev tbU : Memref sig .tc .smem S1 .i32 := Memref.whole main_arg3

/-- The word a kernel reads from the second table. -/
abbrev uw (T : S1.Idx → Elt F .i32) : Elt F .i32 :=
  View.readAt (Elt F) tbU.view (Rect.unit (s := S1) ![0] S1.size inb_S1_S1_0).toLoadRect T (Shape.Idx.first (numel1_S1.symm ▸ Nat.one_pos))

/-- A tile is in use or beyond those in use, never both. -/
theorem used_or (i : grid0.Coords) (w : BitVec 32) : k0_cond2 i w = 1#1 ↔ ¬ k0_cond1 i w = 1#1 := by
  unfold k0_cond1 k0_cond2
  simp only [Scalar.cmpi, Scalar.extui, IntOp.cmpi]
  generalize BitVec.ofNat 32 (i 0).val = a
  cases h : a.slt w <;> simp [BitVec.sle_eq_not_slt, h]

/-- What a point leaves in the output's staging buffer. -/
def tile (i : grid0.Coords) (w : BitVec 32) (x : S256x1408.Idx → Elt F .bf16) (y : S1408x4096.Idx → Elt F .bf16) : S256x4096.Idx → Elt F .f32 :=
  if k0_cond1 i w = 1#1 then k0_pay1 (F := F) x y else k0_pay2 (F := F)

/-- One store of the whole tile leaves what it stores. -/
theorem read_one (v : View sig .tc .vmem S256x4096 .f32) (f : v.ty.Contents (Elt F)) (x : S256x4096.Idx → Elt F .f32) :
    View.read (Elt F) v (v.writes (Elt F) f [⟨Rect.unit (s := S256x4096) ![0, 0] S256x4096.size inb_S256x4096_S256x4096_0_0, x⟩]) = x := by
  funext y
  have h := View.read_writes_cons_emb v f (Rect.unit (s := S256x4096) ![0, 0] S256x4096.size inb_S256x4096_S256x4096_0_0) x [] y
  have e : (Rect.unit (s := S256x4096) ![0, 0] S256x4096.size inb_S256x4096_S256x4096_0_0).emb y = y := by
    funext a
    refine Fin.ext ?_
    match a with
    | ⟨0, _⟩ => exact (Nat.zero_add _).trans (Nat.one_mul _)
    | ⟨1, _⟩ => exact (Nat.zero_add _).trans (Nat.one_mul _)
  rwa [e] at h

theorem run_used (c : Dev nD) (i : grid0.Coords) (arg3 : Memref sig .tc .vmem S256x1408 .bf16) (harg3 : arg3.IsWhole) (arg4 : Memref sig .tc .vmem S1408x4096 .bf16) (harg4 : arg4.IsWhole) (arg5 : Memref sig .tc .vmem S256x4096 .f32) (harg5 : arg5.IsWhole)
    (T0 : S136.Idx → Elt F .i32) (T1 : S1.Idx → Elt F .i32) (x0 : S256x1408.Idx → Elt F .bf16) (x1 : S1408x4096.Idx → Elt F .bf16)
    (h1 : k0_cond1 i (uw T1) = 1#1) (h2 : ¬ k0_cond2 i (uw T1) = 1#1) (K : PUnit → sProp 𝕄) :
    iprop((arg3.view.loc (c : Thread nD τ) ↦[arg3.view.set]{fullShare} arg3.view.rep x0)
      ∗ (arg4.view.loc (c : Thread nD τ) ↦[arg4.view.set]{fullShare} arg4.view.rep x1)
      ∗ (tbE.view.loc (c : Thread nD τ) ↦{fullShare.right} T0)
      ∗ (tbU.view.loc (c : Thread nD τ) ↦{fullShare.right} T1)
      ∗ (∃ d, owns (c : Thread nD τ) arg5 fullShare d)
      ∗ (iprop((arg3.view.loc (c : Thread nD τ) ↦[arg3.view.set]{fullShare} arg3.view.rep x0)
          ∗ (arg4.view.loc (c : Thread nD τ) ↦[arg4.view.set]{fullShare} arg4.view.rep x1)
          ∗ (tbE.view.loc (c : Thread nD τ) ↦{fullShare.right} T0)
          ∗ (tbU.view.loc (c : Thread nD τ) ↦{fullShare.right} T1)
          ∗ owns (c : Thread nD τ) arg5 fullShare (k0_pay1 (F := F) x0 x1)) -∗ K ⟨⟩))
      ⊢ wp frame (wpE (defs₀ (F := F)) Variants.none c none) Set.univ (cc0_moe_down_sorted i tbE (Memref.isWhole_whole _) tbU (Memref.isWhole_whole _) arg3 harg3 arg4 harg4 arg5 harg5) K := by
  unfold owns
  rw [cc0_moe_down_sorted_eq_skeleton]; unfold cc0_moe_down_sorted_skel
  iintro ⟨H0, H1, HT0, HT1, ⟨%d2, %f2, -, HO⟩, Hk⟩
  have hT0 : tbE.IsWhole := Memref.isWhole_whole _
  have hT1 : tbU.IsWhole := Memref.isWhole_whole _
  sl_exec! (disch := first | (guard_target = k0_cond1 _ _ = _; exact h1) | (guard_target = ¬(k0_cond2 _ _ = _); exact h2))
  sl_step
  iapply Hk
  isplitl [H0]; · iexact H0
  isplitl [H1]; · iexact H1
  isplitl [HT0]; · iexact HT0
  isplitl [HT1]; · iexact HT1
  iexists _
  isplitr; swap
  · iexact HO
  · ipureintro
    delta run_used.sl.HO_1
    refine (read_one _ _ _).trans ?_
    rw [View.readAt_rep_full, View.readAt_rep_full]

theorem run_beyond (c : Dev nD) (i : grid0.Coords) (arg3 : Memref sig .tc .vmem S256x1408 .bf16) (harg3 : arg3.IsWhole) (arg4 : Memref sig .tc .vmem S1408x4096 .bf16) (harg4 : arg4.IsWhole) (arg5 : Memref sig .tc .vmem S256x4096 .f32) (harg5 : arg5.IsWhole)
    (T0 : S136.Idx → Elt F .i32) (T1 : S1.Idx → Elt F .i32) (x0 : S256x1408.Idx → Elt F .bf16) (x1 : S1408x4096.Idx → Elt F .bf16)
    (h1 : ¬ k0_cond1 i (uw T1) = 1#1) (h2 : k0_cond2 i (uw T1) = 1#1) (K : PUnit → sProp 𝕄) :
    iprop((arg3.view.loc (c : Thread nD τ) ↦[arg3.view.set]{fullShare} arg3.view.rep x0)
      ∗ (arg4.view.loc (c : Thread nD τ) ↦[arg4.view.set]{fullShare} arg4.view.rep x1)
      ∗ (tbE.view.loc (c : Thread nD τ) ↦{fullShare.right} T0)
      ∗ (tbU.view.loc (c : Thread nD τ) ↦{fullShare.right} T1)
      ∗ (∃ d, owns (c : Thread nD τ) arg5 fullShare d)
      ∗ (iprop((arg3.view.loc (c : Thread nD τ) ↦[arg3.view.set]{fullShare} arg3.view.rep x0)
          ∗ (arg4.view.loc (c : Thread nD τ) ↦[arg4.view.set]{fullShare} arg4.view.rep x1)
          ∗ (tbE.view.loc (c : Thread nD τ) ↦{fullShare.right} T0)
          ∗ (tbU.view.loc (c : Thread nD τ) ↦{fullShare.right} T1)
          ∗ owns (c : Thread nD τ) arg5 fullShare (k0_pay2 (F := F))) -∗ K ⟨⟩))
      ⊢ wp frame (wpE (defs₀ (F := F)) Variants.none c none) Set.univ (cc0_moe_down_sorted i tbE (Memref.isWhole_whole _) tbU (Memref.isWhole_whole _) arg3 harg3 arg4 harg4 arg5 harg5) K := by
  unfold owns
  rw [cc0_moe_down_sorted_eq_skeleton]; unfold cc0_moe_down_sorted_skel
  iintro ⟨H0, H1, HT0, HT1, ⟨%d2, %f2, -, HO⟩, Hk⟩
  have hT0 : tbE.IsWhole := Memref.isWhole_whole _
  have hT1 : tbU.IsWhole := Memref.isWhole_whole _
  sl_exec! (disch := first | (guard_target = ¬(k0_cond1 _ _ = _); exact h1) | (guard_target = k0_cond2 _ _ = _; exact h2))
  sl_step
  iapply Hk
  isplitl [H0]; · iexact H0
  isplitl [H1]; · iexact H1
  isplitl [HT0]; · iexact HT0
  isplitl [HT1]; · iexact HT1
  iexists _
  isplitr; swap
  · iexact HO
  · ipureintro
    delta run_beyond.sl.HO_1
    exact read_one _ _ _

/-! ## The pipeline at given tables -/

variable (a : (pcfg0 (F := F)).Adm)

abbrev cfgA : Pipeline.Cfg sig Λ₀ := cfg0 (F := F) a

/-- Point `t`'s coordinates. -/
abbrev crd (t : Fin (cfgA a).N) : grid0.Coords := (cfgA a).grid.coords t

abbrev ms_0 (t : Fin (cfgA a).N) : Memref sig .tc .vmem S256x1408 .bf16 := spec0_0.stage ((cfgA a).slots t (0 : Fin 3))
abbrev hs_0 (t : Fin (cfgA a).N) : (ms_0 a t).IsWhole := hstage0_0 (((cfgA a).slots t (0 : Fin 3)).cast nbuf0_0)
abbrev ms_1 (t : Fin (cfgA a).N) : Memref sig .tc .vmem S1408x4096 .bf16 := spec0_1.stage ((cfgA a).slots t (1 : Fin 3))
abbrev hs_1 (t : Fin (cfgA a).N) : (ms_1 a t).IsWhole := hstage0_1 (((cfgA a).slots t (1 : Fin 3)).cast nbuf0_1)
abbrev ms_2 (t : Fin (cfgA a).N) : Memref sig .tc .vmem S256x4096 .f32 := spec0_2.stage ((cfgA a).slots t (2 : Fin 3))
abbrev hs_2 (t : Fin (cfgA a).N) : (ms_2 a t).IsWhole := hstage0_2 (((cfgA a).slots t (2 : Fin 3)).cast nbuf0_2)

variable (m : (ℓ : Loc nD τ sig) → Buf (Elt F) ℓ)

/-- Window `w`'s block at point `t`, read off its array at launch. -/
def iblk (c : Dev nD) (w : Fin (cfgA a).W) (t : Fin (cfgA a).N) : (((cfgA a).win w).xblock (crd a t)).Idx → Elt F ((cfgA a).win w).elt :=
  (((cfgA a).win w).blk t).view.read (Elt F) (m (((cfgA a).win w).arr.view.loc (c : Thread nD τ)))

/-- The proof data of the one pipeline on core `c`. -/
def dats (_ : Fin 1) (c : Dev nD) : Dat τ (Elt F) Unit ℕ (UR sig nD τ) ℕ (cfgA a) c where
  A w := m (((cfgA a).win w).arr.view.loc (c : Thread nD τ))
  after w t := match w with
    | ⟨0, _⟩ => iblk a m c (0 : Fin 3) t
    | ⟨1, _⟩ => iblk a m c (1 : Fin 3) t
    | ⟨2, _⟩ => tile (crd a t) (uw (F := F) (a.1 (1 : Fin 2))) (iblk a m c (0 : Fin 3) t) (iblk a m c (1 : Fin 3) t)
  Φ t := iprop(Pipeline.ΦA spec0 c ∗ Pipeline.ΦT pre0 a.1 c)
  q _ := fullShare
  owed _ := 0

theorem after_0 (c : Dev nD) (t : Fin (cfgA a).N) : (dats a m 0 c).after (0 : Fin 3) t = iblk a m c (0 : Fin 3) t := rfl
theorem after_1 (c : Dev nD) (t : Fin (cfgA a).N) : (dats a m 0 c).after (1 : Fin 3) t = iblk a m c (1 : Fin 3) t := rfl
theorem after_2 (c : Dev nD) (t : Fin (cfgA a).N) : (dats a m 0 c).after (2 : Fin 3) t
    = tile (crd a t) (uw (F := F) (a.1 (1 : Fin 2))) (iblk a m c (0 : Fin 3) t) (iblk a m c (1 : Fin 3) t) := rfl

/-- An input window's staging buffer holds its block. -/
theorem before_0 (c : Dev nD) (t : Fin (cfgA a).N) (d) : (dats a m 0 c).before (0 : Fin 3) t d = iblk a m c (0 : Fin 3) t :=
  ((dats a m 0 c).before_in_eq_fetched (0 : Fin 3) rfl (fun _ => rfl) (fun _ _ _ => rfl) (fun t => by rw [after_0]; unfold Dat.blockOf iblk; rfl) t d).trans
    (by unfold Dat.fetched Dat.blockOf iblk; rfl)
theorem before_1 (c : Dev nD) (t : Fin (cfgA a).N) (d) : (dats a m 0 c).before (1 : Fin 3) t d = iblk a m c (1 : Fin 3) t :=
  ((dats a m 0 c).before_in_eq_fetched (1 : Fin 3) rfl (fun _ => rfl) (fun _ _ _ => rfl) (fun t => by rw [after_1]; unfold Dat.blockOf iblk; rfl) t d).trans
    (by unfold Dat.fetched Dat.blockOf iblk; rfl)

/-- Every point stores the output's staging buffer. -/
theorem busy (t : Fin (cfgA a).N) : (cfgA a).idle (2 : Fin 3) (crd a t) = false := by
  show (!(k0_cond1 (crd a t) (a.1.atD 1 ![0]) == 1#1) && !(k0_cond2 (crd a t) (a.1.atD 1 ![0]) == 1#1)) = false
  have h := used_or (crd a t) (a.1.atD 1 ![0])
  by_cases h1 : k0_cond1 (crd a t) (a.1.atD 1 ![0]) = 1#1
  · simp [h1]
  · simp [h.2 h1]

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg2) ↦{q 0} v 0) ∗ (((c : Thread nD τ).loc main_arg3) ↦{q 1} v 1)) := by
  unfold Pipeline.prefHeld
  rw [show (Finset.univ : Finset (Fin 2)) = insert (0 : Fin 2) {(1 : Fin 2)} from by decide,
    bigSep_insert (by decide), bigSep_singleton]
  rfl

/-- The body at point `t` on its staging memrefs. -/
abbrev bodyAt (t : Fin (cfgA a).N) : Prog (TpuEff nD τ sig (Elt F) Λ₀ .tc) PUnit :=
  cc0_moe_down_sorted (crd a t) tbE (Memref.isWhole_whole _) tbU (Memref.isWhole_whole _) (ms_0 a t) (hs_0 a t) (ms_1 a t) (hs_1 a t) (ms_2 a t) (hs_2 a t)

/-- What one point does to the buffers it holds. -/
theorem point (c : Dev nD) (i : grid0.Coords) (arg3 : Memref sig .tc .vmem S256x1408 .bf16) (harg3 : arg3.IsWhole) (arg4 : Memref sig .tc .vmem S1408x4096 .bf16) (harg4 : arg4.IsWhole) (arg5 : Memref sig .tc .vmem S256x4096 .f32) (harg5 : arg5.IsWhole)
    (T0 : S136.Idx → Elt F .i32) (T1 : S1.Idx → Elt F .i32) (x0 : S256x1408.Idx → Elt F .bf16) (x1 : S1408x4096.Idx → Elt F .bf16) (K : PUnit → sProp 𝕄) :
    iprop((arg3.view.loc (c : Thread nD τ) ↦[arg3.view.set]{fullShare} arg3.view.rep x0)
      ∗ (arg4.view.loc (c : Thread nD τ) ↦[arg4.view.set]{fullShare} arg4.view.rep x1)
      ∗ (tbE.view.loc (c : Thread nD τ) ↦{fullShare.right} T0)
      ∗ (tbU.view.loc (c : Thread nD τ) ↦{fullShare.right} T1)
      ∗ (∃ d, owns (c : Thread nD τ) arg5 fullShare d)
      ∗ (iprop((arg3.view.loc (c : Thread nD τ) ↦[arg3.view.set]{fullShare} arg3.view.rep x0)
          ∗ (arg4.view.loc (c : Thread nD τ) ↦[arg4.view.set]{fullShare} arg4.view.rep x1)
          ∗ (tbE.view.loc (c : Thread nD τ) ↦{fullShare.right} T0)
          ∗ (tbU.view.loc (c : Thread nD τ) ↦{fullShare.right} T1)
          ∗ owns (c : Thread nD τ) arg5 fullShare (tile i (uw (F := F) T1) x0 x1)) -∗ K ⟨⟩))
      ⊢ wp frame (wpE (defs₀ (F := F)) Variants.none c none) Set.univ (cc0_moe_down_sorted i tbE (Memref.isWhole_whole _) tbU (Memref.isWhole_whole _) arg3 harg3 arg4 harg4 arg5 harg5) K := by
  unfold tile
  by_cases h : k0_cond1 i (uw (F := F) T1) = 1#1
  · rw [if_pos h]
    exact run_used c i arg3 harg3 arg4 harg4 arg5 harg5 T0 T1 x0 x1 h (fun h' => (used_or i _).1 h' h) K
  · rw [if_neg h]
    exact run_beyond c i arg3 harg3 arg4 harg4 arg5 harg5 T0 T1 x0 x1 h ((used_or i _).2 h) K

/-- The body obligation at point `t`. -/
theorem sound_body (c : Dev nD) (t : Fin (cfgA a).N) :
    iprop((dats a m 0 c).Φ t.castSucc ∗ (dats a m 0 c).owesAt () t.castSucc
        ∗ (∃ d, owns (c : Thread nD τ) (ms_0 a t) fullShare ((dats a m 0 c).before (0 : Fin 3) t d))
        ∗ (∃ d, owns (c : Thread nD τ) (ms_1 a t) fullShare ((dats a m 0 c).before (1 : Fin 3) t d))
        ∗ (∃ d, owns (c : Thread nD τ) (ms_2 a t) fullShare ((dats a m 0 c).before (2 : Fin 3) t d)))
      ⊢ wp frame (wpE (defs₀ (F := F)) Variants.none c none) Set.univ (bodyAt a t) fun _ =>
          iprop((dats a m 0 c).Φ t.succ ∗ (dats a m 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m 0 c).before w t d))
                  | true => owns (c : Thread nD τ) (((cfgA a).win w).stage ((cfgA a).slots t w)) fullShare ((dats a m 0 c).after w t)
                | false => owns (c : Thread nD τ) (((cfgA a).win w).stage ((cfgA a).slots t w)) fullShare ((dats a m 0 c).after w t)) := by
  rw [bigSep_W0]
  have hb := busy a t
  rewrite [hb]
  simp only [before_0, before_1, after_0, after_1, after_2]
  rewrite [show (dats a m 0 c).Φ t.succ = iprop(Pipeline.ΦA spec0 c ∗ Pipeline.ΦT pre0 a.1 c) from rfl,
    show (dats a m 0 c).Φ t.castSucc = iprop(Pipeline.ΦA spec0 c ∗ Pipeline.ΦT pre0 a.1 c) from rfl,
    show (dats a m 0 c).owesAt () t.succ = (dats a m 0 c).owesAt () t.castSucc from rfl]
  unfold Pipeline.ΦT
  rw [prefHeld_eq]
  iintro ⟨⟨HA, HT0, HT1⟩, Ho, ⟨%d0, H0⟩, ⟨%d1, H1⟩, ⟨%d2, H2⟩⟩
  iapply (point c (crd a t) (ms_0 a t) (hs_0 a t) (ms_1 a t) (hs_1 a t) (ms_2 a t) (hs_2 a t) (a.1 (0 : Fin 2)) (a.1 (1 : Fin 2)) (iblk a m c (0 : Fin 3) t) (iblk a m c (1 : Fin 3) t))
  isplitl [H0]; · iapply rep_of_owns; iexact H0
  isplitl [H1]; · iapply rep_of_owns; iexact H1
  isplitl [HT0]; · iexact HT0
  isplitl [HT1]; · iexact HT1
  isplitl [H2]; · iexists _; iexact H2
  iintro ⟨H0, H1, HT0, HT1, H2⟩
  isplitl [HA HT0 HT1]
  · isplitl [HA]; · iexact HA
    isplitl [HT0]; · iexact HT0
    iexact HT1
  isplitl [Ho]; · iexact Ho
  isplitl [H0]; · iapply owns_of_rep; iexact H0
  isplitl [H1]; · iapply owns_of_rep; iexact H1
  iexact H2

theorem body_obligation (c : Dev nD) : BodyObligation (dats a m 0 c) (defs₀ (F := F)) Variants.none () Set.univ := fun t => by
  rw [bigSep_W0]; exact sound_body a m c t

/-! ## The launch -/

theorem share_eq (c : Dev nD) (w : Fin (cfgA a).W) : (dats a m 0 c).share w = fullShare := by unfold Dat.share; split <;> rfl

/-- The whole run from a memory holding these tables: it terminates, the windows' arrays hold what the proof data compute,
    the tables are unchanged, the counters are zero. -/
theorem run_main (ha : ∀ (c : Dev nD) (k : Fin 2), m ((c : Thread nD τ).loc (pre0.ref k)) = a.1 k) (ρ : Dev nD → PrngReg) :
    θ_run (defs (F := F)) (onTc (τ := τ) (main (F := F))) ⟨m, fun _ => 0, ρ⟩
      (fun r => (∀ c : Dev nD,
        r.2.mem ((c.tc : Thread nD τ).loc main_v0) = (dats a m 0 c).arrAt (2 : Fin 3) (cfgA a).N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
        ∧ r.2.sem = fun _ => 0) :=
  Pipeline.θ_run_frameP (pcfgs (F := F)) (fun _ => a) (dats a m) (0 : Fin 1) launch0 (defs₀ (F := F)) Variants.none m ρ main
    (hbody := fun c => (body_obligation a m c).loose) (hshare := share_eq a m) (howed := fun _ _ => rfl)
    (V := fun c b => m ((c : Thread nD τ).loc b))
    (hmain := Pipeline.hmainP_region (pcfgs (F := F)) (0 : Fin 1) (defs₀ (F := F)) Variants.none m main fun _ => rfl)
    (hA := fun c w => by fin_cases w <;> rfl) (hpf := ha) (hΦ := fun _ _ => rfl)
    (Q' := _) (hQ' := fun r h => ⟨fun c => ⟨(h.1 c).1 (2 : Fin 3),
      ((h.1 c).1 (0 : Fin 3)).trans ((dats a m 0 c).arrAt_in (0 : Fin 3) rfl _), ((h.1 c).1 (1 : Fin 3)).trans ((dats a m 0 c).arrAt_in (1 : Fin 3) rfl _),
      (h.1 c).2 main_arg2 (by decide : main_arg2 ∈ Pipeline.restRefs sig spec0), (h.1 c).2 main_arg3 (by decide : main_arg3 ∈ Pipeline.restRefs sig spec0)⟩, h.2⟩)

/-! ## From any memory whose experts lie in range -/

/-- The first table's experts. -/
abbrev experts (pf : pre0.Contents (Elt F)) : S136.Idx → BitVec 32 := pf (0 : Fin 2)

/-- The tile a grid point works on. -/
def tileOf (i : grid0.Coords) : S136.Idx := fun a => match a with
  | ⟨0, _⟩ => ⟨(i 0).val, (i 0).isLt⟩

theorem coord_toNat (i : grid0.Coords) : (BitVec.ofNat 32 (i 0).val).toNat = (i 0).val := by
  have h : (i 0).val < 136 := (i 0).isLt
  rw [BitVec.toNat_ofNat]; exact Nat.mod_eq_of_lt (by omega)

/-- The block of weights a point takes: its tile's expert's matrix of the second layer. -/
theorem matrix_at (pf : pre0.Contents (Elt F)) (i : grid0.Coords) :
    cc0_transform_1 k0_off1_inb numel1_S1 pf i = ![(8#32 + experts pf (tileOf i)).toNat, 0] := by
  unfold cc0_transform_1 Pipeline.Prefetch.Contents.at
  have e : ∀ x, (Rect.unit (s := S136) ![(Scalar.indexCast (BitVec.ofNat 32 (i 0).val) : Index).toNat] S1.size (k0_off1_inb i)).emb x = tileOf i := by
    intro x
    funext a
    refine Fin.ext ?_
    match a with
    | ⟨0, _⟩ =>
      have hx : (x 0).val = 0 := Nat.lt_one_iff.1 (x 0).isLt
      show (BitVec.ofNat 32 (i 0).val).toNat + 1 * (x 0).val = (i 0).val
      rw [hx, coord_toNat]; rfl
  exact congrArg (fun j => ![(8#32 + experts pf j).toNat, 0]) (e _)

theorem matrix_toNat (w : BitVec 32) (h : w.toNat < 8) : (8#32 + w).toNat = 8 + w.toNat := by
  rw [BitVec.toNat_add]; exact Nat.mod_eq_of_lt (by show 8 + w.toNat < _; omega)

theorem ok_of_range (pf : pre0.Contents (Elt F)) (h : ∀ j, (experts pf j).toNat < 8) : ok0 pf := fun i => by
  have hi := h (tileOf i)
  refine ⟨fun a => ?_, .inr (Affine.block_words_dvd (s := S22528x4096) (p := EltTy.packing .bf16) (by decide) (by decide))⟩
  rw [matrix_at]
  match a with
  | ⟨0, _⟩ =>
    show ((8#32 + experts pf (tileOf i)).toNat + 1) * 1408 ≤ 22528
    rw [matrix_toNat _ hi]; omega
  | ⟨1, _⟩ => exact (by decide : (0 + 1) * 4096 ≤ 4096)

/-- The tables a memory holds. -/
def tables : pre0.Contents (Elt F) := fun k => m (((0 : Dev nD) : Thread nD τ).loc (pre0.ref k))

/-- A memory's experts lie in range. -/
abbrev InRange : Prop := ∀ j : S136.Idx, BitVec.toNat (m (((0 : Dev nD) : Thread nD τ).loc main_arg2) j) < 8

variable {m}

/-- The tables of such a memory, as the call takes them. -/
abbrev admOf (h : InRange m) : (pcfg0 (F := F)).Adm := ⟨tables m, ok_of_range _ h⟩

theorem tables_eq (h : InRange m) (c : Dev nD) (k : Fin 2) : m ((c : Thread nD τ).loc (pre0.ref k)) = (admOf h).1 k := by
  rw [Subsingleton.elim c 0]; rfl

/-- From such a memory the program runs and leaves its arguments as they were and every counter at zero. -/
theorem run_frame (h : InRange m) (ρ : Dev nD → PrngReg) :
    θ_run (defs (F := F)) (onTc (τ := τ) (main (F := F))) ⟨m, fun _ => 0, ρ⟩
      (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
        ∧ r.2.sem = fun _ => 0) :=
  (θ_run defs _ _).mono (fun r h => ⟨fun c => (h.1 c).2, h.2⟩) (run_main (admOf h) m (tables_eq h) ρ)

end Cert.ExpertsIdeal.Down

end
-- ==== Proof.Experts.lean ====
module

public import proofs.«01_k».proof.Proof.Product
public import proofs.«01_k».proof.Proof.ExpertsFrame
public import proofs.«01_k».proof.Proof.Gen.ExpertsReferenceIdeal.Run
public import proofs.«01_k».proof.Proof.Gen.ExpertsReferenceIdeal.Read

/-!
# The experts' down projection

Tiles of 256 rows, each the product with the matrix of its tile's expert, or zero beyond the tiles in use.
-/

@[expose] public section

set_option maxRecDepth 16384
set_option Elab.async false

noncomputable section

namespace Cert.ExpertsIdeal.Down

open Cert.ExpertsIdeal Cert.ExpertsIdeal.Gen
open Idealize.ShloMosaic
open Idealize.ShloMosaic.TcCoe
open Cert.Product Idealize.SL.Sem

/-- The tile a row lies in. -/
def tileAt (r : Fin 34816) : S136.Idx := fun a => match a with
  | ⟨0, _⟩ => ⟨r.val / 256, by have := r.isLt; show r.val / 256 < 136; omega⟩

/-- The one place of the second table. -/
def one : S1.Idx := fun a => match a with
  | ⟨0, _⟩ => ⟨0, Nat.one_pos⟩

instance : Subsingleton S1.Idx := ⟨fun a b => funext fun i => Fin.ext (by
  match i with
  | ⟨0, _⟩ =>
    have ha : (a 0).val < 1 := (a 0).isLt
    have hb : (b 0).val < 1 := (b 0).isLt
    show (a 0).val = (b 0).val
    omega)⟩

/-- A row is in use when its tile comes before the number of tiles in use. -/
def inUse (n : S1.Idx → BitVec 32) (r : Fin 34816) : Bool := (BitVec.ofNat 32 (r.val / 256)).slt (n one)

/-- Row `r` times column `j` of expert `e`'s matrix of the second layer. -/
def through (x : S34816x1408.Idx → EReal) (w : S22528x4096.Idx → EReal) (e : ℕ) (r : Fin 34816) (j : Fin 4096) : EReal :=
  entry x w ((8 + e % 8) * 1408) (by omega) r j

/-- The result: every row in use times its expert's matrix, and zero elsewhere. -/
def model (x : S34816x1408.Idx → EReal) (w : S22528x4096.Idx → EReal) (te : S136.Idx → BitVec 32) (n : S1.Idx → BitVec 32) : S34816x4096.Idx → EReal := fun i =>
  if inUse n (i 0) then through x w (te (tileAt (i 0))).toNat (i 0) (i 1) else 0

/-! ## The reference -/

open Cert.ExpertsReferenceIdeal.Read in
theorem expert_at (te : S136.Idx → BitVec 32) (i : ExpertsReferenceIdeal.S34816x8.Idx) :
    val_main_v17 (F := Ideal) te i = te (tileAt (i 0)) := by
  rw [val_main_v17_apply, val_main_v14_apply, val_main_v6_apply, val_main_v5_apply, val_main_v4_apply]
  refine congrArg te (funext fun a => ?_)
  match a with
  | ⟨0, _⟩ => rfl

open Cert.ExpertsReferenceIdeal.Read in
theorem number_at (i : ExpertsReferenceIdeal.S34816x8.Idx) : val_main_v18 (F := Ideal) i = BitVec.ofNat 32 (i 1).val := by
  rw [val_main_v18_apply, val_main_v16_apply]
  rfl

open Cert.ExpertsReferenceIdeal.Read in
theorem use_at (n : S1.Idx → BitVec 32) (i : ExpertsReferenceIdeal.S34816x8.Idx) :
    val_main_v21 (F := Ideal) n i = IntOp.cmpi .slt (BitVec.ofNat 32 ((i 0).val / 256)) (n one) := by
  rw [val_main_v21_apply, val_main_v20_apply, val_main_v13_apply, val_main_v10_apply, val_main_v9_apply, val_main_v8_apply, val_main_v12_apply]
  refine congrArg₂ (IntOp.cmpi .slt) rfl ?_
  unfold val_main_v11
  exact congrArg n (Subsingleton.elim _ _)

open Cert.ExpertsReferenceIdeal.Read in
theorem weight_at (w : S22528x4096.Idx → EReal) (j : ExpertsReferenceIdeal.S8x1408x4096.Idx) :
    val_main_v3 (F := Ideal) w j = w (idx_main_v0 (idx_main_v1 (idx_main_v2 j))) := by
  rw [val_main_v3_apply, val_main_v2_apply, val_main_v1_apply, val_main_v0_apply]
  rfl

open Cert.ExpertsReferenceIdeal.Read in
theorem product_at (x : S34816x1408.Idx → EReal) (w : S22528x4096.Idx → EReal) (i : ExpertsReferenceIdeal.S34816x8x4096.Idx) :
    val_main_v24 (F := Ideal) x w i = through x w (i 1).val (i 0) (i 2) := by
  have h1 : (i 1).val < 8 := (i 1).isLt
  have h2 : (i 2).val < 4096 := (i 2).isLt
  rw [val_main_v24_apply]
  refine sum_eq_entry _ _ _ (fun k => rfl) (fun k => weight_at w _) (fun k => ⟨rfl, rfl⟩) fun k => ?_
  have := k.isLt
  constructor <;> dsimp <;> omega

/-- The zero pattern is zero. -/
theorem zero_word : (FloatOps.ofBits (F := Ideal) .f32 0x00000000#32 : EReal) = 0 := by
  show Ideal.ofBits .f32 0x00000000#32 = 0
  simp [Ideal.ofBits, Ideal.ieee]

/-- The choice of one expert's row: the entry where the tile's expert is the one and the row is in use, zero elsewhere. -/
theorem select_eq (e w : BitVec 32) (k : ℕ) (hk : k < 2 ^ 32) (n : BitVec 32) (v : EReal) :
    (Scalar.select (IntOp.andi (IntOp.cmpi .eq e (BitVec.ofNat 32 k)) (IntOp.cmpi .slt w n)) v (FloatOps.ofBits (F := Ideal) .f32 0x00000000#32 : EReal) : EReal)
      = if e.toNat = k ∧ w.slt n = true then v else 0 := by
  rw [zero_word]
  have hek : e = BitVec.ofNat 32 k ↔ e.toNat = k := by
    constructor
    · rintro rfl
      rw [BitVec.toNat_ofNat]; exact Nat.mod_eq_of_lt hk
    · rintro rfl
      simp
  refine if_congr (Iff.trans ?_ (and_congr_left' hek)) rfl rfl
  generalize BitVec.ofNat 32 k = d
  unfold IntOp.andi IntOp.cmpi
  by_cases h1 : e = d
  · cases h2 : w.slt n <;> simp [h1, h2]
  · have hb : (e == d) = false := beq_eq_false_iff_ne.2 h1
    cases h2 : w.slt n <;> simp [h1, h2, hb]

open Cert.ExpertsReferenceIdeal.Read in
/-- The reference computes the model. -/
theorem ref_eq (x : S34816x1408.Idx → EReal) (w : S22528x4096.Idx → EReal) (te : S136.Idx → BitVec 32) (n : S1.Idx → BitVec 32)
    (h : ∀ j, (te j).toNat < 8) : val_main_v27 (F := Ideal) x w te n = model x w te n := by
  funext i
  have term : ∀ k : Fin 8, val_main_v26 (F := Ideal) x w te n (idx_main_v27 i k)
      = if (te (tileAt (i 0))).toNat = k.val ∧ inUse n (i 0) then through x w k.val (i 0) (i 1) else 0 := fun k => by
    rw [val_main_v26_apply, val_main_call0_v1_apply, val_main_v25_apply, val_main_v22_apply, val_main_v19_apply, expert_at, number_at, use_at, product_at,
      val_main_call0_v2_apply, val_main_call0_v0_apply, val_main_cst_apply]
    exact select_eq _ _ k.val (by have := k.isLt; omega) _ _
  have he := h (tileAt (i 0))
  rw [val_main_v27_apply, Finset.sum_congr rfl fun k _ => term k, val_main_cst_0_apply]
  refine (congrArg (· + _) zero_word).trans ((zero_add _).trans ?_)
  unfold model
  by_cases hu : inUse n (i 0)
  · rw [if_pos hu, Finset.sum_eq_single (⟨(te (tileAt (i 0))).toNat, he⟩ : Fin 8)]
    · rw [if_pos ⟨rfl, hu⟩]
    · exact fun k _ hk => if_neg fun hn => hk (Fin.ext hn.1.symm)
    · exact fun hn => absurd (Finset.mem_univ _) hn
  · rw [if_neg hu]
    exact Finset.sum_eq_zero fun k _ => if_neg fun hn => hu hn.2

/-! ## The kernel -/

/-- An entry of a tile in use. -/
theorem pay_at (x : Vec Ideal S256x1408 .bf16) (w : Vec Ideal S1408x4096 .bf16) (y : S256x4096.Idx) :
    k0_pay1 (F := Ideal) x w y = ∑ k : Fin 1408, x (ix2 (y 0) k) * w (ix2 k (y 1)) := by
  pointwise [k0_pay1]

/-- An entry of a tile beyond. -/
theorem zero_at (y : S256x4096.Idx) : k0_pay2 (F := Ideal) y = (0 : EReal) := by
  pointwise [k0_pay2]

theorem uw_eq (T : S1.Idx → BitVec 32) : uw (F := Ideal) T = T one := by
  unfold uw View.readAt
  exact congrArg T (Subsingleton.elim _ _)

/-- When a point finds its tile in use. -/
theorem cond_iff (i : grid0.Coords) (w : BitVec 32) : k0_cond1 i w = 1#1 ↔ (BitVec.ofNat 32 (i 0).val).slt w = true := by
  unfold k0_cond1
  simp only [Scalar.cmpi, Scalar.extui, IntOp.cmpi]
  generalize BitVec.ofNat 32 (i 0).val = a
  cases h : a.slt w <;> simp

theorem numbered : ∀ t : Fin grid0.N, (grid0.coords t 0).val = t.val := by decide +kernel

theorem points : grid0.N = 136 := by decide +kernel

/-- Every point writes its tile back. -/
theorem flushes (a : (pcfg0 (F := Ideal)).Adm) (t : Fin (cfgA a).N) : ((cfgA a).win (2 : Fin 3)).flush t = true :=
  (by decide +kernel : ∀ t : Fin grid0.N, Pipeline.Window.flushOf grid0 true cc0_transform_2 t = true) t

variable {m : (ℓ : Loc nD τ sig) → Buf (Elt Ideal) ℓ}

/-- The arguments in the memory at launch. -/
abbrev argX (m : (ℓ : Loc nD τ sig) → Buf (Elt Ideal) ℓ) (c : Dev nD) : S34816x1408.Idx → EReal := m ((c : Thread nD τ).loc main_arg0)
abbrev argW (m : (ℓ : Loc nD τ sig) → Buf (Elt Ideal) ℓ) (c : Dev nD) : S22528x4096.Idx → EReal := m ((c : Thread nD τ).loc main_arg1)
abbrev argE (m : (ℓ : Loc nD τ sig) → Buf (Elt Ideal) ℓ) (c : Dev nD) : S136.Idx → BitVec 32 := m ((c : Thread nD τ).loc main_arg2)
abbrev argN (m : (ℓ : Loc nD τ sig) → Buf (Elt Ideal) ℓ) (c : Dev nD) : S1.Idx → BitVec 32 := m ((c : Thread nD τ).loc main_arg3)

/-- The block of rows at a point: rows `256 t` on. -/
theorem rows_at (h : InRange m) (c : Dev nD) (t : Fin (cfgA (admOf h)).N) (r : Fin 256) (k : Fin 1408) :
    iblk (admOf h) m c (0 : Fin 3) t (ix2 r k) = argX m c (((((cfgA (admOf h)).win (0 : Fin 3)).blk t).view).emb (ix2 r k)) := rfl

theorem weights_at (h : InRange m) (c : Dev nD) (t : Fin (cfgA (admOf h)).N) (k : Fin 1408) (j : Fin 4096) :
    iblk (admOf h) m c (1 : Fin 3) t (ix2 k j) = argW m c (((((cfgA (admOf h)).win (1 : Fin 3)).blk t).view).emb (ix2 k j)) := rfl

theorem rows_index (a : (pcfg0 (F := Ideal)).Adm) (t : Fin (cfgA a).N) : ((cfgA a).win (0 : Fin 3)).index t = ![t.val, 0] := by
  show ![(BitVec.ofNat 32 (grid0.coords t 0).val).toNat, 0] = _
  rw [coord_toNat, numbered]

theorem out_index (a : (pcfg0 (F := Ideal)).Adm) (t : Fin (cfgA a).N) : ((cfgA a).win (2 : Fin 3)).index t = ![t.val, 0] := by
  show ![(BitVec.ofNat 32 (grid0.coords t 0).val).toNat, 0] = _
  rw [coord_toNat, numbered]

theorem weights_index (h : InRange m) (t : Fin (cfgA (admOf h)).N) :
    ((cfgA (admOf h)).win (1 : Fin 3)).index t = ![8 + (argE m 0 (tileOf (grid0.coords t))).toNat, 0] := by
  refine (matrix_at (admOf h).1 (grid0.coords t)).trans ?_
  exact congrArg (fun q => ![q, 0]) (matrix_toNat _ (h _))

/-- The result array ends as the model. -/
theorem arr_eq (h : InRange m) (c : Dev nD) :
    (dats (admOf h) m 0 c).arrAt (2 : Fin 3) (cfgA (admOf h)).N = model (argX m c) (argW m c) (argE m c) (argN m c) := by
  obtain rfl : c = 0 := Subsingleton.elim _ _
  refine (dats (admOf h) m 0 0).arrAt_eq_of_emb (2 : Fin 3) (model (argX m 0) (argW m 0) (argE m 0) (argN m 0)) (fun t ht y => ?_) fun i => ?_
  · have y0 : (y 0).val < 256 := (y 0).isLt
    have ht' : t.val < 136 := points ▸ t.isLt
    refine (congrFun (after_2 (admOf h) m 0 t) _).trans ?_
    have hx : ((cfgA (admOf h)).win (2 : Fin 3)).xinj ((cfgA (admOf h)).grid.coords t) y = ix2 (y 0) (y 1) := by
      funext a
      match a with
      | ⟨0, _⟩ => rfl
      | ⟨1, _⟩ => rfl
    refine (congrArg (tile (F := Ideal) _ _ _ _) hx).trans ?_
    have e0 : ((((cfgA (admOf h)).win (2 : Fin 3)).blk t).view.emb y 0).val = 256 * t.val + (y 0).val := by
      blk_simp
      show ((cfgA (admOf h)).win (2 : Fin 3)).index t (0 : Fin 2) * 256 + (y 0).val = _
      rw [out_index]; dsimp; omega
    have e1 : ((((cfgA (admOf h)).win (2 : Fin 3)).blk t).view.emb y 1).val = (y 1).val := by
      blk_simp
      show ((cfgA (admOf h)).win (2 : Fin 3)).index t (1 : Fin 2) * 4096 + (y 1).val = _
      rw [out_index]; dsimp; omega
    have hd : ((((cfgA (admOf h)).win (2 : Fin 3)).blk t).view.emb y 0).val / 256 = t.val := by rw [e0]; omega
    have hu : k0_cond1 (crd (admOf h) t) (uw (F := Ideal) ((admOf h).1 (1 : Fin 2))) = 1#1
        ↔ inUse (argN m 0) ((((cfgA (admOf h)).win (2 : Fin 3)).blk t).view.emb y 0) := by
      rw [cond_iff]
      have hw : uw (F := Ideal) ((admOf h).1 (1 : Fin 2)) = argN m 0 one := uw_eq _
      refine (Iff.of_eq (congrArg₂ (fun q v => (BitVec.ofNat 32 q).slt v = true) (numbered t) hw)).trans ?_
      unfold inUse
      rw [hd]
    have ht : tileAt ((((cfgA (admOf h)).win (2 : Fin 3)).blk t).view.emb y 0) = tileOf (grid0.coords t) := by
      funext a
      match a with
      | ⟨0, _⟩ => exact Fin.ext (hd.trans (numbered t).symm)
    unfold model tile
    by_cases hc : k0_cond1 (crd (admOf h) t) (uw (F := Ideal) ((admOf h).1 (1 : Fin 2))) = 1#1
    · rw [if_pos hc, if_pos (hu.1 hc)]
      refine (pay_at _ _ _).trans ?_
      have hr := h (tileOf (grid0.coords t))
      refine sum_eq_entry _ _ _ (fun k => rows_at h 0 t (y 0) k) (fun k => weights_at h 0 t k (y 1)) (fun k => ?_) fun k => ?_
      · constructor
        · rw [e0]
          blk_simp
          show ((cfgA (admOf h)).win (0 : Fin 3)).index t (0 : Fin 2) * 256 + (y 0).val = _
          rw [rows_index]; dsimp; omega
        · blk_simp
          show ((cfgA (admOf h)).win (0 : Fin 3)).index t (1 : Fin 2) * 1408 + k.val = _
          rw [rows_index]; dsimp; omega
      · constructor
        · rw [ht, Nat.mod_eq_of_lt hr]
          blk_simp
          show ((cfgA (admOf h)).win (1 : Fin 3)).index t (0 : Fin 2) * 1408 + k.val = _
          rw [weights_index]; rfl
        · rw [e1]
          blk_simp
          show ((cfgA (admOf h)).win (1 : Fin 3)).index t (1 : Fin 2) * 4096 + (y 1).val = _
          rw [weights_index]; dsimp; omega
    · rw [if_neg hc, if_neg fun hn => hc (hu.2 hn)]
      exact zero_at _
  · have h0 : (i 0).val < 34816 := (i 0).isLt
    have h1 : (i 1).val < 4096 := (i 1).isLt
    refine ⟨⟨(i 0).val / 256, by rw [show (cfgA (admOf h)).N = 136 from points]; omega⟩, flushes _ _, ?_⟩
    refine (((cfgA (admOf h)).win (2 : Fin 3)).emb_mem_blk_iff _ i).2 fun a => ?_
    match a with
    | ⟨0, _⟩ =>
      show ((cfgA (admOf h)).win (2 : Fin 3)).index _ (0 : Fin 2) * 256 ≤ (i 0).val ∧ (i 0).val < ((cfgA (admOf h)).win (2 : Fin 3)).index _ (0 : Fin 2) * 256 + 256
      rw [out_index]
      dsimp
      omega
    | ⟨1, _⟩ =>
      show ((cfgA (admOf h)).win (2 : Fin 3)).index _ (1 : Fin 2) * 4096 ≤ (i 1).val ∧ (i 1).val < ((cfgA (admOf h)).win (2 : Fin 3)).index _ (1 : Fin 2) * 4096 + 4096
      rw [out_index]
      dsimp
      omega

/-- The run, with the result as the model. -/
theorem run (h : InRange m) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = model (argX m c) (argW m c) (argE m c) (argN m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r hr c => ⟨(hr.1 c).1.trans (arr_eq h c), (hr.1 c).2⟩) (run_main (admOf h) m (tables_eq h) ρ)

end Cert.ExpertsIdeal.Down

end
-- ==== Proof.PreExperts.lean ====
module

public import proofs.«01_k».proof.Proof.Pre
public import proofs.«01_k».proof.Proof.ExpertsFrame
public import proofs.«01_k».proof.Proof.Gen.Experts

/-!
# The experts' precondition, and the two readings of their call

Every tile's expert is a number from 0 to 7. The program read on bit patterns and the program read on the extended reals are
one program.
-/

@[expose] public section

set_option maxRecDepth 16384
set_option Elab.async false

noncomputable section

namespace Cert.Pre_experts_in_range

open Idealize.ShloMosaic

/-- Between 0 and 8 as a signed number. -/
theorem small_of_signed (x : BitVec 32) (h0 : IntOp.cmpi .sge x 0#32 = 1#1) (h8 : IntOp.cmpi .slt x 8#32 = 1#1) : x.toNat < 8 := by
  have a : (0#32).sle x = true := by
    cases h : (0#32).sle x
    · simp [IntOp.cmpi, h] at h0
    · rfl
  have b : x.slt 8#32 = true := by
    cases h : x.slt 8#32
    · simp [IntOp.cmpi, h] at h8
    · rfl
  rw [BitVec.sle_iff_toInt_le] at a
  rw [BitVec.slt_iff_toInt_lt] at b
  have hx := BitVec.toInt_eq_toNat_cond x
  have := x.isLt
  have z : (0#32).toInt = 0 := by decide
  have e : (8#32).toInt = 8 := by decide
  rw [z] at a
  rw [e] at b
  split at hx <;> omega

variable [Facts] {F : FTy → Type} [FloatOps F]
open Facts

/-- The precondition holds of experts in range only. -/
theorem range_of_fn (x0 : FVec F S34816x1408 .bf16) (x1 : FVec F S22528x4096 .bf16) (x2 : IVec S136 32) (x3 : IVec S1 32)
    (h : fn (F := F) x0 x1 x2 x3 = fun _ => 1#1) (j : S136.Idx) : (x2 j).toNat < 8 := by
  have e := Host.reduce_andi_all _ _ _ _ _ (congrFun h (Shape.Idx.first h_S_)) j
  obtain ⟨a, b⟩ := Cert.Pre_finite_inputs.both_of_and e
  exact small_of_signed _ a b

end Cert.Pre_experts_in_range

namespace Cert.SameExperts

open Idealize.ShloMosaic Idealize.SL.Sem

variable {F : FTy → Type} [FloatOps F]

theorem same_body : (Cert.Experts.cc0_moe_down_sorted (F := F)) = Cert.ExpertsIdeal.cc0_moe_down_sorted (F := F) := rfl

theorem same_bodies : (Cert.Experts.defs₀ (F := F)) = Cert.ExpertsIdeal.defs₀ (F := F) := by
  unfold Cert.Experts.defs₀ Cert.ExpertsIdeal.defs₀
  refine congrArg Defs.onTc (funext fun l => funext fun x => ?_)
  match l, x with
  | ⟨0, _⟩, (t, s) => rfl
  | ⟨n + 1, h⟩, _ => exact absurd h (Nat.not_lt.2 (Nat.le_add_left _ _))

theorem same_defs : (Cert.Experts.defs (F := F)) = Cert.ExpertsIdeal.defs (F := F) := by
  unfold Cert.Experts.defs Cert.ExpertsIdeal.defs
  rw [same_bodies]
  rfl

theorem same_main : (Cert.Experts.main (F := F)) = Cert.ExpertsIdeal.main (F := F) := rfl

end Cert.SameExperts

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.FfnIdeal
public import proofs.«01_k».proof.Proof.Gen.FfnReferenceIdeal
public import proofs.«01_k».proof.Proof.Gen.Ffn.Frame
public import proofs.«01_k».proof.Proof.Gen.FfnIdeal.Frame
public import proofs.«01_k».proof.Proof.Gen.FfnReferenceIdeal.Run
public import proofs.«01_k».proof.Proof.Gen.FfnReferenceIdeal.Read
public import proofs.«01_k».proof.Proof.Gen.Ffn
public import proofs.«01_k».proof.Proof.Gen.PackEvenIdeal
public import proofs.«01_k».proof.Proof.Gen.PackEvenReferenceIdeal
public import proofs.«01_k».proof.Proof.Gen.PackEven.Frame
public import proofs.«01_k».proof.Proof.Gen.PackEvenIdeal.Frame
public import proofs.«01_k».proof.Proof.Gen.PackEvenReferenceIdeal.Run
public import proofs.«01_k».proof.Proof.Gen.PackEvenReferenceIdeal.Read
public import proofs.«01_k».proof.Proof.Gen.PackEven
public import proofs.«01_k».proof.Proof.Gen.PackEvenIdeal.Value
public import proofs.«01_k».proof.Proof.Gen.PackOddIdeal
public import proofs.«01_k».proof.Proof.Gen.PackOddReferenceIdeal
public import proofs.«01_k».proof.Proof.Gen.PackOdd.Frame
public import proofs.«01_k».proof.Proof.Gen.PackOddIdeal.Frame
public import proofs.«01_k».proof.Proof.Gen.PackOddReferenceIdeal.Run
public import proofs.«01_k».proof.Proof.Gen.PackOddReferenceIdeal.Read
public import proofs.«01_k».proof.Proof.Gen.PackOdd
public import proofs.«01_k».proof.Proof.Gen.PackOddIdeal.Value
public import proofs.«01_k».proof.Proof.Gen.InEvenIdeal
public import proofs.«01_k».proof.Proof.Gen.InEvenReferenceIdeal
public import proofs.«01_k».proof.Proof.Gen.InEven.Frame
public import proofs.«01_k».proof.Proof.Gen.InEvenIdeal.Frame
public import proofs.«01_k».proof.Proof.Gen.InEvenReferenceIdeal.Run
public import proofs.«01_k».proof.Proof.Gen.InEvenReferenceIdeal.Read
public import proofs.«01_k».proof.Proof.Gen.InEven
public import proofs.«01_k».proof.Proof.Gen.InEvenIdeal.Value
public import proofs.«01_k».proof.Proof.Gen.InOddIdeal
public import proofs.«01_k».proof.Proof.Gen.InOddReferenceIdeal
public import proofs.«01_k».proof.Proof.Gen.InOdd.Frame
public import proofs.«01_k».proof.Proof.Gen.InOddIdeal.Frame
public import proofs.«01_k».proof.Proof.Gen.InOddReferenceIdeal.Run
public import proofs.«01_k».proof.Proof.Gen.InOddReferenceIdeal.Read
public import proofs.«01_k».proof.Proof.Gen.InOdd
public import proofs.«01_k».proof.Proof.Gen.InOddIdeal.Value
public import proofs.«01_k».proof.Proof.Gen.SmallEvenIdeal
public import proofs.«01_k».proof.Proof.Gen.SmallEvenReferenceIdeal
public import proofs.«01_k».proof.Proof.Gen.SmallEven.Frame
public import proofs.«01_k».proof.Proof.Gen.SmallEvenIdeal.Frame
public import proofs.«01_k».proof.Proof.Gen.SmallEvenReferenceIdeal.Run
public import proofs.«01_k».proof.Proof.Gen.SmallEvenReferenceIdeal.Read
public import proofs.«01_k».proof.Proof.Gen.SmallEven
public import proofs.«01_k».proof.Proof.Gen.SmallEvenIdeal.Value
public import proofs.«01_k».proof.Proof.Gen.SmallOddIdeal
public import proofs.«01_k».proof.Proof.Gen.SmallOddReferenceIdeal
public import proofs.«01_k».proof.Proof.Gen.SmallOdd.Frame
public import proofs.«01_k».proof.Proof.Gen.SmallOddIdeal.Frame
public import proofs.«01_k».proof.Proof.Gen.SmallOddReferenceIdeal.Run
public import proofs.«01_k».proof.Proof.Gen.SmallOddReferenceIdeal.Read
public import proofs.«01_k».proof.Proof.Gen.SmallOdd
public import proofs.«01_k».proof.Proof.Gen.SmallOddIdeal.Value
public import proofs.«01_k».proof.Proof.Gen.OutIdeal
public import proofs.«01_k».proof.Proof.Gen.OutReferenceIdeal
public import proofs.«01_k».proof.Proof.Gen.Out.Frame
public import proofs.«01_k».proof.Proof.Gen.OutIdeal.Frame
public import proofs.«01_k».proof.Proof.Gen.OutReferenceIdeal.Run
public import proofs.«01_k».proof.Proof.Gen.OutReferenceIdeal.Read
public import proofs.«01_k».proof.Proof.Gen.Out
public import proofs.«01_k».proof.Proof.Gen.Experts
public import proofs.«01_k».proof.Proof.Gen.ExpertsIdeal
public import proofs.«01_k».proof.Proof.Gen.ExpertsReferenceIdeal.Run
public import proofs.«01_k».proof.Proof.Gen.ExpertsReferenceIdeal.Read
public import proofs.«01_k».proof.Proof.Run
public import proofs.«01_k».proof.Proof.Same
public import proofs.«01_k».proof.Proof.Attention
public import proofs.«01_k».proof.Proof.Ref
public import proofs.«01_k».proof.Proof.Pre
public import proofs.«01_k».proof.Proof.Ffn
public import proofs.«01_k».proof.Proof.PackEven
public import proofs.«01_k».proof.Proof.PackOdd
public import proofs.«01_k».proof.Proof.InEven
public import proofs.«01_k».proof.Proof.InOdd
public import proofs.«01_k».proof.Proof.SmallEven
public import proofs.«01_k».proof.Proof.SmallOdd
public import proofs.«01_k».proof.Proof.Out
public import proofs.«01_k».proof.Proof.Experts
public import proofs.«01_k».proof.Proof.PreExperts
public import proofs.«01_k».proof.Proof.Gen.Pre_finite_inputs
public import proofs.«01_k».proof.Proof.Gen.Pre_experts_in_range
public import Idealize.ShloMosaic.Adequacy
public import Idealize.ShloMosaic.Init

@[expose] public section

noncomputable section

namespace Cert.Proof

open Idealize.ShloMosaic Idealize.SL.Sem Cert.Kernel

/-- The kernel on bit patterns runs, leaves its arguments as they were and every counter at zero. -/
theorem frame_kernel : Cert.quiescent_Kernel := fun m ρ _ => by
  rw [Cert.Same.same_defs, Cert.Same.same_main]
  exact (θ_run Cert.KernelIdeal.defs _ _).mono (fun _ h => h) (Cert.KernelIdeal.Fox.run_frame (F := Bits) m ρ)

/-- The same program on the extended reals. -/
theorem frame_ideal : Cert.quiescent_KernelIdeal := fun m ρ _ => Cert.KernelIdeal.Fox.run_frame (F := Ideal) m ρ

theorem frame_ideal_finite : Cert.quiescent_KernelIdeal_pre_finite_inputs := fun m ρ _ =>
  Cert.KernelIdeal.Fox.run_frame (F := Ideal) m ρ

/-- The reference on the extended reals runs, leaves its arguments as they were and every counter at zero. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

theorem frame_reference_finite : Cert.quiescent_ReferenceIdeal_pre_finite_inputs := fun m ρ _ =>
  frame_reference m ρ trivial

/-- For finite arguments kernel and reference leave the same result: the attention of every row and column. -/
theorem same_result : Cert.algebraic_KernelIdeal_ReferenceIdeal_pre_finite_inputs := fun m g m' g' hpre hargs => by
  have hm : ∀ c, Cert.KernelIdeal.Fox.Finite m c := fun c => Cert.Pre_finite_inputs.real_of_fn _ _ _ _ (hpre c)
  refine ⟨fun c => Cert.KernelIdeal.Fox.model m c,
    (θ_run Cert.KernelIdeal.defs _ _).mono (fun r h c => ⟨(h.1 c 4).trans (Cert.KernelIdeal.Fox.arr_eq (hm c)),
      (h.1 c 0).trans ((Cert.KernelIdeal.Fox.dats m 0 c).arrAt_in (0 : Fin 5) rfl _), (h.1 c 1).trans ((Cert.KernelIdeal.Fox.dats m 0 c).arrAt_in (1 : Fin 5) rfl _),
      (h.1 c 2).trans ((Cert.KernelIdeal.Fox.dats m 0 c).arrAt_in (2 : Fin 5) rfl _), (h.1 c 3).trans ((Cert.KernelIdeal.Fox.dats m 0 c).arrAt_in (3 : Fin 5) rfl _)⟩)
      (Cert.KernelIdeal.Fox.run_main (F := Ideal) m g),
    (θ_run Cert.ReferenceIdeal.defs _ _).mono (fun r h c => ⟨(h c).1.trans ?_, (h c).2⟩) (Cert.ReferenceIdeal.Value.run (F := Ideal) m' g')⟩
  rw [Cert.ReferenceIdeal.Read.val_main_v45_eq]
  refine (congr (congr (congr (congrArg (Cert.ReferenceIdeal.Read.val_main_v45 (F := Ideal)) (hargs c).1) (hargs c).2.1) (hargs c).2.2.1) (hargs c).2.2.2).trans
    (funext fun i => ?_)
  exact Cert.ReferenceIdeal.Fox.ref_at (hm c).1 (hm c).2.1 (hm c).2.2.1 (hm c).2.2.2 i

/-! ## The dense feed-forward layer -/

theorem frame_ref_Ffn : Cert.quiescent_FfnReferenceIdeal := fun m ρ _ =>
  (θ_run Cert.FfnReferenceIdeal.defs _ _).mono (fun r h => ⟨fun c => (h c).2, sem_eq_zero_of_no_sems rfl r.2⟩)
    (Cert.FfnReferenceIdeal.Value.run (F := Ideal) m ρ)

/-- Kernel and reference leave the same layer. -/
theorem same_Ffn : Cert.algebraic_FfnIdeal_FfnReferenceIdeal := fun m g m' g' _ hargs => by
  refine ⟨fun c => Cert.FfnIdeal.Layer.model (m ((c.tc : Thread Cert.FfnIdeal.nD Cert.FfnIdeal.τ).loc Cert.FfnIdeal.main_arg0)) (m ((c.tc : Thread Cert.FfnIdeal.nD Cert.FfnIdeal.τ).loc Cert.FfnIdeal.main_arg1))
      (m ((c.tc : Thread Cert.FfnIdeal.nD Cert.FfnIdeal.τ).loc Cert.FfnIdeal.main_arg2)) (m ((c.tc : Thread Cert.FfnIdeal.nD Cert.FfnIdeal.τ).loc Cert.FfnIdeal.main_arg3)),
    Cert.FfnIdeal.Layer.run m g,
    (θ_run Cert.FfnReferenceIdeal.defs _ _).mono (fun r h c => ⟨(h c).1.trans ?_, (h c).2⟩) (Cert.FfnReferenceIdeal.Value.run (F := Ideal) m' g')⟩
  rw [Cert.FfnReferenceIdeal.Read.val_main_v12_eq]
  exact (congr (congr (congrArg₂ (Cert.FfnReferenceIdeal.Read.val_main_v12 (F := Ideal)) (hargs c).1 (hargs c).2.1) (hargs c).2.2.1) (hargs c).2.2.2).trans
    (Cert.FfnIdeal.Layer.ref_eq _ _ _ _)

/-! ## The packing of the input weights of the even layers -/

theorem frame_ref_PackEven : Cert.quiescent_PackEvenReferenceIdeal := fun m ρ _ =>
  (θ_run Cert.PackEvenReferenceIdeal.defs _ _).mono (fun r h => ⟨fun c => (h c).2, sem_eq_zero_of_no_sems rfl r.2⟩)
    (Cert.PackEvenReferenceIdeal.Value.run (F := Ideal) m ρ)

/-- Kernel and reference leave the same packed matrices. -/
theorem same_PackEven : Cert.algebraic_PackEvenIdeal_PackEvenReferenceIdeal := fun m g m' g' _ hargs => by
  refine ⟨fun c => Cert.PackEvenIdeal.Layer.model (m ((c.tc : Thread Cert.PackEvenIdeal.nD Cert.PackEvenIdeal.τ).loc Cert.PackEvenIdeal.main_arg0)),
    (θ_run Cert.PackEvenIdeal.defs _ _).mono (fun r h c => ⟨(h c).1.trans (Cert.PackEvenIdeal.Layer.arr_eq m c), (h c).2⟩) (Cert.PackEvenIdeal.Value.run_blocks m g),
    (θ_run Cert.PackEvenReferenceIdeal.defs _ _).mono (fun r h c => ⟨(h c).1.trans ?_, (h c).2⟩) (Cert.PackEvenReferenceIdeal.Value.run (F := Ideal) m' g')⟩
  rw [Cert.PackEvenReferenceIdeal.Read.val_main_v7_eq]
  exact (congrArg (Cert.PackEvenReferenceIdeal.Read.val_main_v7 (F := Ideal)) (hargs c)).trans (Cert.PackEvenIdeal.Layer.ref_eq _)

/-! ## The packing of the input weights of the odd layers -/

theorem frame_ref_PackOdd : Cert.quiescent_PackOddReferenceIdeal := fun m ρ _ =>
  (θ_run Cert.PackOddReferenceIdeal.defs _ _).mono (fun r h => ⟨fun c => (h c).2, sem_eq_zero_of_no_sems rfl r.2⟩)
    (Cert.PackOddReferenceIdeal.Value.run (F := Ideal) m ρ)

/-- Kernel and reference leave the same packed matrices. -/
theorem same_PackOdd : Cert.algebraic_PackOddIdeal_PackOddReferenceIdeal := fun m g m' g' _ hargs => by
  refine ⟨fun c => Cert.PackOddIdeal.Layer.model (m ((c.tc : Thread Cert.PackOddIdeal.nD Cert.PackOddIdeal.τ).loc Cert.PackOddIdeal.main_arg0)),
    (θ_run Cert.PackOddIdeal.defs _ _).mono (fun r h c => ⟨(h c).1.trans (Cert.PackOddIdeal.Layer.arr_eq m c), (h c).2⟩) (Cert.PackOddIdeal.Value.run_blocks m g),
    (θ_run Cert.PackOddReferenceIdeal.defs _ _).mono (fun r h c => ⟨(h c).1.trans ?_, (h c).2⟩) (Cert.PackOddReferenceIdeal.Value.run (F := Ideal) m' g')⟩
  rw [Cert.PackOddReferenceIdeal.Read.val_main_v6_eq]
  exact (congrArg (Cert.PackOddReferenceIdeal.Read.val_main_v6 (F := Ideal)) (hargs c)).trans (Cert.PackOddIdeal.Layer.ref_eq _)

/-! ## The input projection of the even layers -/

theorem frame_ref_InEven : Cert.quiescent_InEvenReferenceIdeal := fun m ρ _ =>
  (θ_run Cert.InEvenReferenceIdeal.defs _ _).mono (fun r h => ⟨fun c => (h c).2, sem_eq_zero_of_no_sems rfl r.2⟩)
    (Cert.InEvenReferenceIdeal.Value.run (F := Ideal) m ρ)

/-- Kernel and reference leave the same product. -/
theorem same_InEven : Cert.algebraic_InEvenIdeal_InEvenReferenceIdeal := fun m g m' g' _ hargs => by
  refine ⟨fun c => Cert.InEvenIdeal.Layer.model (m ((c.tc : Thread Cert.InEvenIdeal.nD Cert.InEvenIdeal.τ).loc Cert.InEvenIdeal.main_arg0)) (m ((c.tc : Thread Cert.InEvenIdeal.nD Cert.InEvenIdeal.τ).loc Cert.InEvenIdeal.main_arg1)),
    (θ_run Cert.InEvenIdeal.defs _ _).mono (fun r h c => ⟨(h c).1.trans (Cert.InEvenIdeal.Layer.arr_eq m c), (h c).2⟩) (Cert.InEvenIdeal.Value.run_blocks m g),
    (θ_run Cert.InEvenReferenceIdeal.defs _ _).mono (fun r h c => ⟨(h c).1.trans ?_, (h c).2⟩) (Cert.InEvenReferenceIdeal.Value.run (F := Ideal) m' g')⟩
  rw [Cert.InEvenReferenceIdeal.Read.val_main_v6_eq]
  exact (congrArg₂ (Cert.InEvenReferenceIdeal.Read.val_main_v6 (F := Ideal)) (hargs c).1 (hargs c).2).trans (Cert.InEvenIdeal.Layer.ref_eq _ _)

/-! ## The input projection of the odd layers -/

theorem frame_ref_InOdd : Cert.quiescent_InOddReferenceIdeal := fun m ρ _ =>
  (θ_run Cert.InOddReferenceIdeal.defs _ _).mono (fun r h => ⟨fun c => (h c).2, sem_eq_zero_of_no_sems rfl r.2⟩)
    (Cert.InOddReferenceIdeal.Value.run (F := Ideal) m ρ)

/-- Kernel and reference leave the same product. -/
theorem same_InOdd : Cert.algebraic_InOddIdeal_InOddReferenceIdeal := fun m g m' g' _ hargs => by
  refine ⟨fun c => Cert.InOddIdeal.Layer.model (m ((c.tc : Thread Cert.InOddIdeal.nD Cert.InOddIdeal.τ).loc Cert.InOddIdeal.main_arg0)) (m ((c.tc : Thread Cert.InOddIdeal.nD Cert.InOddIdeal.τ).loc Cert.InOddIdeal.main_arg1)),
    (θ_run Cert.InOddIdeal.defs _ _).mono (fun r h c => ⟨(h c).1.trans (Cert.InOddIdeal.Layer.arr_eq m c), (h c).2⟩) (Cert.InOddIdeal.Value.run_blocks m g),
    (θ_run Cert.InOddReferenceIdeal.defs _ _).mono (fun r h c => ⟨(h c).1.trans ?_, (h c).2⟩) (Cert.InOddReferenceIdeal.Value.run (F := Ideal) m' g')⟩
  rw [Cert.InOddReferenceIdeal.Read.val_main_v6_eq]
  exact (congrArg₂ (Cert.InOddReferenceIdeal.Read.val_main_v6 (F := Ideal)) (hargs c).1 (hargs c).2).trans (Cert.InOddIdeal.Layer.ref_eq _ _)

/-! ## The gate columns of the even layers -/

theorem frame_ref_SmallEven : Cert.quiescent_SmallEvenReferenceIdeal := fun m ρ _ =>
  (θ_run Cert.SmallEvenReferenceIdeal.defs _ _).mono (fun r h => ⟨fun c => (h c).2, sem_eq_zero_of_no_sems rfl r.2⟩)
    (Cert.SmallEvenReferenceIdeal.Value.run (F := Ideal) m ρ)

/-- Kernel and reference leave the same product. -/
theorem same_SmallEven : Cert.algebraic_SmallEvenIdeal_SmallEvenReferenceIdeal := fun m g m' g' _ hargs => by
  refine ⟨fun c => Cert.SmallEvenIdeal.Layer.model (m ((c.tc : Thread Cert.SmallEvenIdeal.nD Cert.SmallEvenIdeal.τ).loc Cert.SmallEvenIdeal.main_arg0)) (m ((c.tc : Thread Cert.SmallEvenIdeal.nD Cert.SmallEvenIdeal.τ).loc Cert.SmallEvenIdeal.main_arg1)),
    (θ_run Cert.SmallEvenIdeal.defs _ _).mono (fun r h c => ⟨(h c).1.trans (Cert.SmallEvenIdeal.Layer.arr_eq m c), (h c).2⟩) (Cert.SmallEvenIdeal.Value.run_blocks m g),
    (θ_run Cert.SmallEvenReferenceIdeal.defs _ _).mono (fun r h c => ⟨(h c).1.trans ?_, (h c).2⟩) (Cert.SmallEvenReferenceIdeal.Value.run (F := Ideal) m' g')⟩
  rw [Cert.SmallEvenReferenceIdeal.Read.val_main_v5_eq]
  exact (congrArg₂ (Cert.SmallEvenReferenceIdeal.Read.val_main_v5 (F := Ideal)) (hargs c).1 (hargs c).2).trans (Cert.SmallEvenIdeal.Layer.ref_eq _ _)

/-! ## The gate columns of the odd layers -/

theorem frame_ref_SmallOdd : Cert.quiescent_SmallOddReferenceIdeal := fun m ρ _ =>
  (θ_run Cert.SmallOddReferenceIdeal.defs _ _).mono (fun r h => ⟨fun c => (h c).2, sem_eq_zero_of_no_sems rfl r.2⟩)
    (Cert.SmallOddReferenceIdeal.Value.run (F := Ideal) m ρ)

/-- Kernel and reference leave the same product. -/
theorem same_SmallOdd : Cert.algebraic_SmallOddIdeal_SmallOddReferenceIdeal := fun m g m' g' _ hargs => by
  refine ⟨fun c => Cert.SmallOddIdeal.Layer.model (m ((c.tc : Thread Cert.SmallOddIdeal.nD Cert.SmallOddIdeal.τ).loc Cert.SmallOddIdeal.main_arg0)) (m ((c.tc : Thread Cert.SmallOddIdeal.nD Cert.SmallOddIdeal.τ).loc Cert.SmallOddIdeal.main_arg1)),
    (θ_run Cert.SmallOddIdeal.defs _ _).mono (fun r h c => ⟨(h c).1.trans (Cert.SmallOddIdeal.Layer.arr_eq m c), (h c).2⟩) (Cert.SmallOddIdeal.Value.run_blocks m g),
    (θ_run Cert.SmallOddReferenceIdeal.defs _ _).mono (fun r h c => ⟨(h c).1.trans ?_, (h c).2⟩) (Cert.SmallOddReferenceIdeal.Value.run (F := Ideal) m' g')⟩
  rw [Cert.SmallOddReferenceIdeal.Read.val_main_v5_eq]
  exact (congrArg₂ (Cert.SmallOddReferenceIdeal.Read.val_main_v5 (F := Ideal)) (hargs c).1 (hargs c).2).trans (Cert.SmallOddIdeal.Layer.ref_eq _ _)

/-! ## The output projection -/

theorem frame_ref_Out : Cert.quiescent_OutReferenceIdeal := fun m ρ _ =>
  (θ_run Cert.OutReferenceIdeal.defs _ _).mono (fun r h => ⟨fun c => (h c).2, sem_eq_zero_of_no_sems rfl r.2⟩)
    (Cert.OutReferenceIdeal.Value.run (F := Ideal) m ρ)

/-- Kernel and reference leave the same product. -/
theorem same_Out : Cert.algebraic_OutIdeal_OutReferenceIdeal := fun m g m' g' _ hargs => by
  refine ⟨fun c => Cert.OutIdeal.Layer.model (m ((c.tc : Thread Cert.OutIdeal.nD Cert.OutIdeal.τ).loc Cert.OutIdeal.main_arg0)) (m ((c.tc : Thread Cert.OutIdeal.nD Cert.OutIdeal.τ).loc Cert.OutIdeal.main_arg1)),
    Cert.OutIdeal.Layer.run m g,
    (θ_run Cert.OutReferenceIdeal.defs _ _).mono (fun r h c => ⟨(h c).1.trans ?_, (h c).2⟩) (Cert.OutReferenceIdeal.Value.run (F := Ideal) m' g')⟩
  rw [Cert.OutReferenceIdeal.Read.val_main_v4_eq]
  exact (congrArg₂ (Cert.OutReferenceIdeal.Read.val_main_v4 (F := Ideal)) (hargs c).1 (hargs c).2).trans (Cert.OutIdeal.Layer.ref_eq _ _)

/-! ## The experts' down projection -/

/-- The call on bit patterns runs, leaves its arguments as they were and every counter at zero. -/
theorem frame_Experts : Cert.quiescent_Experts := fun m ρ hpre => by
  rw [Cert.SameExperts.same_defs, Cert.SameExperts.same_main]
  exact Cert.ExpertsIdeal.Down.run_frame (F := Bits) (m := m) (Cert.Pre_experts_in_range.range_of_fn _ _ _ _ (hpre 0)) ρ

/-- The same call on the extended reals. -/
theorem frame_ExpertsIdeal : Cert.quiescent_ExpertsIdeal := fun m ρ hpre =>
  Cert.ExpertsIdeal.Down.run_frame (F := Ideal) (m := m) (Cert.Pre_experts_in_range.range_of_fn _ _ _ _ (hpre 0)) ρ

theorem frame_ref_Experts : Cert.quiescent_ExpertsReferenceIdeal := fun m ρ _ =>
  (θ_run Cert.ExpertsReferenceIdeal.defs _ _).mono (fun r h => ⟨fun c => (h c).2, sem_eq_zero_of_no_sems rfl r.2⟩)
    (Cert.ExpertsReferenceIdeal.Value.run (F := Ideal) m ρ)

theorem frame_ref_Experts_range : Cert.quiescent_ExpertsReferenceIdeal_pre_experts_in_range := fun m ρ _ => frame_ref_Experts m ρ trivial

/-- Kernel and reference leave the same product of every row with its expert's matrix. -/
theorem same_Experts : Cert.algebraic_ExpertsIdeal_ExpertsReferenceIdeal := fun m g m' g' hpre hargs => by
  have hr : ∀ c, ∀ j, (Cert.ExpertsIdeal.Down.argE m c j).toNat < 8 := fun c => Cert.Pre_experts_in_range.range_of_fn _ _ _ _ (hpre c)
  refine ⟨fun c => Cert.ExpertsIdeal.Down.model (Cert.ExpertsIdeal.Down.argX m c) (Cert.ExpertsIdeal.Down.argW m c) (Cert.ExpertsIdeal.Down.argE m c) (Cert.ExpertsIdeal.Down.argN m c),
    Cert.ExpertsIdeal.Down.run (m := m) (hr 0) g,
    (θ_run Cert.ExpertsReferenceIdeal.defs _ _).mono (fun r h c => ⟨(h c).1.trans ?_, (h c).2⟩) (Cert.ExpertsReferenceIdeal.Value.run (F := Ideal) m' g')⟩
  rw [Cert.ExpertsReferenceIdeal.Read.val_main_v27_eq]
  obtain ⟨e0, e1, e2, e3⟩ := hargs c
  rw [e0, e1, e2, e3]
  exact Cert.ExpertsIdeal.Down.ref_eq _ _ _ _ (hr c)

theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.PackEven.Gen.facts, Cert.PackEvenIdeal.Gen.facts, Cert.PackEvenReferenceIdeal.Gen.facts,
  Cert.PackOdd.Gen.facts, Cert.PackOddIdeal.Gen.facts, Cert.PackOddReferenceIdeal.Gen.facts,
  Cert.InEven.Gen.facts, Cert.InEvenIdeal.Gen.facts, Cert.InEvenReferenceIdeal.Gen.facts,
  Cert.InOdd.Gen.facts, Cert.InOddIdeal.Gen.facts, Cert.InOddReferenceIdeal.Gen.facts,
  Cert.SmallEven.Gen.facts, Cert.SmallEvenIdeal.Gen.facts, Cert.SmallEvenReferenceIdeal.Gen.facts,
  Cert.SmallOdd.Gen.facts, Cert.SmallOddIdeal.Gen.facts, Cert.SmallOddReferenceIdeal.Gen.facts,
  Cert.Out.Gen.facts, Cert.OutIdeal.Gen.facts, Cert.OutReferenceIdeal.Gen.facts,
  Cert.Experts.Gen.facts, Cert.ExpertsIdeal.Gen.facts, Cert.ExpertsReferenceIdeal.Gen.facts,
  Cert.Pre_finite_inputs.Gen.facts, Cert.Pre_experts_in_range.Gen.facts,
  frame_kernel, frame_ideal, frame_ideal_finite, frame_reference, frame_reference_finite,
  fun m ρ _ => Cert.Ffn.Gen.frame m ρ, fun m ρ _ => Cert.FfnIdeal.Gen.frame m ρ, frame_ref_Ffn,
  fun m ρ _ => Cert.PackEven.Gen.frame m ρ, fun m ρ _ => Cert.PackEvenIdeal.Gen.frame m ρ, frame_ref_PackEven,
  fun m ρ _ => Cert.PackOdd.Gen.frame m ρ, fun m ρ _ => Cert.PackOddIdeal.Gen.frame m ρ, frame_ref_PackOdd,
  fun m ρ _ => Cert.InEven.Gen.frame m ρ, fun m ρ _ => Cert.InEvenIdeal.Gen.frame m ρ, frame_ref_InEven,
  fun m ρ _ => Cert.InOdd.Gen.frame m ρ, fun m ρ _ => Cert.InOddIdeal.Gen.frame m ρ, frame_ref_InOdd,
  fun m ρ _ => Cert.SmallEven.Gen.frame m ρ, fun m ρ _ => Cert.SmallEvenIdeal.Gen.frame m ρ, frame_ref_SmallEven,
  fun m ρ _ => Cert.SmallOdd.Gen.frame m ρ, fun m ρ _ => Cert.SmallOddIdeal.Gen.frame m ρ, frame_ref_SmallOdd,
  fun m ρ _ => Cert.Out.Gen.frame m ρ, fun m ρ _ => Cert.OutIdeal.Gen.frame m ρ, frame_ref_Out,
  frame_Experts, frame_ExpertsIdeal, frame_ref_Experts, frame_ref_Experts_range,
  trivial, same_result, trivial, same_Ffn, trivial, same_PackEven, trivial, same_PackOdd, trivial, same_InEven, trivial, same_InOdd, trivial, same_SmallEven, trivial, same_SmallOdd, trivial, same_Out, trivial, same_Experts⟩

end Cert.Proof

end
